-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_csr [hPre_csr : Cert.Pre_csr.Facts] (m : (ℓ : Loc Cert.KernelIdeal.nD Cert.KernelIdeal.τ Cert.KernelIdeal.sig) → Buf (Elt Ideal) ℓ) : Prop :=
  ∀ c : Dev Cert.KernelIdeal.nD,
    (Cert.Pre_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_csr [hPre_csr : Cert.Pre_csr.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_csr [hKernelIdeal : Cert.KernelIdeal.Facts] [hPre_csr : Cert.Pre_csr.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_csr m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_csr [hReferenceIdeal : Cert.ReferenceIdeal.Facts] [hPre_csr : Cert.Pre_csr.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_csr m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pack.Statement Cert.KernelIdeal.S128x128

def algebraic_KernelIdeal_ReferenceIdeal_pre_csr [hKernelIdeal : Cert.KernelIdeal.Facts] [hReferenceIdeal : Cert.ReferenceIdeal.Facts] [hPre_csr : Cert.Pre_csr.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_csr m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_csr : Cert.Pre_csr.Facts),
    quiescent_Kernel (hKernel := hKernel)
    ∧ quiescent_KernelIdeal (hKernelIdeal := hKernelIdeal)
    ∧ quiescent_KernelIdeal_pre_csr (hKernelIdeal := hKernelIdeal) (hPre_csr := hPre_csr)
    ∧ quiescent_ReferenceIdeal (hReferenceIdeal := hReferenceIdeal)
    ∧ quiescent_ReferenceIdeal_pre_csr (hReferenceIdeal := hReferenceIdeal) (hPre_csr := hPre_csr)
    ∧ preserves_Kernel_KernelIdeal
    ∧ algebraic_KernelIdeal_ReferenceIdeal_pre_csr (hKernelIdeal := hKernelIdeal) (hReferenceIdeal := hReferenceIdeal) (hPre_csr := hPre_csr)
-- ==== Pre_csr.lean ====
abbrev S2x128x32x160 : Shape := ⟨4, ![2, 128, 32, 160]⟩
abbrev S2x32 : Shape := ⟨2, ![2, 32]⟩
abbrev S2x129 : Shape := ⟨2, ![2, 129]⟩
abbrev S2x3072 : Shape := ⟨2, ![2, 3072]⟩
abbrev S3072 : Shape := ⟨1, ![3072]⟩
abbrev S1x3072 : Shape := ⟨2, ![1, 3072]⟩
abbrev S2x1 : Shape := ⟨2, ![2, 1]⟩
abbrev S2x128 : Shape := ⟨2, ![2, 128]⟩
abbrev S2x128x1 : Shape := ⟨3, ![2, 128, 1]⟩
abbrev S1x1x3072 : Shape := ⟨3, ![1, 1, 3072]⟩
abbrev S2x128x3072 : Shape := ⟨3, ![2, 128, 3072]⟩
abbrev S_ : Shape := ⟨0, ![]⟩
abbrev S2 : Shape := ⟨1, ![2]⟩
abbrev S2x3072x1 : Shape := ⟨3, ![2, 3072, 1]⟩
abbrev S2x1x3072 : Shape := ⟨3, ![2, 1, 3072]⟩
abbrev S2x3072x3072 : Shape := ⟨3, ![2, 3072, 3072]⟩
abbrev S1x3072x1 : Shape := ⟨3, ![1, 3072, 1]⟩
abbrev S1x3072x3072 : Shape := ⟨3, ![1, 3072, 3072]⟩

class Facts : Prop where
  bcast_S3072_S1x3072_1 : S3072.BroadcastsInDim S1x3072 (![1] : Fin 1 → Fin S1x3072.rank)
  slices_S2x129_S2x1_0_128 : S2x129.Slices ![0, 128] S2x1
  bcast_S1x3072_S2x3072_0_1 : S1x3072.BroadcastsInDim S2x3072 (![0, 1] : Fin 2 → Fin S2x3072.rank)
  bcast_S2x1_S2x3072_0_1 : S2x1.BroadcastsInDim S2x3072 (![0, 1] : Fin 2 → Fin S2x3072.rank)
  slices_S2x129_S2x128_0_1 : S2x129.Slices ![0, 1] S2x128
  bcast_S2x128_S2x128x1_0_1 : S2x128.BroadcastsInDim S2x128x1 (![0, 1] : Fin 2 → Fin S2x128x1.rank)
  bcast_S3072_S1x1x3072_2 : S3072.BroadcastsInDim S1x1x3072 (![2] : Fin 1 → Fin S1x1x3072.rank)
  bcast_S2x128x1_S2x128x3072_0_1_2 : S2x128x1.BroadcastsInDim S2x128x3072 (![0, 1, 2] : Fin 3 → Fin S2x128x3072.rank)
  bcast_S1x1x3072_S2x128x3072_0_1_2 : S1x1x3072.BroadcastsInDim S2x128x3072 (![0, 1, 2] : Fin 3 → Fin S2x128x3072.rank)
  natLt_1_32 : 1 < 32
  reducesTo_S2x128x3072_S2x3072_d1 : S2x128x3072.ReducesTo [1] S2x3072
  h_S_ : 0 < S_.numel
  slices_S2x129_S2x1_0_0 : S2x129.Slices ![0, 0] S2x1
  shapeCasts_S2x1_S2 : S2x1.ShapeCasts S2
  bcast_S_S2 : S_.BroadcastsInDim S2 (![] : Fin 0 → Fin S2.rank)
  slices_S2x129_S2x128_0_0 : S2x129.Slices ![0, 0] S2x128
  bcast_S_S2x3072 : S_.BroadcastsInDim S2x3072 (![] : Fin 0 → Fin S2x3072.rank)
  bcast_S2x3072_S2x3072x1_0_1 : S2x3072.BroadcastsInDim S2x3072x1 (![0, 1] : Fin 2 → Fin S2x3072x1.rank)
  bcast_S2x3072_S2x1x3072_0_2 : S2x3072.BroadcastsInDim S2x1x3072 (![0, 2] : Fin 2 → Fin S2x1x3072.rank)
  bcast_S2x3072x1_S2x3072x3072_0_1_2 : S2x3072x1.BroadcastsInDim S2x3072x3072 (![0, 1, 2] : Fin 3 → Fin S2x3072x3072.rank)
  bcast_S2x1x3072_S2x3072x3072_0_1_2 : S2x1x3072.BroadcastsInDim S2x3072x3072 (![0, 1, 2] : Fin 3 → Fin S2x3072x3072.rank)
  bcast_S3072_S1x3072x1_1 : S3072.BroadcastsInDim S1x3072x1 (![1] : Fin 1 → Fin S1x3072x1.rank)
  bcast_S1x3072x1_S1x3072x3072_0_1_2 : S1x3072x1.BroadcastsInDim S1x3072x3072 (![0, 1, 2] : Fin 3 → Fin S1x3072x3072.rank)
  bcast_S1x1x3072_S1x3072x3072_0_1_2 : S1x1x3072.BroadcastsInDim S1x3072x3072 (![0, 1, 2] : Fin 3 → Fin S1x3072x3072.rank)
  bcast_S1x3072x3072_S2x3072x3072_0_1_2 : S1x3072x3072.BroadcastsInDim S2x3072x3072 (![0, 1, 2] : Fin 3 → Fin S2x3072x3072.rank)

variable [Facts]

def fn_part2 {F : FTy → Type} [FloatOps F] (main_v5 : IVec S2x3072 1) (main_v17 : IVec S2 1) (main_v20 : IVec S2x128 1) (main_v27 : IVec S2x3072 1) (main_v41 : IVec S2x3072x3072 1) (main_v42 : IVec S1x3072x1 32) (main_v43 : IVec S1x1x3072 32) : IVec S2 1 × IVec S2x128 1 × IVec S2x3072 1 × IVec S2x3072x3072 1 :=
  let main_v44 : IVec S1x3072x3072 32 := broadcastInDim S1x3072x3072 ![0, 1, 2] bcast_S1x3072x1_S1x3072x3072_0_1_2 main_v42
  let main_v45 : IVec S1x3072x3072 32 := broadcastInDim S1x3072x3072 ![0, 1, 2] bcast_S1x1x3072_S1x3072x3072_0_1_2 main_v43
  let main_v46 : IVec S1x3072x3072 1 := cmpi .ne main_v44 main_v45
  let main_v47 : IVec S2x3072x3072 1 := broadcastInDim S2x3072x3072 ![0, 1, 2] bcast_S1x3072x3072_S2x3072x3072_0_1_2 main_v46
  let main_v48 : IVec S2x3072x3072 1 := andi main_v41 main_v47
  let main_v49 : IVec S2x1x3072 1 := broadcastInDim S2x1x3072 ![0, 2] bcast_S2x3072_S2x1x3072_0_2 main_v5
  let main_v50 : IVec S2x3072x3072 1 := broadcastInDim S2x3072x3072 ![0, 1, 2] bcast_S2x1x3072_S2x3072x3072_0_1_2 main_v49
  let main_v51 : IVec S2x3072x3072 1 := andi main_v48 main_v50
  let main_v52 : IVec S2x3072x3072 1 := noti main_v51
  (main_v17, main_v20, main_v27, main_v52)

def fn_part1 {F : FTy → Type} [FloatOps F] (main_arg7 : IVec S2x3072 32) (main_v0 : IVec S3072 32) (main_v5 : IVec S2x3072 1) (main_v13 : IVec S2x3072 32) (main_v17 : IVec S2 1) (main_v20 : IVec S2x128 1) (main_v21 : IVec S2x3072 1) : IVec S2 1 × IVec S2x128 1 × IVec S2x3072 1 × IVec S2x3072x3072 1 :=
  let main_c_1 : IVec S_ 32 := constantI S_ 32 0#32
  let main_v22 : IVec S2x3072 32 := broadcastInDim S2x3072 ![] bcast_S_S2x3072 main_c_1
  let main_v23 : IVec S2x3072 1 := cmpi .sge main_arg7 main_v22
  let main_c_2 : IVec S_ 32 := constantI S_ 32 128#32
  let main_v24 : IVec S2x3072 32 := broadcastInDim S2x3072 ![] bcast_S_S2x3072 main_c_2
  let main_v25 : IVec S2x3072 1 := cmpi .slt main_arg7 main_v24
  let main_v26 : IVec S2x3072 1 := andi main_v23 main_v25
  let main_v27 : IVec S2x3072 1 := ori main_v21 main_v26
  let main_v28 : IVec S2x3072x1 32 := broadcastInDim S2x3072x1 ![0, 1] bcast_S2x3072_S2x3072x1_0_1 main_v13
  let main_v29 : IVec S2x1x3072 32 := broadcastInDim S2x1x3072 ![0, 2] bcast_S2x3072_S2x1x3072_0_2 main_v13
  let main_v30 : IVec S2x3072x3072 32 := broadcastInDim S2x3072x3072 ![0, 1, 2] bcast_S2x3072x1_S2x3072x3072_0_1_2 main_v28
  let main_v31 : IVec S2x3072x3072 32 := broadcastInDim S2x3072x3072 ![0, 1, 2] bcast_S2x1x3072_S2x3072x3072_0_1_2 main_v29
  let main_v32 : IVec S2x3072x3072 1 := cmpi .eq main_v30 main_v31
  let main_v33 : IVec S2x3072x1 32 := broadcastInDim S2x3072x1 ![0, 1] bcast_S2x3072_S2x3072x1_0_1 main_arg7
  let main_v34 : IVec S2x1x3072 32 := broadcastInDim S2x1x3072 ![0, 2] bcast_S2x3072_S2x1x3072_0_2 main_arg7
  let main_v35 : IVec S2x3072x3072 32 := broadcastInDim S2x3072x3072 ![0, 1, 2] bcast_S2x3072x1_S2x3072x3072_0_1_2 main_v33
  let main_v36 : IVec S2x3072x3072 32 := broadcastInDim S2x3072x3072 ![0, 1, 2] bcast_S2x1x3072_S2x3072x3072_0_1_2 main_v34
  let main_v37 : IVec S2x3072x3072 1 := cmpi .eq main_v35 main_v36
  let main_v38 : IVec S2x3072x3072 1 := andi main_v32 main_v37
  let main_v39 : IVec S2x3072x1 1 := broadcastInDim S2x3072x1 ![0, 1] bcast_S2x3072_S2x3072x1_0_1 main_v5
  let main_v40 : IVec S2x3072x3072 1 := broadcastInDim S2x3072x3072 ![0, 1, 2] bcast_S2x3072x1_S2x3072x3072_0_1_2 main_v39
  let main_v41 : IVec S2x3072x3072 1 := andi main_v38 main_v40
  let main_v42 : IVec S1x3072x1 32 := broadcastInDim S1x3072x1 ![1] bcast_S3072_S1x3072x1_1 main_v0
  let main_v43 : IVec S1x1x3072 32 := broadcastInDim S1x1x3072 ![2] bcast_S3072_S1x1x3072_2 main_v0
  fn_part2 (F := F) main_v5 main_v17 main_v20 main_v27 main_v41 main_v42 main_v43

def fn {F : FTy → Type} [FloatOps F] (main_arg0 : FVec F S2x128x32x160 .fp8e4m3) (main_arg1 : FVec F S2x128x32x160 .fp8e4m3) (main_arg2 : FVec F S2x128x32x160 .fp8e4m3) (main_arg3 : FVec F S2x32 .f32) (main_arg4 : FVec F S2x32 .f32) (main_arg5 : FVec F S2x32 .f32) (main_arg6 : IVec S2x129 32) (main_arg7 : IVec S2x3072 32) : IVec S2 1 × IVec S2x128 1 × IVec S2x3072 1 × IVec S2x3072x3072 1 :=
  let main_v0 : IVec S3072 32 := iotaInDim S3072 32 0
  let main_v1 : IVec S1x3072 32 := broadcastInDim S1x3072 ![1] bcast_S3072_S1x3072_1 main_v0
  let main_v2 : IVec S2x1 32 := (extractStridedSlice S2x1 ![0, 128] · slices_S2x129_S2x1_0_128) main_arg6
  let main_v3 : IVec S2x3072 32 := broadcastInDim S2x3072 ![0, 1] bcast_S1x3072_S2x3072_0_1 main_v1
  let main_v4 : IVec S2x3072 32 := broadcastInDim S2x3072 ![0, 1] bcast_S2x1_S2x3072_0_1 main_v2
  let main_v5 : IVec S2x3072 1 := cmpi .slt main_v3 main_v4
  let main_v6 : IVec S2x128 32 := (extractStridedSlice S2x128 ![0, 1] · slices_S2x129_S2x128_0_1) main_arg6
  let main_v7 : IVec S2x128x1 32 := broadcastInDim S2x128x1 ![0, 1] bcast_S2x128_S2x128x1_0_1 main_v6
  let main_v8 : IVec S1x1x3072 32 := broadcastInDim S1x1x3072 ![2] bcast_S3072_S1x1x3072_2 main_v0
  let main_v9 : IVec S2x128x3072 32 := broadcastInDim S2x128x3072 ![0, 1, 2] bcast_S2x128x1_S2x128x3072_0_1_2 main_v7
  let main_v10 : IVec S2x128x3072 32 := broadcastInDim S2x128x3072 ![0, 1, 2] bcast_S1x1x3072_S2x128x3072_0_1_2 main_v8
  let main_v11 : IVec S2x128x3072 1 := cmpi .sle main_v9 main_v10
  let main_v12 : IVec S2x128x3072 32 := (extui 32 · natLt_1_32) main_v11
  let main_c : IVec S_ 32 := constantI S_ 32 0#32
  let main_v13 : IVec S2x3072 32 := (fun x v => Host.reduce IntOp.addi x v reducesTo_S2x128x3072_S2x3072_d1 h_S_) main_v12 main_c
  let main_v14 : IVec S2x1 32 := (extractStridedSlice S2x1 ![0, 0] · slices_S2x129_S2x1_0_0) main_arg6
  let main_v15 : IVec S2 32 := shapeCast S2 main_v14 shapeCasts_S2x1_S2
  let main_c_0 : IVec S_ 32 := constantI S_ 32 0#32
  let main_v16 : IVec S2 32 := broadcastInDim S2 ![] bcast_S_S2 main_c_0
  let main_v17 : IVec S2 1 := cmpi .eq main_v15 main_v16
  let main_v18 : IVec S2x128 32 := (extractStridedSlice S2x128 ![0, 0] · slices_S2x129_S2x128_0_0) main_arg6
  let main_v19 : IVec S2x128 32 := (extractStridedSlice S2x128 ![0, 1] · slices_S2x129_S2x128_0_1) main_arg6
  let main_v20 : IVec S2x128 1 := cmpi .sle main_v18 main_v19
  let main_v21 : IVec S2x3072 1 := noti main_v5
  fn_part1 (F := F) main_arg7 main_v0 main_v5 main_v13 main_v17 main_v20 main_v21
-- ==== Kernel.lean ====
abbrev S2x128x32x160 : Shape := ⟨4, ![2, 128, 32, 160]⟩
abbrev S2x32 : Shape := ⟨2, ![2, 32]⟩
abbrev S2x129 : Shape := ⟨2, ![2, 129]⟩
abbrev S2x3072 : Shape := ⟨2, ![2, 3072]⟩
abbrev S2x32x160x128 : Shape := ⟨4, ![2, 32, 160, 128]⟩
abbrev S2x128x5120 : Shape := ⟨3, ![2, 128, 5120]⟩
abbrev S2x32x3072 : Shape := ⟨3, ![2, 32, 3072]⟩
abbrev S2x32x128 : Shape := ⟨3, ![2, 32, 128]⟩
abbrev S1x32x160x128 : Shape := ⟨4, ![1, 32, 160, 128]⟩
abbrev S1x128x5120 : Shape := ⟨3, ![1, 128, 5120]⟩
abbrev S1x32x3072 : Shape := ⟨3, ![1, 32, 3072]⟩
abbrev S1x32x128 : Shape := ⟨3, ![1, 32, 128]⟩
abbrev S4608x128 : Shape := ⟨2, ![4608, 128]⟩
abbrev S32x3328 : Shape := ⟨2, ![32, 3328]⟩
abbrev S128x128 : Shape := ⟨2, ![128, 128]⟩
abbrev S640x128 : Shape := ⟨2, ![640, 128]⟩
abbrev S24x128 : Shape := ⟨2, ![24, 128]⟩
abbrev S1x128 : Shape := ⟨2, ![1, 128]⟩
abbrev S1x129 : Shape := ⟨2, ![1, 129]⟩
abbrev S2x128 : Shape := ⟨2, ![2, 128]⟩
abbrev S1x1x160x128 : Shape := ⟨4, ![1, 1, 160, 128]⟩
abbrev S160x128 : Shape := ⟨2, ![160, 128]⟩
abbrev S1x1 : Shape := ⟨2, ![1, 1]⟩
abbrev S8x128 : Shape := ⟨2, ![8, 128]⟩
abbrev S128 : Shape := ⟨1, ![128]⟩
abbrev S1x1x128 : Shape := ⟨3, ![1, 1, 128]⟩
abbrev S128x256 : Shape := ⟨2, ![128, 256]⟩
abbrev S256x256 : Shape := ⟨2, ![256, 256]⟩
abbrev S160x256 : Shape := ⟨2, ![160, 256]⟩
abbrev S1x128x128 : Shape := ⟨3, ![1, 128, 128]⟩
abbrev S8x128x1 : Shape := ⟨3, ![8, 128, 1]⟩
abbrev S32x128 : Shape := ⟨2, ![32, 128]⟩
abbrev S2x3072x32 : Shape := ⟨3, ![2, 3072, 32]⟩
abbrev S2x128x32 : Shape := ⟨3, ![2, 128, 32]⟩

abbrev nBuf : Space → Nat
  | .hbm => 16
  | .vmem => 19
  | .smem => 4
  | _ => 0

abbrev bufTy : (tb : Table) → Fin (tcTables nBuf tb) → BufTy
  | .hbm, ⟨0, _⟩ => ⟨S2x128x32x160, .fp8e4m3⟩
  | .hbm, ⟨1, _⟩ => ⟨S2x128x32x160, .fp8e4m3⟩
  | .hbm, ⟨2, _⟩ => ⟨S2x128x32x160, .fp8e4m3⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x129, .i32⟩
  | .hbm, ⟨7, _⟩ => ⟨S2x3072, .i32⟩
  | .hbm, ⟨8, _⟩ => ⟨S2x32x160x128, .fp8e4m3⟩
  | .hbm, ⟨9, _⟩ => ⟨S2x32x160x128, .fp8e4m3⟩
  | .hbm, ⟨10, _⟩ => ⟨S2x32x160x128, .fp8e4m3⟩
  | .hbm, ⟨11, _⟩ => ⟨S2x128x5120, .bf16⟩
  | .hbm, ⟨12, _⟩ => ⟨S2x32x3072, .f32⟩
  | .hbm, ⟨13, _⟩ => ⟨S2x32x128, .f32⟩
  | .hbm, ⟨14, _⟩ => ⟨S2x3072x32, .f32⟩
  | .hbm, ⟨15, _⟩ => ⟨S2x128x32, .f32⟩
  | .local _ .vmem, ⟨0, _⟩ => ⟨S1x32x160x128, .fp8e4m3⟩
  | .local _ .vmem, ⟨1, _⟩ => ⟨S1x32x160x128, .fp8e4m3⟩
  | .local _ .vmem, ⟨2, _⟩ => ⟨S1x32x160x128, .fp8e4m3⟩
  | .local _ .vmem, ⟨3, _⟩ => ⟨S1x32x160x128, .fp8e4m3⟩
  | .local _ .vmem, ⟨4, _⟩ => ⟨S1x32x160x128, .fp8e4m3⟩
  | .local _ .vmem, ⟨5, _⟩ => ⟨S1x32x160x128, .fp8e4m3⟩
  | .local _ .vmem, ⟨6, _⟩ => ⟨S2x129, .i32⟩
  | .local _ .vmem, ⟨7, _⟩ => ⟨S2x3072, .i32⟩
  | .local _ .vmem, ⟨8, _⟩ => ⟨S1x128x5120, .bf16⟩
  | .local _ .vmem, ⟨9, _⟩ => ⟨S1x128x5120, .bf16⟩
  | .local _ .vmem, ⟨10, _⟩ => ⟨S1x32x3072, .f32⟩
  | .local _ .vmem, ⟨11, _⟩ => ⟨S1x32x3072, .f32⟩
  | .local _ .vmem, ⟨12, _⟩ => ⟨S1x32x128, .f32⟩
  | .local _ .vmem, ⟨13, _⟩ => ⟨S1x32x128, .f32⟩
  | .local _ .vmem, ⟨14, _⟩ => ⟨S4608x128, .f32⟩
  | .local _ .vmem, ⟨15, _⟩ => ⟨S32x3328, .f32⟩
  | .local _ .vmem, ⟨16, _⟩ => ⟨S128x128, .f32⟩
  | .local _ .vmem, ⟨17, _⟩ => ⟨S640x128, .f32⟩
  | .local _ .vmem, ⟨18, _⟩ => ⟨S24x128, .i32⟩
  | .local _ .smem, ⟨0, _⟩ => ⟨S2x129, .i32⟩
  | .local _ .smem, ⟨1, _⟩ => ⟨S2x32, .f32⟩
  | .local _ .smem, ⟨2, _⟩ => ⟨S2x32, .f32⟩
  | .local _ .smem, ⟨3, _⟩ => ⟨S2x32, .f32⟩
  | _, _ => ⟨S2x128x32x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev main_v5 : Ref sig .tc := ⟨.hbm, 15, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [BitOps F]

abbrev grid0 : Pipeline.Grid := ⟨1, ![2], ![false]⟩

@[reducible] def k0_t1_loop : Scf.Loop 32 :=
  let c0_i32_77 : BitVec 32 := 0#32
  let c24_i32 : BitVec 32 := 24#32
  let v205 : BitVec 32 := Scalar.addi c0_i32_77 c24_i32
  let c1_i32 : BitVec 32 := 1#32
  ⟨c0_i32_77, v205, c1_i32⟩
def k0_off1 (k0_t1 : Fin k0_t1_loop.trips) : Fin 2 → Nat :=
  let c0_i32_77 : BitVec 32 := 0#32
  let c1_i32 : BitVec 32 := 1#32
  let arg18 : BitVec 32 := Scf.iv c0_i32_77 c1_i32 k0_t1
  let v507 : Index := Scalar.indexCast arg18
  let c0_239 : Index := 0#32
  ![v507.toNat, 0]
@[reducible] def k0_t2_loop : Scf.Loop 32 :=
  let c0_i32_86 : BitVec 32 := 0#32
  let c8_i32 : BitVec 32 := 8#32
  let v215 : BitVec 32 := Scalar.addi c0_i32_86 c8_i32
  let c1_i32_87 : BitVec 32 := 1#32
  ⟨c0_i32_86, v215, c1_i32_87⟩
def k0_off2 (k0_t2 : Fin k0_t2_loop.trips) (c0_i32_239 : BitVec 32) : Fin 4 → Nat :=
  let c0_240 : Index := 0#32
  let c0_i32_86 : BitVec 32 := 0#32
  let c1_i32_87 : BitVec 32 := 1#32
  let arg18 : BitVec 32 := Scf.iv c0_i32_86 c1_i32_87 k0_t2
  let c4_i32 : BitVec 32 := 4#32
  let v507 : BitVec 32 := Scalar.muli arg18 c4_i32
  let v508 : BitVec 32 := Scalar.addi v507 c0_i32_239
  let v509 : Index := Scalar.indexCast v508
  let c0_241 : Index := 0#32
  let c0_242 : Index := 0#32
  ![0, v509.toNat, 0, 0]
def k0_off3 (i : grid0.Coords) (k0_t2 : Fin k0_t2_loop.trips) (c0_i32_239 : BitVec 32) : Fin 2 → Nat :=
  let arg0 : BitVec 32 := BitVec.ofNat 32 (i 0).val
  let v517 : Index := Scalar.indexCast arg0
  let c0_i32_86 : BitVec 32 := 0#32
  let c1_i32_87 : BitVec 32 := 1#32
  let arg18 : BitVec 32 := Scf.iv c0_i32_86 c1_i32_87 k0_t2
  let c4_i32 : BitVec 32 := 4#32
  let v507 : BitVec 32 := Scalar.muli arg18 c4_i32
  let v508 : BitVec 32 := Scalar.addi v507 c0_i32_239
  let v518 : Index := Scalar.indexCast v508
  ![v517.toNat, v518.toNat]
def k0_off4 (k0_t2 : Fin k0_t2_loop.trips) (c0_i32_239 : BitVec 32) (c0_i32_248 : BitVec 32) : Fin 2 → Nat :=
  let c0_i32_86 : BitVec 32 := 0#32
  let c1_i32_87 : BitVec 32 := 1#32
  let arg18 : BitVec 32 := Scf.iv c0_i32_86 c1_i32_87 k0_t2
  let c4_i32 : BitVec 32 := 4#32
  let v507 : BitVec 32 := Scalar.muli arg18 c4_i32
  let v508 : BitVec 32 := Scalar.addi v507 c0_i32_239
  let v528 : BitVec 32 := Scalar.addi v508 c0_i32_248
  let v529 : Index := Scalar.indexCast v528
  let c0_249 : Index := 0#32
  ![v529.toNat, 0]
def k0_off5 (k0_t2 : Fin k0_t2_loop.trips) (c0_i32_239 : BitVec 32) : Fin 3 → Nat :=
  let c0_273 : Index := 0#32
  let c0_i32_86 : BitVec 32 := 0#32
  let c1_i32_87 : BitVec 32 := 1#32
  let arg18 : BitVec 32 := Scf.iv c0_i32_86 c1_i32_87 k0_t2
  let c4_i32 : BitVec 32 := 4#32
  let v507 : BitVec 32 := Scalar.muli arg18 c4_i32
  let v508 : BitVec 32 := Scalar.addi v507 c0_i32_239
  let v639 : Index := Scalar.indexCast v508
  let c0_274 : Index := 0#32
  ![0, v639.toNat, 0]
def k0_mult1 (k0_t2 : Fin k0_t2_loop.trips) : BitVec 32 :=
  let c0_i32_86 : BitVec 32 := 0#32
  let c1_i32_87 : BitVec 32 := 1#32
  let arg18 : BitVec 32 := Scf.iv c0_i32_86 c1_i32_87 k0_t2
  let c640_i32_465 : BitVec 32 := 640#32
  let v1214 : BitVec 32 := Scalar.muli arg18 c640_i32_465
  let c0_i32_466 : BitVec 32 := 0#32
  let v1215 : BitVec 32 := Scalar.addi v1214 c0_i32_466
  v1215
def k0_off6 (k0_t2 : Fin k0_t2_loop.trips) (c0_i32_466 : BitVec 32) : Fin 3 → Nat :=
  let c0_467 : Index := 0#32
  let c0_468 : Index := 0#32
  let c0_i32_86 : BitVec 32 := 0#32
  let c1_i32_87 : BitVec 32 := 1#32
  let arg18 : BitVec 32 := Scf.iv c0_i32_86 c1_i32_87 k0_t2
  let c640_i32_465 : BitVec 32 := 640#32
  let v1214 : BitVec 32 := Scalar.muli arg18 c640_i32_465
  let v1215 : BitVec 32 := Scalar.addi v1214 c0_i32_466
  let v1216 : BitVec 32 := v1215
  let v1217 : Index := Scalar.indexCast v1216
  ![0, 0, v1217.toNat]
def k0_mult2 (k0_t2 : Fin k0_t2_loop.trips) : BitVec 32 :=
  let c0_i32_86 : BitVec 32 := 0#32
  let c1_i32_87 : BitVec 32 := 1#32
  let arg18 : BitVec 32 := Scf.iv c0_i32_86 c1_i32_87 k0_t2
  let c640_i32_471 : BitVec 32 := 640#32
  let v1224 : BitVec 32 := Scalar.muli arg18 c640_i32_471
  let c128_i32_472 : BitVec 32 := 128#32
  let v1225 : BitVec 32 := Scalar.addi v1224 c128_i32_472
  v1225
def k0_mult3 (k0_t2 : Fin k0_t2_loop.trips) : BitVec 32 :=
  let c0_i32_86 : BitVec 32 := 0#32
  let c1_i32_87 : BitVec 32 := 1#32
  let arg18 : BitVec 32 := Scf.iv c0_i32_86 c1_i32_87 k0_t2
  let c640_i32_477 : BitVec 32 := 640#32
  let v1234 : BitVec 32 := Scalar.muli arg18 c640_i32_477
  let c256_i32_478 : BitVec 32 := 256#32
  let v1235 : BitVec 32 := Scalar.addi v1234 c256_i32_478
  v1235
def k0_mult4 (k0_t2 : Fin k0_t2_loop.trips) : BitVec 32 :=
  let c0_i32_86 : BitVec 32 := 0#32
  let c1_i32_87 : BitVec 32 := 1#32
  let arg18 : BitVec 32 := Scf.iv c0_i32_86 c1_i32_87 k0_t2
  let c640_i32_483 : BitVec 32 := 640#32
  let v1244 : BitVec 32 := Scalar.muli arg18 c640_i32_483
  let c384_i32_484 : BitVec 32 := 384#32
  let v1245 : BitVec 32 := Scalar.addi v1244 c384_i32_484
  v1245
def k0_mult5 (k0_t2 : Fin k0_t2_loop.trips) : BitVec 32 :=
  let c0_i32_86 : BitVec 32 := 0#32
  let c1_i32_87 : BitVec 32 := 1#32
  let arg18 : BitVec 32 := Scf.iv c0_i32_86 c1_i32_87 k0_t2
  let c640_i32_489 : BitVec 32 := 640#32
  let v1254 : BitVec 32 := Scalar.muli arg18 c640_i32_489
  let c512_i32_490 : BitVec 32 := 512#32
  let v1255 : BitVec 32 := Scalar.addi v1254 c512_i32_490
  v1255
@[reducible] def k0_t3_loop : Scf.Loop 32 :=
  let c0_i32_89 : BitVec 32 := 0#32
  let c128_i32 : BitVec 32 := 128#32
  let v216 : BitVec 32 := Scalar.addi c0_i32_89 c128_i32
  let c1_i32_90 : BitVec 32 := 1#32
  ⟨c0_i32_89, v216, c1_i32_90⟩
def k0_off7 (i : grid0.Coords) (k0_t3 : Fin k0_t3_loop.trips) : Fin 2 → Nat :=
  let arg0 : BitVec 32 := BitVec.ofNat 32 (i 0).val
  let v507 : Index := Scalar.indexCast arg0
  let c0_i32_89 : BitVec 32 := 0#32
  let c1_i32_90 : BitVec 32 := 1#32
  let arg18 : BitVec 32 := Scf.iv c0_i32_89 c1_i32_90 k0_t3
  let v508 : Index := Scalar.indexCast arg18
  ![v507.toNat, v508.toNat]
def k0_off8 (v509 : BitVec 32) : Fin 2 → Nat :=
  let c7_i32 : BitVec 32 := 7#32
  let v510 : BitVec 32 := Scalar.shrui v509 c7_i32
  let c24_i32_239 : BitVec 32 := 24#32
  let v511 : BitVec 32 := Scalar.minsi v510 c24_i32_239
  let c23_i32 : BitVec 32 := 23#32
  let v513 : BitVec 32 := Scalar.minsi v511 c23_i32
  let v516 : Index := Scalar.indexCast v513
  let c0_242 : Index := 0#32
  ![v516.toNat, 0]

def k0_off9 (v509 : BitVec 32) : Fin 2 → Nat :=
  let c7_i32 : BitVec 32 := 7#32
  let v510 : BitVec 32 := Scalar.shrui v509 c7_i32
  let c24_i32_239 : BitVec 32 := 24#32
  let v511 : BitVec 32 := Scalar.minsi v510 c24_i32_239
  let c1_i32_240 : BitVec 32 := 1#32
  let v514 : BitVec 32 := Scalar.addi v511 c1_i32_240
  let c23_i32_241 : BitVec 32 := 23#32
  let v515 : BitVec 32 := Scalar.minsi v514 c23_i32_241
  let v518 : Index := Scalar.indexCast v515
  let c0_243 : Index := 0#32
  ![v518.toNat, 0]
def k0_mult6 (v509 : BitVec 32) : BitVec 32 :=
  let c7_i32 : BitVec 32 := 7#32
  let v510 : BitVec 32 := Scalar.shrui v509 c7_i32
  let c24_i32_239 : BitVec 32 := 24#32
  let v511 : BitVec 32 := Scalar.minsi v510 c24_i32_239
  let c128_i32_244 : BitVec 32 := 128#32
  let v527 : BitVec 32 := Scalar.muli v511 c128_i32_244
  v527
def k0_mult7 (v509 : BitVec 32) : BitVec 32 :=
  let c7_i32 : BitVec 32 := 7#32
  let v510 : BitVec 32 := Scalar.shrui v509 c7_i32
  let c24_i32_239 : BitVec 32 := 24#32
  let v511 : BitVec 32 := Scalar.minsi v510 c24_i32_239
  let c1_i32_245 : BitVec 32 := 1#32
  let v529 : BitVec 32 := Scalar.addi v511 c1_i32_245
  let c128_i32_246 : BitVec 32 := 128#32
  let v530 : BitVec 32 := Scalar.muli v529 c128_i32_246
  v530
def k0_off10 (k0_t3 : Fin k0_t3_loop.trips) (c0_i32_247 : BitVec 32) : Fin 2 → Nat :=
  let c0_i32_89 : BitVec 32 := 0#32
  let c1_i32_90 : BitVec 32 := 1#32
  let arg18 : BitVec 32 := Scf.iv c0_i32_89 c1_i32_90 k0_t3
  let c36_i32 : BitVec 32 := 36#32
  let v532 : BitVec 32 := Scalar.muli arg18 c36_i32
  let v533 : BitVec 32 := Scalar.addi v532 c0_i32_247
  let v534 : Index := Scalar.indexCast v533
  let c0_248 : Index := 0#32
  ![v534.toNat, 0]
def k0_off11 (v509 : BitVec 32) : Fin 2 → Nat :=
  let c0_251 : Index := 0#32
  let c7_i32 : BitVec 32 := 7#32
  let v510 : BitVec 32 := Scalar.shrui v509 c7_i32
  let c24_i32_239 : BitVec 32 := 24#32
  let v511 : BitVec 32 := Scalar.minsi v510 c24_i32_239
  let c128_i32_244 : BitVec 32 := 128#32
  let v527 : BitVec 32 := Scalar.muli v511 c128_i32_244
  let v528 : BitVec 32 := v527
  let v544 : Index := Scalar.indexCast v528
  ![0, v544.toNat]
def k0_off12 (v509 : BitVec 32) : Fin 2 → Nat :=
  let c0_252 : Index := 0#32
  let c7_i32 : BitVec 32 := 7#32
  let v510 : BitVec 32 := Scalar.shrui v509 c7_i32
  let c24_i32_239 : BitVec 32 := 24#32
  let v511 : BitVec 32 := Scalar.minsi v510 c24_i32_239
  let c1_i32_245 : BitVec 32 := 1#32
  let v529 : BitVec 32 := Scalar.addi v511 c1_i32_245
  let c128_i32_246 : BitVec 32 := 128#32
  let v530 : BitVec 32 := Scalar.muli v529 c128_i32_246
  let v531 : BitVec 32 := v530
  let v549 : Index := Scalar.indexCast v531
  ![0, v549.toNat]
def k0_off13 (v509 : BitVec 32) : Fin 2 → Nat :=
  let c8_258 : Index := 8#32
  let c7_i32 : BitVec 32 := 7#32
  let v510 : BitVec 32 := Scalar.shrui v509 c7_i32
  let c24_i32_239 : BitVec 32 := 24#32
  let v511 : BitVec 32 := Scalar.minsi v510 c24_i32_239
  let c128_i32_244 : BitVec 32 := 128#32
  let v527 : BitVec 32 := Scalar.muli v511 c128_i32_244
  let v528 : BitVec 32 := v527
  let v565 : Index := Scalar.indexCast v528
  ![8, v565.toNat]
def k0_off14 (v509 : BitVec 32) : Fin 2 → Nat :=
  let c8_259 : Index := 8#32
  let c7_i32 : BitVec 32 := 7#32
  let v510 : BitVec 32 := Scalar.shrui v509 c7_i32
  let c24_i32_239 : BitVec 32 := 24#32
  let v511 : BitVec 32 := Scalar.minsi v510 c24_i32_239
  let c1_i32_245 : BitVec 32 := 1#32
  let v529 : BitVec 32 := Scalar.addi v511 c1_i32_245
  let c128_i32_246 : BitVec 32 := 128#32
  let v530 : BitVec 32 := Scalar.muli v529 c128_i32_246
  let v531 : BitVec 32 := v530
  let v570 : Index := Scalar.indexCast v531
  ![8, v570.toNat]
def k0_off15 (v509 : BitVec 32) : Fin 2 → Nat :=
  let c16_264 : Index := 16#32
  let c7_i32 : BitVec 32 := 7#32
  let v510 : BitVec 32 := Scalar.shrui v509 c7_i32
  let c24_i32_239 : BitVec 32 := 24#32
  let v511 : BitVec 32 := Scalar.minsi v510 c24_i32_239
  let c128_i32_244 : BitVec 32 := 128#32
  let v527 : BitVec 32 := Scalar.muli v511 c128_i32_244
  let v528 : BitVec 32 := v527
  let v586 : Index := Scalar.indexCast v528
  ![16, v586.toNat]
def k0_off16 (v509 : BitVec 32) : Fin 2 → Nat :=
  let c16_265 : Index := 16#32
  let c7_i32 : BitVec 32 := 7#32
  let v510 : BitVec 32 := Scalar.shrui v509 c7_i32
  let c24_i32_239 : BitVec 32 := 24#32
  let v511 : BitVec 32 := Scalar.minsi v510 c24_i32_239
  let c1_i32_245 : BitVec 32 := 1#32
  let v529 : BitVec 32 := Scalar.addi v511 c1_i32_245
  let c128_i32_246 : BitVec 32 := 128#32
  let v530 : BitVec 32 := Scalar.muli v529 c128_i32_246
  let v531 : BitVec 32 := v530
  let v591 : Index := Scalar.indexCast v531
  ![16, v591.toNat]
def k0_off17 (v509 : BitVec 32) : Fin 2 → Nat :=
  let c24 : Index := 24#32
  let c7_i32 : BitVec 32 := 7#32
  let v510 : BitVec 32 := Scalar.shrui v509 c7_i32
  let c24_i32_239 : BitVec 32 := 24#32
  let v511 : BitVec 32 := Scalar.minsi v510 c24_i32_239
  let c128_i32_244 : BitVec 32 := 128#32
  let v527 : BitVec 32 := Scalar.muli v511 c128_i32_244
  let v528 : BitVec 32 := v527
  let v607 : Index := Scalar.indexCast v528
  ![24, v607.toNat]
def k0_off18 (v509 : BitVec 32) : Fin 2 → Nat :=
  let c24_271 : Index := 24#32
  let c7_i32 : BitVec 32 := 7#32
  let v510 : BitVec 32 := Scalar.shrui v509 c7_i32
  let c24_i32_239 : BitVec 32 := 24#32
  let v511 : BitVec 32 := Scalar.minsi v510 c24_i32_239
  let c1_i32_245 : BitVec 32 := 1#32
  let v529 : BitVec 32 := Scalar.addi v511 c1_i32_245
  let c128_i32_246 : BitVec 32 := 128#32
  let v530 : BitVec 32 := Scalar.muli v529 c128_i32_246
  let v531 : BitVec 32 := v530
  let v612 : Index := Scalar.indexCast v531
  ![24, v612.toNat]

def k0_chk1 (v509 : BitVec 32) : Prop :=
  (∀ a, (k0_off8 v509) a + S1x128.size a ≤ S24x128.size a) ∧
  (∀ a, (k0_off9 v509) a + S1x128.size a ≤ S24x128.size a) ∧
  (128 ∣ (k0_mult6 v509).toNat) ∧
  (128 ∣ (k0_mult7 v509).toNat) ∧
  (∀ a, (k0_off11 v509) a + S8x128.size a ≤ S32x3328.size a) ∧
  (∀ a, (k0_off12 v509) a + S8x128.size a ≤ S32x3328.size a) ∧
  (∀ a, (k0_off13 v509) a + S8x128.size a ≤ S32x3328.size a) ∧
  (∀ a, (k0_off14 v509) a + S8x128.size a ≤ S32x3328.size a) ∧
  (∀ a, (k0_off15 v509) a + S8x128.size a ≤ S32x3328.size a) ∧
  (∀ a, (k0_off16 v509) a + S8x128.size a ≤ S32x3328.size a) ∧
  (∀ a, (k0_off17 v509) a + S8x128.size a ≤ S32x3328.size a) ∧
  (∀ a, (k0_off18 v509) a + S8x128.size a ≤ S32x3328.size a)
theorem k0_off8_inb : ∀ (v509 : BitVec 32) (k0_hw1 : k0_chk1 v509), ∀ a, (k0_off8 v509) a + S1x128.size a ≤ S24x128.size a := fun v509 k0_hw1 => k0_hw1.1
theorem k0_off9_inb : ∀ (v509 : BitVec 32) (k0_hw1 : k0_chk1 v509), ∀ a, (k0_off9 v509) a + S1x128.size a ≤ S24x128.size a := fun v509 k0_hw1 => k0_hw1.2.1
theorem k0_mult6_dvd : ∀ (v509 : BitVec 32) (k0_hw1 : k0_chk1 v509), 128 ∣ (k0_mult6 v509).toNat := fun v509 k0_hw1 => k0_hw1.2.2.1
theorem k0_mult7_dvd : ∀ (v509 : BitVec 32) (k0_hw1 : k0_chk1 v509), 128 ∣ (k0_mult7 v509).toNat := fun v509 k0_hw1 => k0_hw1.2.2.2.1
theorem k0_off11_inb : ∀ (v509 : BitVec 32) (k0_hw1 : k0_chk1 v509), ∀ a, (k0_off11 v509) a + S8x128.size a ≤ S32x3328.size a := fun v509 k0_hw1 => k0_hw1.2.2.2.2.1
theorem k0_off12_inb : ∀ (v509 : BitVec 32) (k0_hw1 : k0_chk1 v509), ∀ a, (k0_off12 v509) a + S8x128.size a ≤ S32x3328.size a := fun v509 k0_hw1 => k0_hw1.2.2.2.2.2.1
theorem k0_off13_inb : ∀ (v509 : BitVec 32) (k0_hw1 : k0_chk1 v509), ∀ a, (k0_off13 v509) a + S8x128.size a ≤ S32x3328.size a := fun v509 k0_hw1 => k0_hw1.2.2.2.2.2.2.1
theorem k0_off14_inb : ∀ (v509 : BitVec 32) (k0_hw1 : k0_chk1 v509), ∀ a, (k0_off14 v509) a + S8x128.size a ≤ S32x3328.size a := fun v509 k0_hw1 => k0_hw1.2.2.2.2.2.2.2.1
theorem k0_off15_inb : ∀ (v509 : BitVec 32) (k0_hw1 : k0_chk1 v509), ∀ a, (k0_off15 v509) a + S8x128.size a ≤ S32x3328.size a := fun v509 k0_hw1 => k0_hw1.2.2.2.2.2.2.2.2.1
theorem k0_off16_inb : ∀ (v509 : BitVec 32) (k0_hw1 : k0_chk1 v509), ∀ a, (k0_off16 v509) a + S8x128.size a ≤ S32x3328.size a := fun v509 k0_hw1 => k0_hw1.2.2.2.2.2.2.2.2.2.1
theorem k0_off17_inb : ∀ (v509 : BitVec 32) (k0_hw1 : k0_chk1 v509), ∀ a, (k0_off17 v509) a + S8x128.size a ≤ S32x3328.size a := fun v509 k0_hw1 => k0_hw1.2.2.2.2.2.2.2.2.2.2.1
theorem k0_off18_inb : ∀ (v509 : BitVec 32) (k0_hw1 : k0_chk1 v509), ∀ a, (k0_off18 v509) a + S8x128.size a ≤ S32x3328.size a := fun v509 k0_hw1 => k0_hw1.2.2.2.2.2.2.2.2.2.2.2

def k0_off19 (i : grid0.Coords) : Fin 2 → Nat :=
  let arg0 : BitVec 32 := BitVec.ofNat 32 (i 0).val
  let v217 : Index := Scalar.indexCast arg0
  let c128_92 : Index := 128#32
  ![v217.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x129 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x160x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x160x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x160x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x129 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x3072 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x128x5120 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F]
-- ==== ReferenceIdeal.lean ====
abbrev S2x128x32x160 : Shape := ⟨4, ![2, 128, 32, 160]⟩
abbrev S2x32 : Shape := ⟨2, ![2, 32]⟩
abbrev S2x129 : Shape := ⟨2, ![2, 129]⟩
abbrev S2x3072 : Shape := ⟨2, ![2, 3072]⟩
abbrev S3072 : Shape := ⟨1, ![3072]⟩
abbrev S2x128 : Shape := ⟨2, ![2, 128]⟩
abbrev S1x3072 : Shape := ⟨2, ![1, 3072]⟩
abbrev S2x128x1 : Shape := ⟨3, ![2, 128, 1]⟩
abbrev S1x1x3072 : Shape := ⟨3, ![1, 1, 3072]⟩
abbrev S2x128x3072 : Shape := ⟨3, ![2, 128, 3072]⟩
abbrev S_ : Shape := ⟨0, ![]⟩
abbrev S2x1 : Shape := ⟨2, ![2, 1]⟩
abbrev S2 : Shape := ⟨1, ![2]⟩
abbrev S2x3072x1 : Shape := ⟨3, ![2, 3072, 1]⟩
abbrev S2x3072x32x160 : Shape := ⟨4, ![2, 3072, 32, 160]⟩
abbrev S2x3072x32 : Shape := ⟨3, ![2, 3072, 32]⟩
abbrev S2x1x32 : Shape := ⟨3, ![2, 1, 32]⟩
abbrev S3072x32 : Shape := ⟨2, ![3072, 32]⟩
abbrev S2x1x3072 : Shape := ⟨3, ![2, 1, 3072]⟩
abbrev S128 : Shape := ⟨1, ![128]⟩
abbrev S128x1 : Shape := ⟨2, ![128, 1]⟩
abbrev S1x128x1 : Shape := ⟨3, ![1, 128, 1]⟩
abbrev S2x128x3072x1 : Shape := ⟨4, ![2, 128, 3072, 1]⟩
abbrev S2x1x3072x32 : Shape := ⟨4, ![2, 1, 3072, 32]⟩
abbrev S2x128x3072x32 : Shape := ⟨4, ![2, 128, 3072, 32]⟩
abbrev S128x3072x32 : Shape := ⟨3, ![128, 3072, 32]⟩
abbrev S2x128x32 : Shape := ⟨3, ![2, 128, 32]⟩
abbrev S2x128x3072x1x1 : Shape := ⟨5, ![2, 128, 3072, 1, 1]⟩
abbrev S2x3072x32x1 : Shape := ⟨4, ![2, 3072, 32, 1]⟩
abbrev S2x1x3072x32x160 : Shape := ⟨5, ![2, 1, 3072, 32, 160]⟩
abbrev S2x128x3072x32x160 : Shape := ⟨5, ![2, 128, 3072, 32, 160]⟩
abbrev S128x3072x32x160 : Shape := ⟨4, ![128, 3072, 32, 160]⟩
abbrev S2x32x1 : Shape := ⟨3, ![2, 32, 1]⟩
abbrev S2x1x32x1 : Shape := ⟨4, ![2, 1, 32, 1]⟩
abbrev S2x128x5120 : Shape := ⟨3, ![2, 128, 5120]⟩

abbrev nBuf : Space → Nat
  | .hbm => 163
  | .vmem => 6
  | .smem => 0
  | _ => 0

abbrev hbmTy0_0 (i : Nat) : BufTy := match i % 128 with
  | 0 => ⟨S2x128x32x160, .fp8e4m3⟩
  | 1 => ⟨S2x128x32x160, .fp8e4m3⟩
  | 2 => ⟨S2x128x32x160, .fp8e4m3⟩
  | 3 => ⟨S2x32, .f32⟩
  | 4 => ⟨S2x32, .f32⟩
  | 5 => ⟨S2x32, .f32⟩
  | 6 => ⟨S2x129, .i32⟩
  | 7 => ⟨S2x3072, .i32⟩
  | 8 => ⟨S2x128x32x160, .f32⟩
  | 9 => ⟨S2x128x32x160, .f32⟩
  | 10 => ⟨S2x128x32x160, .f32⟩
  | 11 => ⟨S3072, .i32⟩
  | 12 => ⟨S2x128, .i32⟩
  | 13 => ⟨S1x3072, .i32⟩
  | 14 => ⟨S2x128x1, .i32⟩
  | 15 => ⟨S1x1x3072, .i32⟩
  | 16 => ⟨S2x128x3072, .i32⟩
  | 17 => ⟨S2x128x3072, .i32⟩
  | 18 => ⟨S2x128x3072, .i1⟩
  | 19 => ⟨S2x128x3072, .i32⟩
  | 20 => ⟨S_, .i32⟩
  | 21 => ⟨S2x3072, .i32⟩
  | 22 => ⟨S_, .i32⟩
  | 23 => ⟨S_, .i32⟩
  | 24 => ⟨S_, .i32⟩
  | 25 => ⟨S2x3072, .i32⟩
  | 26 => ⟨S2x3072, .i32⟩
  | 27 => ⟨S_, .i32⟩
  | 28 => ⟨S2x3072, .i32⟩
  | 29 => ⟨S2x3072, .i32⟩
  | 30 => ⟨S2x1, .i32⟩
  | 31 => ⟨S2, .i32⟩
  | 32 => ⟨S1x3072, .i32⟩
  | 33 => ⟨S2x1, .i32⟩
  | 34 => ⟨S2x3072, .i32⟩
  | 35 => ⟨S2x3072, .i32⟩
  | 36 => ⟨S2x3072, .i1⟩
  | 37 => ⟨S2x3072x1, .i1⟩
  | 38 => ⟨S_, .i32⟩
  | 39 => ⟨S2x3072, .i32⟩
  | 40 => ⟨S2x3072, .i1⟩
  | 41 => ⟨S_, .i32⟩
  | 42 => ⟨S2x3072, .i32⟩
  | 43 => ⟨S2x3072, .i32⟩
  | 44 => ⟨S2x3072, .i32⟩
  | 45 => ⟨S2x3072x1, .i32⟩
  | 46 => ⟨S2x3072x32x160, .f32⟩
  | 47 => ⟨S_, .i32⟩
  | 48 => ⟨S2x3072, .i32⟩
  | 49 => ⟨S2x3072, .i1⟩
  | 50 => ⟨S_, .i32⟩
  | 51 => ⟨S2x3072, .i32⟩
  | 52 => ⟨S2x3072, .i32⟩
  | 53 => ⟨S2x3072, .i32⟩
  | 54 => ⟨S2x3072x1, .i32⟩
  | 55 => ⟨S2x3072x32x160, .f32⟩
  | 56 => ⟨S2x3072x32, .f32⟩
  | 57 => ⟨S2x32, .f32⟩
  | 58 => ⟨S_, .f32⟩
  | 59 => ⟨S2x32, .f32⟩
  | 60 => ⟨S2x32, .f32⟩
  | 61 => ⟨S2x1x32, .f32⟩
  | 62 => ⟨S2x3072x32, .f32⟩
  | 63 => ⟨S2x3072x32, .f32⟩
  | 64 => ⟨S_, .f32⟩
  | 65 => ⟨S_, .f32⟩
  | 66 => ⟨S2x3072x32, .i1⟩
  | 67 => ⟨S3072x32, .f32⟩
  | 68 => ⟨S2x3072x32, .f32⟩
  | 69 => ⟨S2x3072x32, .f32⟩
  | 70 => ⟨S_, .f32⟩
  | 71 => ⟨S2x3072x32, .i1⟩
  | 72 => ⟨S3072x32, .f32⟩
  | 73 => ⟨S2x3072x32, .f32⟩
  | 74 => ⟨S2x3072x32, .f32⟩
  | 75 => ⟨S2x1x3072, .i32⟩
  | 76 => ⟨S128, .i32⟩
  | 77 => ⟨S128x1, .i32⟩
  | 78 => ⟨S1x128x1, .i32⟩
  | 79 => ⟨S2x128x3072, .i32⟩
  | 80 => ⟨S2x128x3072, .i32⟩
  | 81 => ⟨S2x128x3072, .i1⟩
  | 82 => ⟨S2x128x3072x1, .i1⟩
  | 83 => ⟨S2x1x3072x32, .f32⟩
  | 84 => ⟨S_, .f32⟩
  | 85 => ⟨S2x128x3072x32, .i1⟩
  | 86 => ⟨S2x128x3072x32, .f32⟩
  | 87 => ⟨S128x3072x32, .f32⟩
  | 88 => ⟨S2x128x3072x32, .f32⟩
  | 89 => ⟨S2x128x3072x32, .f32⟩
  | 90 => ⟨S_, .f32⟩
  | 91 => ⟨S2x128x32, .f32⟩
  | 92 => ⟨S_, .i32⟩
  | 93 => ⟨S2x3072, .i32⟩
  | 94 => ⟨S2x3072, .i1⟩
  | 95 => ⟨S_, .i32⟩
  | 96 => ⟨S2x3072, .i32⟩
  | 97 => ⟨S2x3072, .i32⟩
  | 98 => ⟨S2x3072, .i32⟩
  | 99 => ⟨S2x3072x1, .i32⟩
  | 100 => ⟨S2x3072x32, .f32⟩
  | 101 => ⟨S2x3072x32, .f32⟩
  | 102 => ⟨S2x3072x32, .f32⟩
  | 103 => ⟨S2x128x3072x1, .i1⟩
  | 104 => ⟨S2x1x3072x32, .f32⟩
  | 105 => ⟨S_, .f32⟩
  | 106 => ⟨S_, .f32⟩
  | 107 => ⟨S2x128x3072x32, .i1⟩
  | 108 => ⟨S2x128x3072x32, .f32⟩
  | 109 => ⟨S128x3072x32, .f32⟩
  | 110 => ⟨S2x128x3072x32, .f32⟩
  | 111 => ⟨S2x128x3072x32, .f32⟩
  | 112 => ⟨S_, .f32⟩
  | 113 => ⟨S2x128x32, .f32⟩
  | 114 => ⟨S2x128x32, .f32⟩
  | 115 => ⟨S2x128x32, .f32⟩
  | 116 => ⟨S_, .i32⟩
  | 117 => ⟨S2x3072, .i32⟩
  | 118 => ⟨S2x3072, .i1⟩
  | 119 => ⟨S_, .i32⟩
  | 120 => ⟨S2x3072, .i32⟩
  | 121 => ⟨S2x3072, .i32⟩
  | 122 => ⟨S2x3072, .i32⟩
  | 123 => ⟨S2x3072x1, .i32⟩
  | 124 => ⟨S2x3072x32, .f32⟩
  | 125 => ⟨S_, .f32⟩
  | 126 => ⟨S2x3072x32, .f32⟩
  | 127 => ⟨S2x3072x32, .i1⟩
  | _ => ⟨S2x128x32x160, .fp8e4m3⟩

abbrev hbmTy0_1 (i : Nat) : BufTy := match i % 128 with
  | 0 => ⟨S2x3072x32, .f32⟩
  | 1 => ⟨S_, .f32⟩
  | 2 => ⟨S_, .f32⟩
  | 3 => ⟨S3072x32, .f32⟩
  | 4 => ⟨S2x3072x32, .f32⟩
  | 5 => ⟨S2x3072x32, .f32⟩
  | 6 => ⟨S_, .i32⟩
  | 7 => ⟨S2x3072, .i32⟩
  | 8 => ⟨S2x3072, .i1⟩
  | 9 => ⟨S_, .i32⟩
  | 10 => ⟨S2x3072, .i32⟩
  | 11 => ⟨S2x3072, .i32⟩
  | 12 => ⟨S2x3072, .i32⟩
  | 13 => ⟨S2x3072x1, .i32⟩
  | 14 => ⟨S2x3072x32x160, .f32⟩
  | 15 => ⟨S2x128x3072x1x1, .i1⟩
  | 16 => ⟨S2x3072x32x1, .f32⟩
  | 17 => ⟨S2x3072x32x160, .f32⟩
  | 18 => ⟨S2x3072x32x160, .f32⟩
  | 19 => ⟨S2x1x3072x32x160, .f32⟩
  | 20 => ⟨S_, .f32⟩
  | 21 => ⟨S_, .f32⟩
  | 22 => ⟨S2x128x3072x32x160, .i1⟩
  | 23 => ⟨S2x128x3072x32x160, .f32⟩
  | 24 => ⟨S128x3072x32x160, .f32⟩
  | 25 => ⟨S2x128x3072x32x160, .f32⟩
  | 26 => ⟨S2x128x3072x32x160, .f32⟩
  | 27 => ⟨S_, .f32⟩
  | 28 => ⟨S2x128x32x160, .f32⟩
  | 29 => ⟨S2x32x1, .f32⟩
  | 30 => ⟨S2x1x32x1, .f32⟩
  | 31 => ⟨S2x128x32x160, .f32⟩
  | 32 => ⟨S2x128x32x160, .f32⟩
  | 33 => ⟨S2x128x5120, .f32⟩
  | 34 => ⟨S2x128x5120, .bf16⟩
  | _ => ⟨S2x128x32x160, .fp8e4m3⟩

abbrev hbmTy (i : Nat) : BufTy := match i / 128 with
  | 0 => hbmTy0_0 i
  | 1 => hbmTy0_1 i
  | _ => ⟨S2x128x32x160, .fp8e4m3⟩

abbrev bufTy : (tb : Table) → Fin (tcTables nBuf tb) → BufTy
  | .hbm, ⟨i, _⟩ => hbmTy i
  | .local _ .vmem, ⟨0, _⟩ => ⟨S2x128x32x160, .fp8e4m3⟩
  | .local _ .vmem, ⟨1, _⟩ => ⟨S2x128x32x160, .fp8e4m3⟩
  | .local _ .vmem, ⟨2, _⟩ => ⟨S2x128x32x160, .fp8e4m3⟩
  | .local _ .vmem, ⟨3, _⟩ => ⟨S2x128x32x160, .f32⟩
  | .local _ .vmem, ⟨4, _⟩ => ⟨S2x128x32x160, .f32⟩
  | .local _ .vmem, ⟨5, _⟩ => ⟨S2x128x32x160, .f32⟩
  | _, _ => ⟨S2x128x32x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_c : Ref sig .tc := ⟨.hbm, 20, rfl⟩
abbrev main_v3 : Ref sig .tc := ⟨.hbm, 21, rfl⟩
abbrev main_c : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_1 : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_v34 : Ref sig .tc := ⟨.hbm, 69, rfl⟩
abbrev main_cst_6 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_7 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_v45 : Ref sig .tc := ⟨.hbm, 89, rfl⟩
abbrev main_cst_8 : Ref sig .tc := ⟨.hbm, 90, rfl⟩
abbrev main_v46 : Ref sig .tc := ⟨.hbm, 91, rfl⟩
abbrev main_c_9 : Ref sig .tc := ⟨.hbm, 92, rfl⟩
abbrev main_v47 : Ref sig .tc := ⟨.hbm, 93, rfl⟩
abbrev main_v48 : Ref sig .tc := ⟨.hbm, 94, rfl⟩
abbrev main_c_10 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_11 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_v58 : Ref sig .tc := ⟨.hbm, 111, rfl⟩
abbrev main_cst_12 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_c_13 : Ref sig .tc := ⟨.hbm, 116, rfl⟩
abbrev main_v62 : Ref sig .tc := ⟨.hbm, 117, rfl⟩
abbrev main_v63 : Ref sig .tc := ⟨.hbm, 118, rfl⟩
abbrev main_c_14 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_cst_15 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_cst_16 : Ref sig .tc := ⟨.hbm, 129, rfl⟩
abbrev main_call6_v0 : Ref sig .tc := ⟨.hbm, 130, rfl⟩
abbrev main_call6_v1 : Ref sig .tc := ⟨.hbm, 131, rfl⟩
abbrev main_call6_v2 : Ref sig .tc := ⟨.hbm, 132, rfl⟩
abbrev main_v72 : Ref sig .tc := ⟨.hbm, 133, rfl⟩
abbrev main_c_17 : Ref sig .tc := ⟨.hbm, 134, rfl⟩
abbrev main_v73 : Ref sig .tc := ⟨.hbm, 135, rfl⟩
abbrev main_v74 : Ref sig .tc := ⟨.hbm, 136, rfl⟩
abbrev main_c_18 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_cst_19 : Ref sig .tc := ⟨.hbm, 148, rfl⟩
abbrev main_call7_v0 : Ref sig .tc := ⟨.hbm, 149, rfl⟩
abbrev main_call7_v1 : Ref sig .tc := ⟨.hbm, 150, rfl⟩
abbrev main_call7_v2 : Ref sig .tc := ⟨.hbm, 151, rfl⟩
abbrev main_call7_v3 : Ref sig .tc := ⟨.hbm, 152, rfl⟩
abbrev main_call7_v4 : Ref sig .tc := ⟨.hbm, 153, rfl⟩
abbrev main_v85 : Ref sig .tc := ⟨.hbm, 154, rfl⟩
abbrev main_cst_20 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x128x32x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x32x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x32x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x32x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x32x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x32x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Hand.LoopsKernel.lean ====
/-
  Hand-written. `Kernel`'s two loops without a generated invariant, for the frame: every trip of the head-group loop
  and of the row loop runs, leaves what it reads as it was, and leaves what it writes at some contents.
-/
module

public import proofs.«01_k».proof.Proof.Gen.Kernel.Loops
public import proofs.«01_k».proof.Proof.Gen.Kernel.Skeleton
public import proofs.«01_k».proof.Proof.Gen.Kernel.Frame
public import Idealize.ShloMosaic.Lib.Tactic
public import Idealize.ShloMosaic.Lib.WordCmp
public import Idealize.ShloMosaic.Lib.WordArith

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- The block a row starts in, whatever word its start is: at most 24. -/
theorem blk_le (v : BitVec 32) : (Scalar.minsi (Scalar.shrui v 7#32) 24#32).toNat ≤ 24 := by
  have h : (Scalar.shrui v 7#32).toNat < 2 ^ 31 := by
    have e : (Scalar.shrui v 7#32).toNat = v.toNat / 128 := by
      show (IntOp.shrui .scalar v 7#32).toNat = _
      unfold IntOp.shrui
      rw [if_pos (by decide), BitVec.ushiftRight_eq', BitVec.toNat_ushiftRight, Nat.shiftRight_eq_div_pow]; rfl
    have := v.isLt
    omega
  have e := WordArith.toNat_minsi_of_lt (Scalar.shrui v 7#32) 24#32 h (by decide)
  have : (24#32 : BitVec 32).toNat = 24 := by decide
  show (IntOp.minsi (Scalar.shrui v 7#32) 24#32).toNat ≤ 24
  omega

/-- The side condition the row loop assumes of the word it reads holds of every word. -/
theorem chk1_all (v : BitVec 32) : k0_chk1 v := by
  have h := blk_le v
  unfold k0_chk1 k0_off8 k0_off9 k0_mult6 k0_mult7 k0_off11 k0_off12 k0_off13 k0_off14 k0_off15 k0_off16 k0_off17 k0_off18
  dsimp only
  generalize Scalar.minsi (Scalar.shrui v 7#32) 24#32 = x at h
  have hx : x = BitVec.ofNat 32 x.toNat := by simp
  generalize x.toNat = n at h hx
  subst hx
  revert h
  revert n
  decide

set_option maxHeartbeats 40000000 in
@[sl_loop] def loopInv_k0_t3 (𝒱 : Variants) (c : Dev nD) (bd : Option 𝒱.V) (E : Set ℕ) (i : grid0.Coords) (arg1 : Memref sig .tc .smem S2x129 .i32) (harg1 : arg1.IsWhole) (arg2 : Memref sig .tc .smem S2x32 .f32) (harg2 : arg2.IsWhole) (arg3 : Memref sig .tc .smem S2x32 .f32) (harg3 : arg3.IsWhole) (arg4 : Memref sig .tc .smem S2x32 .f32) (harg4 : arg4.IsWhole) (arg5 : Memref sig .tc .vmem S1x32x160x128 .fp8e4m3) (harg5 : arg5.IsWhole) (arg6 : Memref sig .tc .vmem S1x32x160x128 .fp8e4m3) (harg6 : arg6.IsWhole) (arg7 : Memref sig .tc .vmem S1x32x160x128 .fp8e4m3) (harg7 : arg7.IsWhole) (arg8 : Memref sig .tc .vmem S2x129 .i32) (harg8 : arg8.IsWhole) (arg9 : Memref sig .tc .vmem S2x3072 .i32) (harg9 : arg9.IsWhole) (arg10 : Memref sig .tc .vmem S1x128x5120 .bf16) (harg10 : arg10.IsWhole) (arg11 : Memref sig .tc .vmem S1x32x3072 .f32) (harg11 : arg11.IsWhole) (arg12 : Memref sig .tc .vmem S1x32x128 .f32) (harg12 : arg12.IsWhole) (arg13 : Memref sig .tc .vmem S4608x128 .f32) (harg13 : arg13.IsWhole) (arg14 : Memref sig .tc .vmem S32x3328 .f32) (harg14 : arg14.IsWhole) (arg15 : Memref sig .tc .vmem S128x128 .f32) (harg15 : arg15.IsWhole) (arg16 : Memref sig .tc .vmem S640x128 .f32) (harg16 : arg16.IsWhole) (arg17 : Memref sig .tc .vmem S24x128 .i32) (harg17 : arg17.IsWhole) (arg0 : BitVec 32) (v0 : IVec S1x128 32) (v1 : IVec S128x128 32) (v7 : IVec S1x128 32) (v8 : IVec S1x128 32) (c0_i32_77 : BitVec 32)
    (X1 : BufTy.Contents (Elt F) arg1.view.ty) (X17 : BufTy.Contents (Elt F) arg17.view.ty) (X13 : BufTy.Contents (Elt F) arg13.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v0 v1 v7 v8 c0_i32_77 where
  inv _ _ := iprop((arg1.view.loc (c : Thread nD τ) ↦[arg1.view.set]{fullShare} X1)
    ∗ (arg17.view.loc (c : Thread nD τ) ↦[arg17.view.set]{fullShare} X17)
    ∗ (arg13.view.loc (c : Thread nD τ) ↦[arg13.view.set]{fullShare} X13)
    ∗ (∃ f, arg14.view.loc (c : Thread nD τ) ↦[arg14.view.set]{fullShare} f))
  step k acc := by
    have hk : k.val < 128 := Nat.lt_of_lt_of_le k.isLt k0_t3_abs.2.1
    have hchk := chk1_all
    unfold k0_t3_body
    iintro ⟨H1, H17, H13, ⟨%f14, H14⟩⟩
    sl_exec
    sl_step
    sl_close

set_option maxHeartbeats 400000000 in
@[sl_loop] def loopInv_k0_t2 (𝒱 : Variants) (c : Dev nD) (bd : Option 𝒱.V) (E : Set ℕ) (i : grid0.Coords) (arg1 : Memref sig .tc .smem S2x129 .i32) (harg1 : arg1.IsWhole) (arg2 : Memref sig .tc .smem S2x32 .f32) (harg2 : arg2.IsWhole) (arg3 : Memref sig .tc .smem S2x32 .f32) (harg3 : arg3.IsWhole) (arg4 : Memref sig .tc .smem S2x32 .f32) (harg4 : arg4.IsWhole) (arg5 : Memref sig .tc .vmem S1x32x160x128 .fp8e4m3) (harg5 : arg5.IsWhole) (arg6 : Memref sig .tc .vmem S1x32x160x128 .fp8e4m3) (harg6 : arg6.IsWhole) (arg7 : Memref sig .tc .vmem S1x32x160x128 .fp8e4m3) (harg7 : arg7.IsWhole) (arg8 : Memref sig .tc .vmem S2x129 .i32) (harg8 : arg8.IsWhole) (arg9 : Memref sig .tc .vmem S2x3072 .i32) (harg9 : arg9.IsWhole) (arg10 : Memref sig .tc .vmem S1x128x5120 .bf16) (harg10 : arg10.IsWhole) (arg11 : Memref sig .tc .vmem S1x32x3072 .f32) (harg11 : arg11.IsWhole) (arg12 : Memref sig .tc .vmem S1x32x128 .f32) (harg12 : arg12.IsWhole) (arg13 : Memref sig .tc .vmem S4608x128 .f32) (harg13 : arg13.IsWhole) (arg14 : Memref sig .tc .vmem S32x3328 .f32) (harg14 : arg14.IsWhole) (arg15 : Memref sig .tc .vmem S128x128 .f32) (harg15 : arg15.IsWhole) (arg16 : Memref sig .tc .vmem S640x128 .f32) (harg16 : arg16.IsWhole) (arg17 : Memref sig .tc .vmem S24x128 .i32) (harg17 : arg17.IsWhole) (arg0 : BitVec 32) (v0 : IVec S1x128 32) (v1 : IVec S128x128 32) (v7 : IVec S1x128 32) (v8 : IVec S1x128 32) (c0_i32_77 : BitVec 32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X15 : BufTy.Contents (Elt F) arg15.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v0 v1 v7 v8 c0_i32_77 where
  inv _ _ := iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg15.view.loc (c : Thread nD τ) ↦[arg15.view.set]{fullShare} X15)
    ∗ (∃ f, arg10.view.loc (c : Thread nD τ) ↦[arg10.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg16.view.loc (c : Thread nD τ) ↦[arg16.view.set]{fullShare} f))
  step k acc := by
    have hk : k.val < 8 := Nat.lt_of_lt_of_le k.isLt k0_t2_abs.2.1
    unfold k0_t2_body
    iintro ⟨H2, H3, H4, H5, H6, H7, H15, ⟨%f10, H10⟩, ⟨%f12, H12⟩, ⟨%f13, H13⟩, ⟨%f16, H16⟩⟩
    sl_exec
    sl_step
    sl_close

end Cert.Kernel.Hand
-- ==== Proof.Hand.FrameKernel.lean ====
/-
  Hand-written. `Kernel`'s frame: the program ends, nothing faults, its arguments end as they were and every semaphore
  at zero, whatever the arguments hold. The body is run once at symbolic contents.
-/
module

public import proofs.«01_k».proof.Proof.Hand.LoopsKernel
public import proofs.«01_k».proof.Proof.Gen.Kernel.Points
public import proofs.«01_k».proof.Proof.Gen.Kernel.Launch
public import Idealize.ShloMosaic.Lib.Pipeline.FrameSuffix

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat)

variable {F : FTy → Type} [BitOps F]

local notation "𝕄G" => MT nD τ sig Unit (Elt F) ℕ (UR sig nD τ) ℕ

set_option maxHeartbeats 400000000 in
/-- One grid point's body: what it reads ends as it was, what it writes ends at some contents. -/
theorem body_run (𝒱 : Variants) (c : Dev nD) (bd : Option 𝒱.V) (E : Set ℕ) (i : grid0.Coords) (arg1 : Memref sig .tc .smem S2x129 .i32) (harg1 : arg1.IsWhole) (arg2 : Memref sig .tc .smem S2x32 .f32) (harg2 : arg2.IsWhole) (arg3 : Memref sig .tc .smem S2x32 .f32) (harg3 : arg3.IsWhole) (arg4 : Memref sig .tc .smem S2x32 .f32) (harg4 : arg4.IsWhole) (arg5 : Memref sig .tc .vmem S1x32x160x128 .fp8e4m3) (harg5 : arg5.IsWhole) (arg6 : Memref sig .tc .vmem S1x32x160x128 .fp8e4m3) (harg6 : arg6.IsWhole) (arg7 : Memref sig .tc .vmem S1x32x160x128 .fp8e4m3) (harg7 : arg7.IsWhole) (arg8 : Memref sig .tc .vmem S2x129 .i32) (harg8 : arg8.IsWhole) (arg9 : Memref sig .tc .vmem S2x3072 .i32) (harg9 : arg9.IsWhole) (arg10 : Memref sig .tc .vmem S1x128x5120 .bf16) (harg10 : arg10.IsWhole) (arg11 : Memref sig .tc .vmem S1x32x3072 .f32) (harg11 : arg11.IsWhole) (arg12 : Memref sig .tc .vmem S1x32x128 .f32) (harg12 : arg12.IsWhole) (arg13 : Memref sig .tc .vmem S4608x128 .f32) (harg13 : arg13.IsWhole) (arg14 : Memref sig .tc .vmem S32x3328 .f32) (harg14 : arg14.IsWhole) (arg15 : Memref sig .tc .vmem S128x128 .f32) (harg15 : arg15.IsWhole) (arg16 : Memref sig .tc .vmem S640x128 .f32) (harg16 : arg16.IsWhole) (arg17 : Memref sig .tc .vmem S24x128 .i32) (harg17 : arg17.IsWhole)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (X9 : BufTy.Contents (Elt F) arg9.view.ty) :
    (iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (∃ f, arg10.view.loc (c : Thread nD τ) ↦[arg10.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg14.view.loc (c : Thread nD τ) ↦[arg14.view.set]{fullShare} f)
    ∗ (∃ f, arg15.view.loc (c : Thread nD τ) ↦[arg15.view.set]{fullShare} f)
    ∗ (∃ f, arg16.view.loc (c : Thread nD τ) ↦[arg16.view.set]{fullShare} f)
    ∗ (∃ f, arg17.view.loc (c : Thread nD τ) ↦[arg17.view.set]{fullShare} f)) : sProp 𝕄G)
    ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (∃ f, arg10.view.loc (c : Thread nD τ) ↦[arg10.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg14.view.loc (c : Thread nD τ) ↦[arg14.view.set]{fullShare} f)
    ∗ (∃ f, arg15.view.loc (c : Thread nD τ) ↦[arg15.view.set]{fullShare} f)
    ∗ (∃ f, arg16.view.loc (c : Thread nD τ) ↦[arg16.view.set]{fullShare} f)
    ∗ (∃ f, arg17.view.loc (c : Thread nD τ) ↦[arg17.view.set]{fullShare} f))) := by
  simp only [cc0__body_eq_skeleton]; unfold cc0__body_skel
  iintro ⟨H1, H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩⟩
  sl_exec
  sl_step
  sl_close

variable (m : (ℓ : Loc nD τ sig) → Buf (Elt F) ℓ) (ρ : Dev nD → PrngReg)

/-- The windows whose contents the frame says nothing of: the three results. -/
def fgt : Fin 12 → Bool := ![false, false, false, false, false, false, false, false, false, true, true, true]

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = false := rfl
theorem fgt_6 : fgt 6 = false := rfl
theorem fgt_7 : fgt 7 = false := rfl
theorem fgt_8 : fgt 8 = false := rfl
theorem fgt_9 : fgt 9 = true := rfl
theorem fgt_10 : fgt 10 = true := rfl
theorem fgt_11 : fgt 11 = true := rfl

/-- A scratch buffer held whole, as the memref naming it. -/
theorem scr_eq (c : Dev nD) (b : Ref sig .tc) :
    (iprop(∃ f : Buf (Elt F) ((c : Thread nD τ).loc b), ((c : Thread nD τ).loc b) ↦{fullShare} f) : sProp 𝕄G)
      = iprop(∃ f, (Memref.whole b).view.loc (c : Thread nD τ) ↦[(Memref.whole b).view.set]{fullShare} f) := by
  simp only [Memref.view_whole, View.set_whole]

/-- The frame's proof data: every input window ends holding its block; the results' entries are not read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem defs₀_row (t : Fin cfg0.N) :
    defs₀ (F := F) .tc cfg0.body (cfg0.bodyArgs t (cfg0.slots t)) = bodyAt0 t := by
  unfold defs₀; rw [Defs.onTc_tc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

set_option maxHeartbeats 40000000 in
theorem body_obligation (c : Dev nD) : BodyObligationLoose (dats (F := F) m 0 c) (defs₀ (F := F)) Variants.none () Set.univ fgt := fun t => by
  rw [bigSep_W0, bigSep_W0, defs₀_row]
  simp only [fgt_0, fgt_1, fgt_2, fgt_3, fgt_4, fgt_5, fgt_6, fgt_7, fgt_8, fgt_9, fgt_10, fgt_11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl]
  simp only [before0_0, after0_0, before0_1, after0_1, before0_2, after0_2, before0_3, after0_3, before0_4, after0_4, before0_5, after0_5, before0_6, after0_6, before0_7, after0_7, before0_8, after0_8]
  unfold Pipeline.ΦA
  rw [scopedRest0_eq]
  simp only [scr_eq]
  unfold owns
  iintro ⟨⟨⟨S0, S1, S2, S3, S4⟩, Hg⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩, ⟨%d8, %g8, %h8, H8⟩, ⟨%X9, %g9, %h9, H9⟩, ⟨%X10, %g10, %h10, H10⟩, ⟨%X11, %g11, %h11, H11⟩⟩
  iapply (wp_wand_r Idealize.ShloMosaic.frame (wpE (defs₀ (F := F)) Variants.none (c : Thread nD τ) none) Set.univ)
  isplitl [S0 S1 S2 S3 S4 H0 H1 H2 H3 H4 H5 H6 H7 H8 H9 H10 H11]
  · unfold bodyAt0
    iapply (body_run Variants.none c none Set.univ (grid0.coords t) _ _ _ _ _ _ _ _ _ _ _ _ _ _ _ _ _ _ _ _ _ _ _ _ _ _ _ _ _ _ _ _ _ _ g0 g1 g2 g3 g4 g5 g6 g7 g8)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [S0]; · iexact S0
    isplitl [S1]; · iexact S1
    isplitl [S2]; · iexact S2
    isplitl [S3]; · iexact S3
    iexact S4
  · iintro %_ ⟨H0, H1, H2, H3, H4, H5, H6, H7, H8, ⟨%f9, H9⟩, ⟨%f10, H10⟩, ⟨%f11, H11⟩, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]
    · iexists g0; isplitr
      · ipureintro; exact h0
      iexact H0
    isplitl [H1]
    · iexists g1; isplitr
      · ipureintro; exact h1
      iexact H1
    isplitl [H2]
    · iexists g2; isplitr
      · ipureintro; exact h2
      iexact H2
    isplitl [H3]
    · iexists g3; isplitr
      · ipureintro; exact h3
      iexact H3
    isplitl [H4]
    · iexists g4; isplitr
      · ipureintro; exact h4
      iexact H4
    isplitl [H5]
    · iexists g5; isplitr
      · ipureintro; exact h5
      iexact H5
    isplitl [H6]
    · iexists g6; isplitr
      · ipureintro; exact h6
      iexact H6
    isplitl [H7]
    · iexists g7; isplitr
      · ipureintro; exact h7
      iexact H7
    isplitl [H8]
    · iexists g8; isplitr
      · ipureintro; exact h8
      iexact H8
    isplitl [H9]
    · iexists _; iexists f9; isplitr
      · ipureintro; rfl
      iexact H9
    isplitl [H10]
    · iexists _; iexists f10; isplitr
      · ipureintro; rfl
      iexact H10
    iexists _; iexists f11; isplitr
    · ipureintro; rfl
    iexact H11

/-! ## The run and the frame -/

theorem rest_ref (b : Ref sig .tc) (h : b ∈ Pipeline.restRefs sig spec0) (h' : b ∉ ({main_v4, main_v5} : Finset (Ref sig .tc))) :
    b ∈ Pipeline.restRefs sig spec0 \ {main_v4, main_v5} := Finset.mem_sdiff.mpr ⟨h, h'⟩

set_option maxHeartbeats 4000000 in
set_option backward.isDefEq.respectTransparency.types false in
theorem run_main : θ_run defs (onTc (τ := τ) (main (F := F))) (s₀ m ρ) (fun r =>
    RDat.FramePostR cfg0 (fun c => (dats m 0 c).toRForget fgt) {main_v4, main_v5} (fun c b => V m c b) r ∧ r.2.sem = fun _ => 0) :=
  Pipeline.θ_run_frame_around_T_forget_shared (Q' := _) cfgs (dats m) (0 : Fin 1) launch₀0 defs₀ Variants.none fgt {main_v4, main_v5} m ρ main
    (hbody := body_obligation m) (hq := fun _ _ _ => rfl) (howed := fun _ _ => rfl) (V₀ := V0 m) (opss := [hostOps1])
    (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      rcases hop with rfl | rfl
      all_goals
        simp only [StableHlo.unary_writes, Finset.mem_singleton] at hb
        have := Proc.devRef_injective _ hb
        subst this
        decide)
    (hmain := hmain m Variants.none) (hA := A_eq m) (hΦ := fun _ _ => rfl) (hQ' := fun _ h => h)

/-- The frame: `Cert.quiescent_Kernel`'s statement at any `F`. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ) ∧ r.2.sem = fun _ => 0) :=
  (θ_run defs _ _).mono (fun r h => ⟨fun c => ⟨
      ((h.1 c).2 main_arg0 (rest_ref _ (Pipeline.mem_restRefs_of main_arg0 (by decide) (by decide)) (by decide))).trans (V_main_arg0 m c),
      ((h.1 c).2 main_arg1 (rest_ref _ (Pipeline.mem_restRefs_of main_arg1 (by decide) (by decide)) (by decide))).trans (V_main_arg1 m c),
      ((h.1 c).2 main_arg2 (rest_ref _ (Pipeline.mem_restRefs_of main_arg2 (by decide) (by decide)) (by decide))).trans (V_main_arg2 m c),
      (RDat.FramePostR.arr_in h.1 c 1 rfl).trans (V_main_arg3 m c),
      (RDat.FramePostR.arr_in h.1 c 2 rfl).trans (V_main_arg4 m c),
      (RDat.FramePostR.arr_in h.1 c 3 rfl).trans (V_main_arg5 m c),
      (RDat.FramePostR.arr_in h.1 c 0 rfl).trans (V_main_arg6 m c),
      (RDat.FramePostR.arr_in h.1 c 8 rfl).trans (V_main_arg7 m c)⟩, h.2⟩)
    (run_main m ρ)

end Cert.Kernel.Hand
-- ==== Proof.Hand.LoopsKernelIdeal.lean ====
/-
  Hand-written. `KernelIdeal`'s two loops without a generated invariant, for the frame: every trip of the head-group loop
  and of the row loop runs, leaves what it reads as it was, and leaves what it writes at some contents.
-/
module

public import proofs.«01_k».proof.Proof.Gen.KernelIdeal.Loops
public import proofs.«01_k».proof.Proof.Gen.KernelIdeal.Skeleton
public import proofs.«01_k».proof.Proof.Gen.KernelIdeal.Frame
public import Idealize.ShloMosaic.Lib.Tactic
public import Idealize.ShloMosaic.Lib.WordCmp
public import Idealize.ShloMosaic.Lib.WordArith

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The block a row starts in, whatever word its start is: at most 24. -/
theorem blk_le (v : BitVec 32) : (Scalar.minsi (Scalar.shrui v 7#32) 24#32).toNat ≤ 24 := by
  have h : (Scalar.shrui v 7#32).toNat < 2 ^ 31 := by
    have e : (Scalar.shrui v 7#32).toNat = v.toNat / 128 := by
      show (IntOp.shrui .scalar v 7#32).toNat = _
      unfold IntOp.shrui
      rw [if_pos (by decide), BitVec.ushiftRight_eq', BitVec.toNat_ushiftRight, Nat.shiftRight_eq_div_pow]; rfl
    have := v.isLt
    omega
  have e := WordArith.toNat_minsi_of_lt (Scalar.shrui v 7#32) 24#32 h (by decide)
  have : (24#32 : BitVec 32).toNat = 24 := by decide
  show (IntOp.minsi (Scalar.shrui v 7#32) 24#32).toNat ≤ 24
  omega

/-- The side condition the row loop assumes of the word it reads holds of every word. -/
theorem chk1_all (v : BitVec 32) : k0_chk1 v := by
  have h := blk_le v
  unfold k0_chk1 k0_off8 k0_off9 k0_mult6 k0_mult7 k0_off11 k0_off12 k0_off13 k0_off14 k0_off15 k0_off16 k0_off17 k0_off18
  dsimp only
  generalize Scalar.minsi (Scalar.shrui v 7#32) 24#32 = x at h
  have hx : x = BitVec.ofNat 32 x.toNat := by simp
  generalize x.toNat = n at h hx
  subst hx
  revert h
  revert n
  decide

set_option maxHeartbeats 40000000 in
/-- The loop over the blocks of edges: it reads the columns and accumulates into the mask. -/
@[sl_loop] def loopInv_k0_t1 (𝒱 : Variants) (c : Dev nD) (bd : Option 𝒱.V) (E : Set ℕ) (i : grid0.Coords) (arg1 : Memref sig .tc .smem S2x129 .i32) (harg1 : arg1.IsWhole) (arg2 : Memref sig .tc .smem S2x32 .f32) (harg2 : arg2.IsWhole) (arg3 : Memref sig .tc .smem S2x32 .f32) (harg3 : arg3.IsWhole) (arg4 : Memref sig .tc .smem S2x32 .f32) (harg4 : arg4.IsWhole) (arg5 : Memref sig .tc .vmem S1x32x160x128 .fp8e4m3) (harg5 : arg5.IsWhole) (arg6 : Memref sig .tc .vmem S1x32x160x128 .fp8e4m3) (harg6 : arg6.IsWhole) (arg7 : Memref sig .tc .vmem S1x32x160x128 .fp8e4m3) (harg7 : arg7.IsWhole) (arg8 : Memref sig .tc .vmem S2x129 .i32) (harg8 : arg8.IsWhole) (arg9 : Memref sig .tc .vmem S2x3072 .i32) (harg9 : arg9.IsWhole) (arg10 : Memref sig .tc .vmem S1x128x5120 .bf16) (harg10 : arg10.IsWhole) (arg11 : Memref sig .tc .vmem S1x32x3072 .f32) (harg11 : arg11.IsWhole) (arg12 : Memref sig .tc .vmem S1x32x128 .f32) (harg12 : arg12.IsWhole) (arg13 : Memref sig .tc .vmem S4608x128 .f32) (harg13 : arg13.IsWhole) (arg14 : Memref sig .tc .vmem S32x3328 .f32) (harg14 : arg14.IsWhole) (arg15 : Memref sig .tc .vmem S128x128 .f32) (harg15 : arg15.IsWhole) (arg16 : Memref sig .tc .vmem S640x128 .f32) (harg16 : arg16.IsWhole) (arg17 : Memref sig .tc .vmem S24x128 .i32) (harg17 : arg17.IsWhole) (arg0 : BitVec 32) (v0 : IVec S1x128 32) (v1 : IVec S128x128 32) (v7 : IVec S1x128 32) (v8 : IVec S1x128 32) (c0_i32_77 : BitVec 32)
    (X17 : BufTy.Contents (Elt F) arg17.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v0 v1 v7 v8 c0_i32_77 where
  inv _ _ := iprop((arg17.view.loc (c : Thread nD τ) ↦[arg17.view.set]{fullShare} X17)
    ∗ (∃ f, arg15.view.loc (c : Thread nD τ) ↦[arg15.view.set]{fullShare} f))
  step k acc := by
    have hk : k.val < 24 := Nat.lt_of_lt_of_le k.isLt k0_t1_abs.2.1
    unfold k0_t1_body
    iintro ⟨H17, ⟨%f15, H15⟩⟩
    sl_exec
    sl_step
    sl_close

set_option maxHeartbeats 40000000 in
@[sl_loop] def loopInv_k0_t3 (𝒱 : Variants) (c : Dev nD) (bd : Option 𝒱.V) (E : Set ℕ) (i : grid0.Coords) (arg1 : Memref sig .tc .smem S2x129 .i32) (harg1 : arg1.IsWhole) (arg2 : Memref sig .tc .smem S2x32 .f32) (harg2 : arg2.IsWhole) (arg3 : Memref sig .tc .smem S2x32 .f32) (harg3 : arg3.IsWhole) (arg4 : Memref sig .tc .smem S2x32 .f32) (harg4 : arg4.IsWhole) (arg5 : Memref sig .tc .vmem S1x32x160x128 .fp8e4m3) (harg5 : arg5.IsWhole) (arg6 : Memref sig .tc .vmem S1x32x160x128 .fp8e4m3) (harg6 : arg6.IsWhole) (arg7 : Memref sig .tc .vmem S1x32x160x128 .fp8e4m3) (harg7 : arg7.IsWhole) (arg8 : Memref sig .tc .vmem S2x129 .i32) (harg8 : arg8.IsWhole) (arg9 : Memref sig .tc .vmem S2x3072 .i32) (harg9 : arg9.IsWhole) (arg10 : Memref sig .tc .vmem S1x128x5120 .bf16) (harg10 : arg10.IsWhole) (arg11 : Memref sig .tc .vmem S1x32x3072 .f32) (harg11 : arg11.IsWhole) (arg12 : Memref sig .tc .vmem S1x32x128 .f32) (harg12 : arg12.IsWhole) (arg13 : Memref sig .tc .vmem S4608x128 .f32) (harg13 : arg13.IsWhole) (arg14 : Memref sig .tc .vmem S32x3328 .f32) (harg14 : arg14.IsWhole) (arg15 : Memref sig .tc .vmem S128x128 .f32) (harg15 : arg15.IsWhole) (arg16 : Memref sig .tc .vmem S640x128 .f32) (harg16 : arg16.IsWhole) (arg17 : Memref sig .tc .vmem S24x128 .i32) (harg17 : arg17.IsWhole) (arg0 : BitVec 32) (v0 : IVec S1x128 32) (v1 : IVec S128x128 32) (v7 : IVec S1x128 32) (v8 : IVec S1x128 32) (c0_i32_77 : BitVec 32)
    (X1 : BufTy.Contents (Elt F) arg1.view.ty) (X17 : BufTy.Contents (Elt F) arg17.view.ty) (X13 : BufTy.Contents (Elt F) arg13.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v0 v1 v7 v8 c0_i32_77 where
  inv _ _ := iprop((arg1.view.loc (c : Thread nD τ) ↦[arg1.view.set]{fullShare} X1)
    ∗ (arg17.view.loc (c : Thread nD τ) ↦[arg17.view.set]{fullShare} X17)
    ∗ (arg13.view.loc (c : Thread nD τ) ↦[arg13.view.set]{fullShare} X13)
    ∗ (∃ f, arg14.view.loc (c : Thread nD τ) ↦[arg14.view.set]{fullShare} f))
  step k acc := by
    have hk : k.val < 128 := Nat.lt_of_lt_of_le k.isLt k0_t3_abs.2.1
    have hchk := chk1_all
    unfold k0_t3_body
    iintro ⟨H1, H17, H13, ⟨%f14, H14⟩⟩
    sl_exec
    sl_step
    sl_close

set_option maxHeartbeats 400000000 in
@[sl_loop] def loopInv_k0_t2 (𝒱 : Variants) (c : Dev nD) (bd : Option 𝒱.V) (E : Set ℕ) (i : grid0.Coords) (arg1 : Memref sig .tc .smem S2x129 .i32) (harg1 : arg1.IsWhole) (arg2 : Memref sig .tc .smem S2x32 .f32) (harg2 : arg2.IsWhole) (arg3 : Memref sig .tc .smem S2x32 .f32) (harg3 : arg3.IsWhole) (arg4 : Memref sig .tc .smem S2x32 .f32) (harg4 : arg4.IsWhole) (arg5 : Memref sig .tc .vmem S1x32x160x128 .fp8e4m3) (harg5 : arg5.IsWhole) (arg6 : Memref sig .tc .vmem S1x32x160x128 .fp8e4m3) (harg6 : arg6.IsWhole) (arg7 : Memref sig .tc .vmem S1x32x160x128 .fp8e4m3) (harg7 : arg7.IsWhole) (arg8 : Memref sig .tc .vmem S2x129 .i32) (harg8 : arg8.IsWhole) (arg9 : Memref sig .tc .vmem S2x3072 .i32) (harg9 : arg9.IsWhole) (arg10 : Memref sig .tc .vmem S1x128x5120 .bf16) (harg10 : arg10.IsWhole) (arg11 : Memref sig .tc .vmem S1x32x3072 .f32) (harg11 : arg11.IsWhole) (arg12 : Memref sig .tc .vmem S1x32x128 .f32) (harg12 : arg12.IsWhole) (arg13 : Memref sig .tc .vmem S4608x128 .f32) (harg13 : arg13.IsWhole) (arg14 : Memref sig .tc .vmem S32x3328 .f32) (harg14 : arg14.IsWhole) (arg15 : Memref sig .tc .vmem S128x128 .f32) (harg15 : arg15.IsWhole) (arg16 : Memref sig .tc .vmem S640x128 .f32) (harg16 : arg16.IsWhole) (arg17 : Memref sig .tc .vmem S24x128 .i32) (harg17 : arg17.IsWhole) (arg0 : BitVec 32) (v0 : IVec S1x128 32) (v1 : IVec S128x128 32) (v7 : IVec S1x128 32) (v8 : IVec S1x128 32) (c0_i32_77 : BitVec 32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X15 : BufTy.Contents (Elt F) arg15.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v0 v1 v7 v8 c0_i32_77 where
  inv _ _ := iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg15.view.loc (c : Thread nD τ) ↦[arg15.view.set]{fullShare} X15)
    ∗ (∃ f, arg10.view.loc (c : Thread nD τ) ↦[arg10.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg16.view.loc (c : Thread nD τ) ↦[arg16.view.set]{fullShare} f))
  step k acc := by
    have hk : k.val < 8 := Nat.lt_of_lt_of_le k.isLt k0_t2_abs.2.1
    unfold k0_t2_body
    iintro ⟨H2, H3, H4, H5, H6, H7, H15, ⟨%f10, H10⟩, ⟨%f12, H12⟩, ⟨%f13, H13⟩, ⟨%f16, H16⟩⟩
    sl_exec
    sl_step
    sl_close

end Cert.KernelIdeal.Hand
-- ==== Proof.Hand.FrameKernelIdeal.lean ====
/-
  Hand-written. `KernelIdeal`'s frame: the program ends, nothing faults, its arguments end as they were and every semaphore
  at zero, whatever the arguments hold. The body is run once at symbolic contents.
-/
module

public import proofs.«01_k».proof.Proof.Hand.LoopsKernelIdeal
public import proofs.«01_k».proof.Proof.Gen.KernelIdeal.Points
public import proofs.«01_k».proof.Proof.Gen.KernelIdeal.Launch
public import Idealize.ShloMosaic.Lib.Pipeline.FrameSuffix

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat)

variable {F : FTy → Type} [FloatOps F]

local notation "𝕄G" => MT nD τ sig Unit (Elt F) ℕ (UR sig nD τ) ℕ

set_option maxHeartbeats 400000000 in
/-- One grid point's body: what it reads ends as it was, what it writes ends at some contents. -/
theorem body_run (𝒱 : Variants) (c : Dev nD) (bd : Option 𝒱.V) (E : Set ℕ) (i : grid0.Coords) (arg1 : Memref sig .tc .smem S2x129 .i32) (harg1 : arg1.IsWhole) (arg2 : Memref sig .tc .smem S2x32 .f32) (harg2 : arg2.IsWhole) (arg3 : Memref sig .tc .smem S2x32 .f32) (harg3 : arg3.IsWhole) (arg4 : Memref sig .tc .smem S2x32 .f32) (harg4 : arg4.IsWhole) (arg5 : Memref sig .tc .vmem S1x32x160x128 .fp8e4m3) (harg5 : arg5.IsWhole) (arg6 : Memref sig .tc .vmem S1x32x160x128 .fp8e4m3) (harg6 : arg6.IsWhole) (arg7 : Memref sig .tc .vmem S1x32x160x128 .fp8e4m3) (harg7 : arg7.IsWhole) (arg8 : Memref sig .tc .vmem S2x129 .i32) (harg8 : arg8.IsWhole) (arg9 : Memref sig .tc .vmem S2x3072 .i32) (harg9 : arg9.IsWhole) (arg10 : Memref sig .tc .vmem S1x128x5120 .bf16) (harg10 : arg10.IsWhole) (arg11 : Memref sig .tc .vmem S1x32x3072 .f32) (harg11 : arg11.IsWhole) (arg12 : Memref sig .tc .vmem S1x32x128 .f32) (harg12 : arg12.IsWhole) (arg13 : Memref sig .tc .vmem S4608x128 .f32) (harg13 : arg13.IsWhole) (arg14 : Memref sig .tc .vmem S32x3328 .f32) (harg14 : arg14.IsWhole) (arg15 : Memref sig .tc .vmem S128x128 .f32) (harg15 : arg15.IsWhole) (arg16 : Memref sig .tc .vmem S640x128 .f32) (harg16 : arg16.IsWhole) (arg17 : Memref sig .tc .vmem S24x128 .i32) (harg17 : arg17.IsWhole)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (X9 : BufTy.Contents (Elt F) arg9.view.ty) :
    (iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (∃ f, arg10.view.loc (c : Thread nD τ) ↦[arg10.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg14.view.loc (c : Thread nD τ) ↦[arg14.view.set]{fullShare} f)
    ∗ (∃ f, arg15.view.loc (c : Thread nD τ) ↦[arg15.view.set]{fullShare} f)
    ∗ (∃ f, arg16.view.loc (c : Thread nD τ) ↦[arg16.view.set]{fullShare} f)
    ∗ (∃ f, arg17.view.loc (c : Thread nD τ) ↦[arg17.view.set]{fullShare} f)) : sProp 𝕄G)
    ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (∃ f, arg10.view.loc (c : Thread nD τ) ↦[arg10.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg14.view.loc (c : Thread nD τ) ↦[arg14.view.set]{fullShare} f)
    ∗ (∃ f, arg15.view.loc (c : Thread nD τ) ↦[arg15.view.set]{fullShare} f)
    ∗ (∃ f, arg16.view.loc (c : Thread nD τ) ↦[arg16.view.set]{fullShare} f)
    ∗ (∃ f, arg17.view.loc (c : Thread nD τ) ↦[arg17.view.set]{fullShare} f))) := by
  simp only [cc0__body_eq_skeleton]; unfold cc0__body_skel
  iintro ⟨H1, H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩⟩
  sl_exec
  sl_step
  sl_close

variable (m : (ℓ : Loc nD τ sig) → Buf (Elt F) ℓ) (ρ : Dev nD → PrngReg)

/-- The windows whose contents the frame says nothing of: the three results. -/
def fgt : Fin 12 → Bool := ![false, false, false, false, false, false, false, false, false, true, true, true]

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = false := rfl
theorem fgt_6 : fgt 6 = false := rfl
theorem fgt_7 : fgt 7 = false := rfl
theorem fgt_8 : fgt 8 = false := rfl
theorem fgt_9 : fgt 9 = true := rfl
theorem fgt_10 : fgt 10 = true := rfl
theorem fgt_11 : fgt 11 = true := rfl

/-- A scratch buffer held whole, as the memref naming it. -/
theorem scr_eq (c : Dev nD) (b : Ref sig .tc) :
    (iprop(∃ f : Buf (Elt F) ((c : Thread nD τ).loc b), ((c : Thread nD τ).loc b) ↦{fullShare} f) : sProp 𝕄G)
      = iprop(∃ f, (Memref.whole b).view.loc (c : Thread nD τ) ↦[(Memref.whole b).view.set]{fullShare} f) := by
  simp only [Memref.view_whole, View.set_whole]

/-- The frame's proof data: every input window ends holding its block; the results' entries are not read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem defs₀_row (t : Fin cfg0.N) :
    defs₀ (F := F) .tc cfg0.body (cfg0.bodyArgs t (cfg0.slots t)) = bodyAt0 t := by
  unfold defs₀; rw [Defs.onTc_tc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

set_option maxHeartbeats 40000000 in
theorem body_obligation (c : Dev nD) : BodyObligationLoose (dats (F := F) m 0 c) (defs₀ (F := F)) Variants.none () Set.univ fgt := fun t => by
  rw [bigSep_W0, bigSep_W0, defs₀_row]
  simp only [fgt_0, fgt_1, fgt_2, fgt_3, fgt_4, fgt_5, fgt_6, fgt_7, fgt_8, fgt_9, fgt_10, fgt_11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl]
  simp only [before0_0, after0_0, before0_1, after0_1, before0_2, after0_2, before0_3, after0_3, before0_4, after0_4, before0_5, after0_5, before0_6, after0_6, before0_7, after0_7, before0_8, after0_8]
  unfold Pipeline.ΦA
  rw [scopedRest0_eq]
  simp only [scr_eq]
  unfold owns
  iintro ⟨⟨⟨S0, S1, S2, S3, S4⟩, Hg⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩, ⟨%d8, %g8, %h8, H8⟩, ⟨%X9, %g9, %h9, H9⟩, ⟨%X10, %g10, %h10, H10⟩, ⟨%X11, %g11, %h11, H11⟩⟩
  iapply (wp_wand_r Idealize.ShloMosaic.frame (wpE (defs₀ (F := F)) Variants.none (c : Thread nD τ) none) Set.univ)
  isplitl [S0 S1 S2 S3 S4 H0 H1 H2 H3 H4 H5 H6 H7 H8 H9 H10 H11]
  · unfold bodyAt0
    iapply (body_run Variants.none c none Set.univ (grid0.coords t) _ _ _ _ _ _ _ _ _ _ _ _ _ _ _ _ _ _ _ _ _ _ _ _ _ _ _ _ _ _ _ _ _ _ g0 g1 g2 g3 g4 g5 g6 g7 g8)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [S0]; · iexact S0
    isplitl [S1]; · iexact S1
    isplitl [S2]; · iexact S2
    isplitl [S3]; · iexact S3
    iexact S4
  · iintro %_ ⟨H0, H1, H2, H3, H4, H5, H6, H7, H8, ⟨%f9, H9⟩, ⟨%f10, H10⟩, ⟨%f11, H11⟩, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]
    · iexists g0; isplitr
      · ipureintro; exact h0
      iexact H0
    isplitl [H1]
    · iexists g1; isplitr
      · ipureintro; exact h1
      iexact H1
    isplitl [H2]
    · iexists g2; isplitr
      · ipureintro; exact h2
      iexact H2
    isplitl [H3]
    · iexists g3; isplitr
      · ipureintro; exact h3
      iexact H3
    isplitl [H4]
    · iexists g4; isplitr
      · ipureintro; exact h4
      iexact H4
    isplitl [H5]
    · iexists g5; isplitr
      · ipureintro; exact h5
      iexact H5
    isplitl [H6]
    · iexists g6; isplitr
      · ipureintro; exact h6
      iexact H6
    isplitl [H7]
    · iexists g7; isplitr
      · ipureintro; exact h7
      iexact H7
    isplitl [H8]
    · iexists g8; isplitr
      · ipureintro; exact h8
      iexact H8
    isplitl [H9]
    · iexists _; iexists f9; isplitr
      · ipureintro; rfl
      iexact H9
    isplitl [H10]
    · iexists _; iexists f10; isplitr
      · ipureintro; rfl
      iexact H10
    iexists _; iexists f11; isplitr
    · ipureintro; rfl
    iexact H11

/-! ## The run and the frame -/

theorem rest_ref (b : Ref sig .tc) (h : b ∈ Pipeline.restRefs sig spec0) (h' : b ∉ ({main_v4, main_v5} : Finset (Ref sig .tc))) :
    b ∈ Pipeline.restRefs sig spec0 \ {main_v4, main_v5} := Finset.mem_sdiff.mpr ⟨h, h'⟩

set_option maxHeartbeats 4000000 in
set_option backward.isDefEq.respectTransparency.types false in
theorem run_main : θ_run defs (onTc (τ := τ) (main (F := F))) (s₀ m ρ) (fun r =>
    RDat.FramePostR cfg0 (fun c => (dats m 0 c).toRForget fgt) {main_v4, main_v5} (fun c b => V m c b) r ∧ r.2.sem = fun _ => 0) :=
  Pipeline.θ_run_frame_around_T_forget_shared (Q' := _) cfgs (dats m) (0 : Fin 1) launch₀0 defs₀ Variants.none fgt {main_v4, main_v5} m ρ main
    (hbody := body_obligation m) (hq := fun _ _ _ => rfl) (howed := fun _ _ => rfl) (V₀ := V0 m) (opss := [hostOps1])
    (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      rcases hop with rfl | rfl
      all_goals
        simp only [StableHlo.unary_writes, Finset.mem_singleton] at hb
        have := Proc.devRef_injective _ hb
        subst this
        decide)
    (hmain := hmain m Variants.none) (hA := A_eq m) (hΦ := fun _ _ => rfl) (hQ' := fun _ h => h)

/-- The frame: `Cert.quiescent_KernelIdeal`'s statement at any `F`. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ) ∧ r.2.sem = fun _ => 0) :=
  (θ_run defs _ _).mono (fun r h => ⟨fun c => ⟨
      ((h.1 c).2 main_arg0 (rest_ref _ (Pipeline.mem_restRefs_of main_arg0 (by decide) (by decide)) (by decide))).trans (V_main_arg0 m c),
      ((h.1 c).2 main_arg1 (rest_ref _ (Pipeline.mem_restRefs_of main_arg1 (by decide) (by decide)) (by decide))).trans (V_main_arg1 m c),
      ((h.1 c).2 main_arg2 (rest_ref _ (Pipeline.mem_restRefs_of main_arg2 (by decide) (by decide)) (by decide))).trans (V_main_arg2 m c),
      (RDat.FramePostR.arr_in h.1 c 1 rfl).trans (V_main_arg3 m c),
      (RDat.FramePostR.arr_in h.1 c 2 rfl).trans (V_main_arg4 m c),
      (RDat.FramePostR.arr_in h.1 c 3 rfl).trans (V_main_arg5 m c),
      (RDat.FramePostR.arr_in h.1 c 0 rfl).trans (V_main_arg6 m c),
      (RDat.FramePostR.arr_in h.1 c 8 rfl).trans (V_main_arg7 m c)⟩, h.2⟩)
    (run_main m ρ)

end Cert.KernelIdeal.Hand
-- ==== Proof.Val.RefGather.lean ====
/-
  The reference's gathers read at an index: which row a word names.
-/
module

public import proofs.«01_k».proof.Proof.Gen.ReferenceIdeal.Read
public import Idealize.ShloMosaic.Lib.IndicatorCount

@[expose] public section

noncomputable section

namespace Cert.ReferenceIdeal.Val

open Cert.ReferenceIdeal Cert.ReferenceIdeal.Gen Cert.ReferenceIdeal.Read Idealize.ShloMosaic Idealize.ShloMosaic.ValueIdx Idealize.SL.Sem

/-- A gather index: a negative one counts from the end, and the result is clamped into the 128 rows. -/
def gi (w : BitVec 32) : Fin 128 :=
  ⟨min (Scalar.select (IntOp.cmpi .slt w 0#32) (IntOp.addi w 128#32) w).toInt.toNat (128 - 1), by omega⟩

/-- A gather of whole rows `[heads, dims]` out of axis 1, batch by batch, read at an index. -/
theorem gather4_apply {α : Type} (x : S2x128x32x160.Idx → α) (w : IVec S2x3072x1 32) (b : Fin 2) (e : Fin 3072) (h : Fin 32) (d : Fin 160) :
    Host.gather gather_S2x128x32x160_S2x3072x1_S2x3072x32x160_23_1_0_0_1_2_1132160 x w (ix4 b e h d) = x (ix4 b ⟨min (w (ix3 b e 0)).toInt.toNat (128 - 1), by omega⟩ h d) := by
  unfold Host.gather
  congr 1
  funext a
  refine Fin.ext ?_
  show gather_S2x128x32x160_S2x3072x1_S2x3072x32x160_23_1_0_0_1_2_1132160.start (ix4 b e h d) w a + gather_S2x128x32x160_S2x3072x1_S2x3072x32x160_23_1_0_0_1_2_1132160.batchCoord (ix4 b e h d) a + gather_S2x128x32x160_S2x3072x1_S2x3072x32x160_23_1_0_0_1_2_1132160.offCoord (ix4 b e h d) a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 4) ∈ gather_S2x128x32x160_S2x3072x1_S2x3072x32x160_23_1_0_0_1_2_1132160.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 4) ∈ gather_S2x128x32x160_S2x3072x1_S2x3072x32x160_23_1_0_0_1_2_1132160.startIndexMap from List.mem_singleton.mpr rfl)]
    refine congrArg (fun k => min (w k).toInt.toNat (128 - 1)) ?_
    funext k
    refine Fin.ext ?_
    match k with
    | ⟨0, _⟩ => rfl
    | ⟨1, _⟩ => rfl
    | ⟨2, _⟩ => rfl
  · rw [GatherDims.batchCoord_eq_zero _ _ _ (by decide)]
    unfold GatherDims.start
    rw [dif_neg (show ¬((2 : Fin 4) ∈ gather_S2x128x32x160_S2x3072x1_S2x3072x32x160_23_1_0_0_1_2_1132160.startIndexMap) by decide)]
    simp only [Nat.zero_add]
    unfold GatherDims.offCoord
    rw [dif_pos (show (2 : Fin 4) ∈ gather_S2x128x32x160_S2x3072x1_S2x3072x32x160_23_1_0_0_1_2_1132160.sKept by decide)]
    rfl
  · rw [GatherDims.batchCoord_eq_zero _ _ _ (by decide)]
    unfold GatherDims.start
    rw [dif_neg (show ¬((3 : Fin 4) ∈ gather_S2x128x32x160_S2x3072x1_S2x3072x32x160_23_1_0_0_1_2_1132160.startIndexMap) by decide)]
    simp only [Nat.zero_add]
    unfold GatherDims.offCoord
    rw [dif_pos (show (3 : Fin 4) ∈ gather_S2x128x32x160_S2x3072x1_S2x3072x32x160_23_1_0_0_1_2_1132160.sKept by decide)]
    rfl

/-- The same gather for one number per head. -/
theorem gather3_apply {α : Type} (x : S2x128x32.Idx → α) (w : IVec S2x3072x1 32) (b : Fin 2) (e : Fin 3072) (h : Fin 32) :
    Host.gather gather_S2x128x32_S2x3072x1_S2x3072x32_2_1_0_0_1_2_1132 x w (ix3 b e h) = x (ix3 b ⟨min (w (ix3 b e 0)).toInt.toNat (128 - 1), by omega⟩ h) := by
  unfold Host.gather
  congr 1
  funext a
  refine Fin.ext ?_
  show gather_S2x128x32_S2x3072x1_S2x3072x32_2_1_0_0_1_2_1132.start (ix3 b e h) w a + gather_S2x128x32_S2x3072x1_S2x3072x32_2_1_0_0_1_2_1132.batchCoord (ix3 b e h) a + gather_S2x128x32_S2x3072x1_S2x3072x32_2_1_0_0_1_2_1132.offCoord (ix3 b e h) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S2x128x32_S2x3072x1_S2x3072x32_2_1_0_0_1_2_1132.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S2x128x32_S2x3072x1_S2x3072x32_2_1_0_0_1_2_1132.startIndexMap from List.mem_singleton.mpr rfl)]
    refine congrArg (fun k => min (w k).toInt.toNat (128 - 1)) ?_
    funext k
    refine Fin.ext ?_
    match k with
    | ⟨0, _⟩ => rfl
    | ⟨1, _⟩ => rfl
    | ⟨2, _⟩ => rfl
  · rw [GatherDims.batchCoord_eq_zero _ _ _ (by decide)]
    unfold GatherDims.start
    rw [dif_neg (show ¬((2 : Fin 3) ∈ gather_S2x128x32_S2x3072x1_S2x3072x32_2_1_0_0_1_2_1132.startIndexMap) by decide)]
    simp only [Nat.zero_add]
    unfold GatherDims.offCoord
    rw [dif_pos (show (2 : Fin 3) ∈ gather_S2x128x32_S2x3072x1_S2x3072x32_2_1_0_0_1_2_1132.sKept by decide)]
    rfl

end Cert.ReferenceIdeal.Val

end
-- ==== Proof.Val.RefRead.lean ====
/-
  What the reference computes, entry by entry: the row of an edge, the scores, the row maximum, the row sum of
  exponentials, the weights and the weighted sum of value vectors, each as a formula in the arguments.
-/
module

public import proofs.«01_k».proof.Proof.Val.RefGather

@[expose] public section

noncomputable section

namespace Cert.ReferenceIdeal.Val

open Cert.ReferenceIdeal Cert.ReferenceIdeal.Gen Cert.ReferenceIdeal.Read Idealize.ShloMosaic Idealize.ShloMosaic.ValueIdx Idealize.SL.Sem

/-- The number of row pointers at or below edge `e`, as the word the reference sums. -/
theorem count_eq (x6 : S2x129.Idx → BitVec 32) (b : Fin 2) (e : Fin 3072) :
    val_main_v3 (F := Ideal) x6 (ix2 b e)
      = BitVec.ofNat 32 (Finset.univ.filter fun r : Fin 128 =>
          IntOp.cmpi .sle (x6 (ix2 b ⟨1 + r.val, by omega⟩)) (BitVec.ofNat 32 e.val) = 1#1).card := by
  unfold val_main_v3
  rw [Host.reduce_eq_fold_single _ _ _ reducesTo_S2x128x3072_S2x3072_d1 (by decide)]
  refine Eq.trans ?_ (IndicatorCount.fold_addi_setWidth_eq_card _ _)
  refine Finset.fold_congr (fun r _ => ?_)
  show val_main_call0_call0_v6 (F := Ideal) x6 _ = _
  rw [val_main_call0_call0_v6_apply, val_main_call0_call0_v5_apply, val_main_call0_call0_v3_apply,
    val_main_call0_call0_v1_apply, val_main_v2_apply, val_main_call0_call0_v4_apply, val_main_call0_call0_v2_apply,
    val_main_call0_call0_v0_apply, val_main_v1_apply]
  refine congrArg (fun z => (IntOp.cmpi .sle (x6 z) _).setWidth 32) (eq_ix2 _)

/-- The row word of an edge: the count, clipped to `[0, 127]`. -/
def rowW (x6 : S2x129.Idx → BitVec 32) (b : Fin 2) (e : Fin 3072) : BitVec 32 :=
  IntOp.minsi 127#32 (IntOp.maxsi 0#32 (val_main_v3 (F := Ideal) x6 (ix2 b e)))

/-- Whether edge `e` of batch `b` is one of the batch's edges. -/
def live (x6 : S2x129.Idx → BitVec 32) (b : Fin 2) (e : Fin 3072) : BitVec 1 :=
  IntOp.cmpi .slt (BitVec.ofNat 32 e.val) (x6 (ix2 b ⟨128, by omega⟩))

/-- Whether edge `e` is counted to row `r`. -/
def own (x6 : S2x129.Idx → BitVec 32) (b : Fin 2) (r : Fin 128) (e : Fin 3072) : BitVec 1 :=
  IntOp.cmpi .eq (rowW x6 b e) (BitVec.ofNat 32 r.val)

theorem v4_at (x6 : S2x129.Idx → BitVec 32) (b : Fin 2) (e : Fin 3072) :
    val_main_v4 (F := Ideal) x6 (ix2 b e) = rowW x6 b e := by
  rw [val_main_v4_apply, val_main_call1_v4_apply, val_main_call1_v2_apply, val_main_call1_v1_apply]
  rfl

theorem v11_at (x6 : S2x129.Idx → BitVec 32) (b : Fin 2) (e : Fin 3072) :
    val_main_v11 (F := Ideal) x6 (ix2 b e) = live x6 b e := by
  rw [val_main_v11_apply, val_main_v9_apply, val_main_v7_apply, val_main_v1_apply, val_main_v10_apply, val_main_v8_apply,
    val_main_v6_apply, val_main_v5_apply]
  refine congrArg (fun z => IntOp.cmpi .slt _ (x6 z)) ((eq_ix2 _).trans ?_)
  refine congrArg₂ ix2 (Fin.ext ?_) rfl
  show b.val / 1 = b.val
  omega

theorem v18_at (x6 : S2x129.Idx → BitVec 32) (b : Fin 2) (e : Fin 3072) :
    val_main_v18 (F := Ideal) x6 (ix3 b e 0) = Scalar.select (IntOp.cmpi .slt (rowW x6 b e) 0#32) (IntOp.addi (rowW x6 b e) 128#32) (rowW x6 b e) := by
  have h : idx_main_v18 (ix3 b e 0) = ix2 b e := eq_ix2 _
  rw [val_main_v18_apply, h, val_main_v17_apply, val_main_v14_apply, val_main_v16_apply, val_main_v13_apply, val_main_v15_apply, v4_at]
  rfl

theorem v25_at (x7 : S2x3072.Idx → BitVec 32) (b : Fin 2) (e : Fin 3072) :
    val_main_v25 (F := Ideal) x7 (ix3 b e 0)
      = Scalar.select (IntOp.cmpi .slt (x7 (ix2 b e)) 0#32) (IntOp.addi (x7 (ix2 b e)) 128#32) (x7 (ix2 b e)) := by
  have h : idx_main_v25 (ix3 b e 0) = ix2 b e := eq_ix2 _
  rw [val_main_v25_apply, h, val_main_v24_apply, val_main_v21_apply, val_main_v23_apply, val_main_v20_apply, val_main_v22_apply]
  rfl

section
variable (x3 x4 x5 : S2x32.Idx → EReal) (x6 : S2x129.Idx → BitVec 32) (x7 : S2x3072.Idx → BitVec 32)
  (r0 r1 r2 : S2x128x32x160.Idx → EReal)

/-- The score of edge `e` in head `h`. -/
def S (b : Fin 2) (e : Fin 3072) (h : Fin 32) : EReal :=
  (∑ d : Fin 160, r0 (ix4 b (gi (rowW x6 b e)) h d) * r1 (ix4 b (gi (x7 (ix2 b e))) h d))
    * (x3 (ix2 b h) * x4 (ix2 b h) * Ideal.ofBits .f32 0x3DA1E89B#32)

/-- The score, minus infinity on the entries past the last edge. -/
def SM (b : Fin 2) (e : Fin 3072) (h : Fin 32) : EReal :=
  Scalar.select (live x6 b e) (S x3 x4 x6 x7 r0 r1 b e h) ⊥

/-- A row's largest score. -/
def M (b : Fin 2) (r : Fin 128) (h : Fin 32) : EReal :=
  (Finset.univ : Finset (Fin 3072)).fold max ⊥ fun e => Scalar.select (own x6 b r e) (SM x3 x4 x6 x7 r0 r1 b e h) ⊥

/-- The exponential of an edge's score less its row's largest. -/
def P (b : Fin 2) (e : Fin 3072) (h : Fin 32) : EReal :=
  Ideal.exp (SM x3 x4 x6 x7 r0 r1 b e h - M x3 x4 x6 x7 r0 r1 b (gi (rowW x6 b e)) h)

/-- A row's sum of exponentials. -/
def L (b : Fin 2) (r : Fin 128) (h : Fin 32) : EReal :=
  ∑ e : Fin 3072, Scalar.select (own x6 b r e) (P x3 x4 x6 x7 r0 r1 b e h) 0

/-- An edge's weight. -/
def W (b : Fin 2) (e : Fin 3072) (h : Fin 32) : EReal :=
  if L x3 x4 x6 x7 r0 r1 b (gi (rowW x6 b e)) h = 0 then 0
  else Ideal.div (P x3 x4 x6 x7 r0 r1 b e h) (L x3 x4 x6 x7 r0 r1 b (gi (rowW x6 b e)) h)

/-- A row's weighted sum of value vectors, scaled. -/
def O (b : Fin 2) (r : Fin 128) (h : Fin 32) (d : Fin 160) : EReal :=
  (∑ e : Fin 3072, Scalar.select (own x6 b r e) (W x3 x4 x6 x7 r0 r1 b e h * r2 (ix4 b (gi (x7 (ix2 b e))) h d)) 0) * x5 (ix2 b h)

theorem v33_at (b : Fin 2) (e : Fin 3072) (h : Fin 32) :
    val_main_v33 (F := Ideal) x3 x4 x6 x7 r0 r1 (ix3 b e h) = S x3 x4 x6 x7 r0 r1 b e h := by
  have h1 : idx_main_v31 (idx_main_v32 (ix3 b e h)) = ix2 b h := eq_ix2 _
  rw [val_main_v33_apply, val_main_v27_apply, val_main_v32_apply, val_main_v31_apply, h1, val_main_v30_apply,
    val_main_v28_apply, val_main_v29_apply, val_main_cst_apply]
  refine congrArg₂ (fun a b : EReal => a * b) (Finset.sum_congr rfl fun d _ => ?_) rfl
  have h2 : lidx_main_v27 (ix3 b e h) d = ix4 b e h d := eq_ix4 _
  have h3 : ridx_main_v27 (ix3 b e h) d = ix4 b e h d := eq_ix4 _
  rw [h2, h3]
  unfold val_main_v19 val_main_v26
  rw [gather4_apply, gather4_apply]
  simp only [v18_at, v25_at]
  rfl

theorem v34_at (b : Fin 2) (e : Fin 3072) (h : Fin 32) :
    val_main_v34 (F := Ideal) x3 x4 x6 x7 r0 r1 (ix3 b e h) = Scalar.select (live x6 b e) (S x3 x4 x6 x7 r0 r1 b e h) 0 := by
  have h1 : idx_main_v12 (idx_main_call2_v1 (ix3 b e h)) = ix2 b e := eq_ix2 _
  rw [val_main_v34_apply, val_main_call2_v1_apply, val_main_v12_apply, h1, v11_at, v33_at, val_main_call2_v3_apply,
    val_main_call2_v2_apply, val_main_call2_v0_apply, val_main_cst_5_apply]
  exact congrArg _ Ideal.ofBits_zero_f32

theorem ofBits_neg_inf : Ideal.ofBits .f32 0xFF800000#32 = ⊥ := by simp [Ideal.ofBits, Ideal.ieee]

theorem v35_at (b : Fin 2) (e : Fin 3072) (h : Fin 32) :
    val_main_v35 (F := Ideal) x3 x4 x6 x7 r0 r1 (ix3 b e h) = SM x3 x4 x6 x7 r0 r1 b e h := by
  have h1 : idx_main_v12 (idx_main_call3_v0 (ix3 b e h)) = ix2 b e := eq_ix2 _
  rw [val_main_v35_apply, val_main_call3_v0_apply, val_main_v12_apply, h1, v11_at, v33_at, val_main_call3_v2_apply,
    val_main_call3_v1_apply, val_main_cst_6_apply]
  exact congrArg _ ofBits_neg_inf

theorem v42_at (b : Fin 2) (r : Fin 128) (e : Fin 3072) :
    val_main_v42 (F := Ideal) x6 (ix3 b r e) = own x6 b r e := by
  have h1 : idx_main_v36 (idx_main_v40 (ix3 b r e)) = ix2 b e := eq_ix2 _
  rw [val_main_v42_apply, val_main_v40_apply, val_main_v36_apply, h1, v4_at, val_main_v41_apply, val_main_v39_apply,
    val_main_v38_apply, val_main_v37_apply]
  rfl

theorem v45_at (b : Fin 2) (r : Fin 128) (e : Fin 3072) (h : Fin 32) :
    val_main_v45 (F := Ideal) x3 x4 x6 x7 r0 r1 (ix4 b r e h)
      = Scalar.select (own x6 b r e) (SM x3 x4 x6 x7 r0 r1 b e h) ⊥ := by
  have h1 : idx_main_v43 (idx_main_call4_v0 (ix4 b r e h)) = ix3 b r e := eq_ix3 _
  have h2 : idx_main_v44 (idx_main_call4_v1 (ix4 b r e h)) = ix3 b e h := eq_ix3 _
  rw [val_main_v45_apply, val_main_call4_v0_apply, val_main_v43_apply, h1, v42_at, val_main_call4_v1_apply, val_main_v44_apply,
    h2, v35_at, val_main_call4_v3_apply, val_main_call4_v2_apply, val_main_cst_7_apply]
  exact congrArg _ ofBits_neg_inf

theorem v46_at (b : Fin 2) (r : Fin 128) (h : Fin 32) :
    val_main_v46 (F := Ideal) x3 x4 x6 x7 r0 r1 (ix3 b r h) = M x3 x4 x6 x7 r0 r1 b r h := by
  unfold val_main_v46
  have hc : Std.Commutative (FloatOps.maximumf (F := Ideal) (φ := .f32)) := ⟨fun a b => max_comm (α := EReal) a b⟩
  have ha : Std.Associative (FloatOps.maximumf (F := Ideal) (φ := .f32)) := ⟨fun a b c => max_assoc (α := EReal) a b c⟩
  rw [Host.reduce_eq_fold_single _ _ _ reducesTo_S2x128x3072x32_S2x128x32_d2 (by decide)]
  have hb : val_main_cst_8 (F := Ideal) (Shape.Idx.first h_S_) = (⊥ : EReal) := ofBits_neg_inf
  rw [hb]
  refine Finset.fold_congr (fun e _ => ?_)
  have h0 : ∀ hr : S2x128x3072x32.Reduces [2] S2x128x32, hr.lift (ix3 b r h) e = ix4 b r e h := fun hr => eq_ix4 _
  rw [Function.comp_apply, h0]
  exact v45_at x3 x4 x6 x7 r0 r1 b r e h

theorem v52_at (b : Fin 2) (e : Fin 3072) :
    val_main_v52 (F := Ideal) x6 (ix3 b e 0) = Scalar.select (IntOp.cmpi .slt (rowW x6 b e) 0#32) (IntOp.addi (rowW x6 b e) 128#32) (rowW x6 b e) :=
  v18_at x6 b e

theorem v55_at (b : Fin 2) (e : Fin 3072) (h : Fin 32) :
    val_main_v55 (F := Ideal) x3 x4 x6 x7 r0 r1 (ix3 b e h) = P x3 x4 x6 x7 r0 r1 b e h := by
  rw [val_main_v55_apply, val_main_v54_apply, v35_at]
  unfold val_main_v53
  rw [gather3_apply, v46_at]
  simp only [v52_at]
  rfl

theorem v59_at (b : Fin 2) (r : Fin 128) (h : Fin 32) :
    val_main_v59 (F := Ideal) x3 x4 x6 x7 r0 r1 (ix3 b r h) = L x3 x4 x6 x7 r0 r1 b r h := by
  rw [val_main_v59_apply]
  refine (congrArg₂ (fun a b : EReal => a + b) (Ideal.ofBits_zero_f32) (Finset.sum_congr rfl fun e _ => ?_)).trans (zero_add _)
  have h0 : idx_main_v59 (ix3 b r h) e = ix4 b r e h := eq_ix4 _
  rw [h0]
  have h1 : idx_main_v56 (idx_main_call5_v1 (ix4 b r e h)) = ix3 b r e := eq_ix3 _
  have h2 : idx_main_v57 (idx_main_call5_v2 (ix4 b r e h)) = ix3 b e h := eq_ix3 _
  rw [val_main_v58_apply, val_main_call5_v1_apply, val_main_v56_apply, h1, v42_at, val_main_call5_v2_apply, val_main_v57_apply,
    h2, v55_at, val_main_call5_v4_apply, val_main_call5_v3_apply, val_main_call5_v0_apply, val_main_cst_11_apply]
  exact congrArg _ Ideal.ofBits_zero_f32

theorem v61_at (b : Fin 2) (r : Fin 128) (h : Fin 32) :
    val_main_v61 (F := Ideal) x3 x4 x6 x7 r0 r1 (ix3 b r h)
      = M x3 x4 x6 x7 r0 r1 b r h + Ideal.log (L x3 x4 x6 x7 r0 r1 b r h) := by
  rw [val_main_v61_apply, val_main_v60_apply, v46_at, v59_at]
  generalize M x3 x4 x6 x7 r0 r1 b r h = a
  generalize L x3 x4 x6 x7 r0 r1 b r h = c
  rfl

theorem v72_at (b : Fin 2) (e : Fin 3072) (h : Fin 32) :
    val_main_v72 (F := Ideal) x3 x4 x6 x7 r0 r1 (ix3 b e h) = W x3 x4 x6 x7 r0 r1 b e h := by
  have hl : val_main_v68 (F := Ideal) x3 x4 x6 x7 r0 r1 (ix3 b e h) = L x3 x4 x6 x7 r0 r1 b (gi (rowW x6 b e)) h := by
    unfold val_main_v68
    rw [gather3_apply, v59_at]
    simp only [show val_main_v67 (F := Ideal) x6 (ix3 b e 0) = _ from v18_at x6 b e]
    rfl
  rw [val_main_v72_apply, val_main_v70_apply, val_main_v71_apply, hl, v55_at, val_main_v69_apply, val_main_cst_15_apply,
    val_main_call6_v2_apply, val_main_call6_v1_apply, val_main_call6_v0_apply, val_main_cst_16_apply]
  have hz : (FloatOps.ofBits (F := Ideal) .f32 0x00000000#32) = (0 : EReal) := Ideal.ofBits_zero_f32
  rw [hz]
  unfold W
  generalize L x3 x4 x6 x7 r0 r1 b (gi (rowW x6 b e)) h = l
  generalize P x3 x4 x6 x7 r0 r1 b e h = p
  have hk : FloatOps.cmpf (F := Ideal) (φ := .f32) .oeq l (0 : EReal) = BitVec.ofBool (decide (l = 0)) := rfl
  rw [hk]
  by_cases h0 : l = 0
  · rw [if_pos h0, decide_eq_true h0]
    rfl
  · rw [if_neg h0, decide_eq_false h0]
    rfl

theorem v90_at (b : Fin 2) (r : Fin 128) (h : Fin 32) (d : Fin 160) :
    val_main_v90 (F := Ideal) x3 x4 x5 x6 x7 r0 r1 r2 (ix4 b r h d) = O x3 x4 x5 x6 x7 r0 r1 r2 b r h d := by
  have h0 : idx_main_v87 (idx_main_v88 (idx_main_v89 (ix4 b r h d))) = ix2 b h := eq_ix2 _
  rw [val_main_v90_apply, val_main_v89_apply, val_main_v88_apply, val_main_v87_apply, h0, val_main_v86_apply]
  refine congrArg₂ (fun a b : EReal => a * b) ?_ rfl
  refine (congrArg₂ (fun a b : EReal => a + b) (Ideal.ofBits_zero_f32) (Finset.sum_congr rfl fun e _ => ?_)).trans (zero_add _)
  have h1 : idx_main_v86 (ix4 b r h d) e = ix5 b r e h d := eq_ix5 _
  rw [h1]
  have h2 : idx_main_v80 (idx_main_call7_v1 (ix5 b r e h d)) = ix3 b r e := eq_ix3 _
  have h3 : idx_main_v84 (idx_main_call7_v2 (ix5 b r e h d)) = ix4 b e h d := eq_ix4 _
  have h4 : idx_main_v81 (idx_main_v82 (ix4 b e h d)) = ix3 b e h := eq_ix3 _
  rw [val_main_v85_apply, val_main_call7_v1_apply, val_main_v80_apply, h2, v42_at, val_main_call7_v2_apply, val_main_v84_apply,
    h3, val_main_v83_apply, val_main_v82_apply, val_main_v81_apply, h4, v72_at, val_main_call7_v4_apply,
    val_main_call7_v3_apply, val_main_call7_v0_apply, val_main_cst_19_apply]
  unfold val_main_v79
  rw [gather4_apply]
  simp only [show val_main_v78 (F := Ideal) x7 (ix3 b e 0) = _ from v25_at x7 b e]
  exact congrArg _ Ideal.ofBits_zero_f32

theorem v92_at (b : Fin 2) (r : Fin 128) (j : Fin 5120) :
    val_main_v92 (F := Ideal) x3 x4 x5 x6 x7 r0 r1 r2 (ix3 b r j)
      = O x3 x4 x5 x6 x7 r0 r1 r2 b r ⟨j.val / 160, by omega⟩ ⟨j.val % 160, by omega⟩ := by
  rw [val_main_v92_apply, val_main_v91_apply]
  have h : idx_main_v91 (ix3 b r j) = ix4 b r ⟨j.val / 160, by omega⟩ ⟨j.val % 160, by omega⟩ := by
    have hb := b.isLt
    have hr := r.isLt
    have hj := j.isLt
    funext a
    refine Fin.ext ?_
    match a with
    | ⟨0, _⟩ => show ((b.val * 128 + r.val) * 5120 + j.val) / 655360 = b.val; omega
    | ⟨1, _⟩ => show ((b.val * 128 + r.val) * 5120 + j.val) / 5120 % 128 = r.val; omega
    | ⟨2, _⟩ => show ((b.val * 128 + r.val) * 5120 + j.val) / 160 % 32 = j.val / 160; omega
    | ⟨3, _⟩ => show ((b.val * 128 + r.val) * 5120 + j.val) % 160 = j.val % 160; omega
  rw [h, v90_at]
  rfl

end

end Cert.ReferenceIdeal.Val

end
-- ==== Proof.Val.RefRun.lean ====
/-
  The reference run: its kernel writes the first three arguments out in the wider format, so its results are the closed
  terms over the arguments.
-/
module

public import proofs.«01_k».proof.Proof.Val.RefRead
public import proofs.«01_k».proof.Proof.Gen.ReferenceIdeal.Run
public import Idealize.ShloMosaic.Lib.Pipeline.ValueKit

@[expose] public section

noncomputable section

namespace Cert.ReferenceIdeal.Val

open Cert.ReferenceIdeal Cert.ReferenceIdeal.Gen Cert.ReferenceIdeal.Read Idealize.ShloMosaic Idealize.ShloMosaic.TcCoe Idealize.SL.Sem
open Idealize.ShloMosaic.Pipeline
open Idealize.ShloMosaic.View

variable (m : (ℓ : Loc nD τ sig) → Buf (Elt Ideal) ℓ) (ρ : Dev nD → PrngReg)

theorem idx_facts : ∀ t : Fin cfg0.N,
    win0_0.index t = ![0, 0, 0, 0] ∧ win0_1.index t = ![0, 0, 0, 0] ∧ win0_2.index t = ![0, 0, 0, 0] := by
  decide +kernel

theorem out_3 (x0 x1 x2 : Vec Ideal S2x128x32x160 .fp8e4m3) : out0_3 x0 x1 x2 = x0 := by
  unfold out0_3 r0_0
  refine (canon_cons_unit_lit _ _ _ (by decide)).trans ?_
  exact ld_unit_lit _ x0 (by decide)

theorem out_4 (x0 x1 x2 : Vec Ideal S2x128x32x160 .fp8e4m3) : out0_4 x0 x1 x2 = x1 := out_3 x1 x0 x2
theorem out_5 (x0 x1 x2 : Vec Ideal S2x128x32x160 .fp8e4m3) : out0_5 x0 x1 x2 = x2 := out_3 x2 x0 x1

theorem iblk_0 (c : Dev nD) (t : Fin cfg0.N) : iblk m c 0 t = m ((c.tc : Thread nD τ).loc main_arg0) := by
  refine Eq.trans ?_ (V_main_arg0 m c)
  funext y
  unfold iblk
  refine congrArg (V m c main_arg0) ?_
  blk_ext [idx_facts t]

theorem iblk_1 (c : Dev nD) (t : Fin cfg0.N) : iblk m c 1 t = m ((c.tc : Thread nD τ).loc main_arg1) := by
  refine Eq.trans ?_ (V_main_arg1 m c)
  funext y
  unfold iblk
  refine congrArg (V m c main_arg1) ?_
  blk_ext [idx_facts t]

theorem iblk_2 (c : Dev nD) (t : Fin cfg0.N) : iblk m c 2 t = m ((c.tc : Thread nD τ).loc main_arg2) := by
  refine Eq.trans ?_ (V_main_arg2 m c)
  funext y
  unfold iblk
  refine congrArg (V m c main_arg2) ?_
  blk_ext [idx_facts t]

theorem arr_3 (c : Dev nD) : (dats m 0 c).arrAt 3 cfg0.N = m ((c.tc : Thread nD τ).loc main_arg0) := by
  refine (dats m 0 c).arrAt_eq_of_after_last 3 ⟨0, by decide⟩ (by decide +kernel) _ fun j => ?_
  rw [after0_3, out_3, iblk_0]
  rfl

theorem arr_4 (c : Dev nD) : (dats m 0 c).arrAt 4 cfg0.N = m ((c.tc : Thread nD τ).loc main_arg1) := by
  refine (dats m 0 c).arrAt_eq_of_after_last 4 ⟨0, by decide⟩ (by decide +kernel) _ fun j => ?_
  rw [after0_4, out_4, iblk_1]
  rfl

theorem arr_5 (c : Dev nD) : (dats m 0 c).arrAt 5 cfg0.N = m ((c.tc : Thread nD τ).loc main_arg2) := by
  refine (dats m 0 c).arrAt_eq_of_after_last 5 ⟨0, by decide⟩ (by decide +kernel) _ fun j => ?_
  rw [after0_5, out_5, iblk_2]
  rfl

/-- The reference runs to its closed terms, its arguments as they were. -/
theorem run : θ_run defs (onTc (τ := τ) (main (F := Ideal))) ⟨m, fun _ => 0, ρ⟩ (fun r => ∀ c : Dev nD,
      r.2.mem ((c.tc : Thread nD τ).loc main_v92) = val_main_v92 (F := Ideal) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg0)) (m ((c.tc : Thread nD τ).loc main_arg1)) (m ((c.tc : Thread nD τ).loc main_arg2))
      ∧ r.2.mem ((c.tc : Thread nD τ).loc main_v34) = val_main_v34 (F := Ideal) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg0)) (m ((c.tc : Thread nD τ).loc main_arg1))
      ∧ r.2.mem ((c.tc : Thread nD τ).loc main_v61) = val_main_v61 (F := Ideal) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (Cert.ReferenceIdeal.Value.run m ρ)
  obtain ⟨h1, h2, h3, h4⟩ := h c
  have e0 : Value.exitV m c (Proc.devRef .tc main_v0_0) = m ((c.tc : Thread nD τ).loc main_arg0) := (Value.exit_main_v0_0 m c).trans (arr_3 m c)
  have e1 : Value.exitV m c (Proc.devRef .tc main_v0_1) = m ((c.tc : Thread nD τ).loc main_arg1) := (Value.exit_main_v0_1 m c).trans (arr_4 m c)
  have e2 : Value.exitV m c (Proc.devRef .tc main_v0_2) = m ((c.tc : Thread nD τ).loc main_arg2) := (Value.exit_main_v0_2 m c).trans (arr_5 m c)
  have e3 := Value.exit_main_arg3 m c
  have e4 := Value.exit_main_arg4 m c
  have e5 := Value.exit_main_arg5 m c
  have e6 := Value.exit_main_arg6 m c
  have e7 := Value.exit_main_arg7 m c
  refine ⟨?_, ?_, ?_, h4⟩
  · refine (h1.trans (val_main_v92_eq (F := Ideal) (Value.exitV m c))).trans ?_
    rw [e0, e1, e2, e3, e4, e5, e6, e7]
  · refine (h2.trans (val_main_v34_eq (F := Ideal) (Value.exitV m c))).trans ?_
    rw [e0, e1, e3, e4, e6, e7]
  · refine (h3.trans (val_main_v61_eq (F := Ideal) (Value.exitV m c))).trans ?_
    rw [e0, e1, e3, e4, e6, e7]

end Cert.ReferenceIdeal.Val
-- ==== Proof.Val.Head.lean ====
/-
  Hand-written. What one head of `KernelIdeal` computes over the reals, element by element.
-/
module

public import proofs.«01_k».proof.Proof.Gen.KernelIdeal.Skeleton
public import Idealize.ShloMosaic.Lib.Pointwise

@[expose] public section

set_option maxRecDepth 65536

noncomputable section

namespace Cert.KernelIdeal.Val

open Cert.KernelIdeal Cert.KernelIdeal.Gen
open Idealize.ShloMosaic

/-- The softmax scale the program writes as a word. -/
def kc : EReal := Ideal.ofBits .f32 0x3DA1E89B#32

/-- The largest of a column. -/
def cmax (z : Fin 128 → EReal) : EReal := (Finset.univ : Finset (Fin 128)).fold max ⊥ z

/-- A column's maximum, with zero in place of minus infinity. -/
def csub (z : Fin 128 → EReal) : EReal := if cmax z = ⊥ then 0 else cmax z

/-- The exponentials of a column, shifted by its maximum. -/
def cexp (z : Fin 128 → EReal) (c : Fin 128) : EReal := Ideal.exp (z c - csub z)

/-- Their sum. -/
def csum (z : Fin 128 → EReal) : EReal := ∑ c, cexp z c

theorem le_cmax (z : Fin 128 → EReal) (c : Fin 128) : z c ≤ cmax z :=
  (Finset.le_fold_max (b := (⊥ : EReal)) (f := z) (s := Finset.univ) (z c)).2 (.inr ⟨c, Finset.mem_univ _, le_rfl⟩)

/-- An exponential of anything but plus infinity is a nonnegative real. -/
theorem exp_real {x : EReal} (h : x ≠ ⊤) : ∃ r : ℝ, 0 ≤ r ∧ Ideal.exp x = (r : EReal) := by
  induction x with
  | bot => exact ⟨0, le_rfl, rfl⟩
  | top => exact absurd rfl h
  | coe r => exact ⟨Real.exp r, (Real.exp_pos r).le, rfl⟩

theorem sub_csub_ne_top (z : Fin 128 → EReal) (c : Fin 128) : z c - csub z ≠ ⊤ := by
  have h := le_cmax z c
  unfold csub
  split
  · rename_i e
    rw [e] at h
    rw [le_bot_iff.1 h]
    decide
  · generalize cmax z = m at *
    generalize z c = x at *
    induction m with
    | bot => contradiction
    | top => simp [sub_eq_add_neg]
    | coe m =>
      induction x with
      | bot => simp [sub_eq_add_neg]
      | top => exact absurd h (by simp)
      | coe x => rw [← EReal.coe_sub]; exact EReal.coe_ne_top _

/-- Every exponential of a column is a nonnegative real. -/
theorem cexp_real (z : Fin 128 → EReal) (c : Fin 128) : ∃ r : ℝ, 0 ≤ r ∧ cexp z c = (r : EReal) :=
  exp_real (sub_csub_ne_top z c)

theorem cexp_sub_self (z : Fin 128 → EReal) (c : Fin 128) : cexp z c - cexp z c = 0 := by
  obtain ⟨r, -, e⟩ := cexp_real z c
  rw [e, ← EReal.coe_sub, sub_self]; rfl

/-- One head's scaled products at a row and a column. -/
theorem pay3_apply (q k : FVec Ideal S1x1x160x128 .fp8e4m3) (a b : EReal) (r c : Fin 128) :
    k0_pay3 (F := Ideal) q k a b (ix2 r c)
      = (∑ d : Fin 160, q (ix4 0 0 d r) * k (ix4 0 0 d c)) * (a * b * kc) := by
  pointwise [k0_pay3, kc]

theorem pay21_apply (s z : FVec Ideal S128x128 .f32) (c r : Fin 128) :
    k0_pay21 (F := Ideal) s z (ix2 c r) = s (ix2 r c) + z (ix2 c r) := by
  pointwise [k0_pay21]

theorem negInf : Ideal.ofBits .f32 0xFF800000#32 = ⊥ := by
  simp [Ideal.ofBits, Ideal.ieee]

theorem pay22_apply (z : FVec Ideal S128x128 .f32) (r : Fin 128) :
    k0_pay22 (F := Ideal) z (ix2 0 r) = cmax (fun c => z (ix2 c r)) := by
  pointwise [k0_pay22, cmax, negInf]

theorem pay23_apply (z : FVec Ideal S128x128 .f32) (c r : Fin 128) :
    k0_pay23 (F := Ideal) z (ix2 c r) = cexp (fun c => z (ix2 c r)) c := by
  pointwise [k0_pay23, pay22_apply, cexp, csub, negInf]

theorem pay24_apply (z : FVec Ideal S128x128 .f32) (r : Fin 128) :
    k0_pay24 (F := Ideal) z (ix2 0 r) = csum (fun c => z (ix2 c r)) := by
  pointwise [k0_pay24, pay23_apply, csum]

theorem pay25_apply (z : FVec Ideal S128x128 .f32) (r : Fin 128) :
    k0_pay25 (F := Ideal) z (ix3 0 0 r) = cmax (fun c => z (ix2 c r)) + Ideal.log (csum (fun c => z (ix2 c r))) := by
  pointwise [k0_pay25, pay22_apply, pay24_apply]

theorem pay30_apply (z : FVec Ideal S128x128 .f32) (v : FVec Ideal S1x1x160x128 .fp8e4m3) (s : EReal) (d : Fin 160) (r : Fin 128) :
    k0_pay30 (F := Ideal) (k0_pay26 z v) (k0_pay27 z) (k0_pay28 z s) k0_pay29 (ix2 d r)
      = (∑ c : Fin 128, v (ix4 0 0 d c) * cexp (fun c => z (ix2 c r)) c)
          * (if csum (fun c => z (ix2 c r)) = 0 then 0 else Ideal.div s (csum (fun c => z (ix2 c r)))) := by
  pointwise [k0_pay30, k0_pay26, k0_pay27, k0_pay28, k0_pay29, pay23_apply, pay24_apply]
  simp only [cexp_sub_self, sub_zero, mul_zero, Finset.sum_const_zero, add_zero]

end Cert.KernelIdeal.Val
-- ==== Proof.Val.Spec.lean ====
/-
  Hand-written. `KernelIdeal`'s head-group loop over the reals: what each buffer it writes holds, one store at a time.
-/
module

public import proofs.«01_k».proof.Proof.Val.Head
public import Idealize.ShloMosaic.Lib.Tactic
public import Idealize.ShloMosaic.Lib.VecWindow

@[expose] public section

set_option maxRecDepth 65536

noncomputable section

namespace Cert.KernelIdeal.Val

open Cert.KernelIdeal Cert.KernelIdeal.Gen
open Idealize.ShloMosaic

/-- A fact known once a trip was made. -/
def Since (k : ℕ) (p : Prop) : Prop := Nat.casesOn (motive := fun _ => Prop) k True fun _ => p

theorem Since.mk {k : ℕ} {p : Prop} (h : p) : Since k p = True := by
  cases k
  · rfl
  · exact eq_true h

theorem Since.get {k : ℕ} {p : Prop} (h : Since k p = True) (hk : 0 < k) : p := by
  cases k
  · omega
  · exact of_eq_true h

theorem Since.get0 {k : ℕ} {p : Prop} (h : Since k p = True) (h0 : k = 0 → p) : p := by
  rcases Nat.eq_zero_or_pos k with e | e
  · exact h0 e
  · exact Since.get h e

/-- A value at loop entry. -/
def K0 {α : Type} (k : ℕ) (x y : α) : α := Nat.casesOn (motive := fun _ => α) k x fun _ => y

/-- The arrays a grid step reads: codes of q, k and v, and their scales. -/
structure In where
  q : S1x32x160x128.Idx → EReal
  k : S1x32x160x128.Idx → EReal
  v : S1x32x160x128.Idx → EReal
  a : S2x32.Idx → EReal
  b : S2x32.Idx → EReal
  s : S2x32.Idx → EReal

/-- The scaled product of row `r` of q and row `c` of k in head `h`. -/
def score (x : In) (i : Fin 2) (h : Fin 32) (r c : Fin 128) : EReal :=
  (∑ d : Fin 160, x.q (ix4 0 h d r) * x.k (ix4 0 h d c)) * (x.a (ix2 i h) * x.b (ix2 i h) * kc)

/-- The biased column of row `r`. -/
def zcol (x : In) (bias : Fin 128 → Fin 128 → EReal) (i : Fin 2) (h : Fin 32) (r : Fin 128) (c : Fin 128) : EReal :=
  score x i h r c + bias c r

def lse (x : In) (bias : Fin 128 → Fin 128 → EReal) (i : Fin 2) (h : Fin 32) (r : Fin 128) : EReal :=
  cmax (zcol x bias i h r) + Ideal.log (csum (zcol x bias i h r))

def out (x : In) (bias : Fin 128 → Fin 128 → EReal) (i : Fin 2) (h : Fin 32) (d : Fin 160) (r : Fin 128) : EReal :=
  (∑ c : Fin 128, x.v (ix4 0 h d c) * cexp (zcol x bias i h r) c)
    * (if csum (zcol x bias i h r) = 0 then 0 else Ideal.div (x.s (ix2 i h)) (csum (zcol x bias i h r)))

/-- The table of scores: row `r * 36 + h`, column `c`. -/
def gT (x : In) (i : Fin 2) (y : S4608x128.Idx) : EReal :=
  if h : (y 0).val % 36 < 32 then score x i ⟨(y 0).val % 36, h⟩ ⟨(y 0).val / 36, by have := ValueIdx.idx2_lt0 y; omega⟩ (y 1) else 0

def gL (x : In) (bias : Fin 128 → Fin 128 → EReal) (i : Fin 2) (y : S1x32x128.Idx) : EReal := lse x bias i (y 1) (y 2)

def gO (x : In) (bias : Fin 128 → Fin 128 → EReal) (i : Fin 2) (y : S1x128x5120.Idx) : EReal :=
  out x bias i ⟨(y 2).val / 160, by have : (y 2).val < 5120 := (y 2).isLt; omega⟩ ⟨(y 2).val % 160, by omega⟩ (y 1)

/-- Four heads' outputs, transposed, one after the other. -/
def gG (x : In) (bias : Fin 128 → Fin 128 → EReal) (i : Fin 2) (k : Fin 8) (y : S640x128.Idx) : EReal :=
  out x bias i ⟨4 * k.val + (y 0).val / 160, by have := ValueIdx.idx2_lt0 y; omega⟩ ⟨(y 0).val % 160, by omega⟩ (y 1)

/-- A load of a box, at an index. -/
theorem readAt_unit_eq {sig : RefSig} {κ : Kind} {sp : Space} {s : Shape} {e : EltTy} (v : View sig κ sp s e) (f : v.ty.Contents (Elt Ideal))
    {off size : Fin s.rank → ℕ} (inb : ∀ a, off a + size a ≤ s.size a) (x : (⟨s.rank, size⟩ : Shape).Idx) (y : s.Idx)
    (h : ∀ a, (y a).val = off a + (x a).val) :
    v.readAt (Elt Ideal) (Rect.unit off size inb).toLoadRect f x = v.read (Elt Ideal) f y :=
  congrArg (v.read (Elt Ideal) f) (funext fun a => Fin.ext (by
    show off a + 1 * (x a).val = (y a).val
    rw [h a, Nat.one_mul]))

/-- One more store: where it wrote it reads its payload, elsewhere as before. -/
theorem read_cons {sig : RefSig} {κ : Kind} {sp : Space} {s : Shape} {e : EltTy} (v : View sig κ sp s e) (f : v.ty.Contents (Elt Ideal))
    (g : s.Idx → Elt Ideal e) (D D' : s.Idx → Prop) (r : Rect s) (w : r.shape.Idx → Elt Ideal e) (L : List (View.Piece (Elt Ideal) s e))
    (hL : ∀ y, D y → v.read (Elt Ideal) (v.writes (Elt Ideal) f L) y = g y) (hw : ∀ x, w x = g (r.emb x))
    (hD : ∀ y, D' y → ¬ D y → y ∈ r.set) (y : s.Idx) (hy : D' y) :
    v.read (Elt Ideal) (v.writes (Elt Ideal) f (⟨r, w⟩ :: L)) y = g y := by
  by_cases hm : y ∈ r.set
  · obtain ⟨x, rfl⟩ : ∃ x, r.emb x = y := r.exists_idx_of_mem hm
    rw [View.read_writes_cons_emb]
    exact hw x
  · rw [View.read_writes_cons_miss _ _ _ _ _ hm]
    exact hL y (by by_contra h; exact hm (hD y hy h))

theorem trips_lt (k : Fin k0_t2_loop.trips) : k.val < 8 := Nat.lt_of_lt_of_le k.isLt k0_t2_abs.2.1

theorem off4_eq : ∀ (k : Fin k0_t2_loop.trips) (a : Fin 4) (j : Fin 16),
    k0_off4 k (BitVec.ofNat 32 a.val) (BitVec.ofNat 32 (288 * j.val)) = ![4 * k.val + a.val + 288 * j.val, 0] := by
  decide +kernel

theorem off5_eq : ∀ (k : Fin k0_t2_loop.trips) (a : Fin 4), k0_off5 k (BitVec.ofNat 32 a.val) = ![0, 4 * k.val + a.val, 0] := by
  decide +kernel

theorem off2_eq : ∀ (k : Fin k0_t2_loop.trips) (a : Fin 4), k0_off2 k (BitVec.ofNat 32 a.val) = ![0, 4 * k.val + a.val, 0, 0] := by
  decide +kernel

theorem off6_eq : ∀ (k : Fin k0_t2_loop.trips) (a : Fin 5), k0_off6 k (BitVec.ofNat 32 (128 * a.val)) = ![0, 0, 640 * k.val + 128 * a.val] := by
  decide +kernel

theorem off3_eq (i : grid0.Coords) : ∀ (k : Fin k0_t2_loop.trips) (a : Fin 4),
    k0_off3 i k (BitVec.ofNat 32 a.val) = ![(i 0).val, 4 * k.val + a.val] := by
  have hi : (i 0).val < 2 := (i 0).isLt
  unfold k0_off3
  generalize (i 0).val = n at hi
  revert n
  decide +kernel

/-- The grid step's coordinate. -/
def ci (i : grid0.Coords) : Fin 2 := ⟨(i 0).val, (i 0).isLt⟩

/-- The head a trip's `a`-th part works on. -/
def hd (k : Fin k0_t2_loop.trips) (a : Fin 4) : Fin 32 := ⟨4 * k.val + a.val, by have := trips_lt k; omega⟩

section

variable (arg2 arg3 arg4 : Memref sig .tc .smem S2x32 .f32) (arg5 arg6 arg7 : Memref sig .tc .vmem S1x32x160x128 .fp8e4m3)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty) (X7 : BufTy.Contents (Elt Ideal) arg7.view.ty)

/-- What the step reads, off the buffers' contents. -/
def inOf : In where
  q := arg5.view.read (Elt Ideal) X5
  k := arg6.view.read (Elt Ideal) X6
  v := arg7.view.read (Elt Ideal) X7
  a := arg2.view.read (Elt Ideal) X2
  b := arg3.view.read (Elt Ideal) X3
  s := arg4.view.read (Elt Ideal) X4

/-- A head's codes, loaded. -/
theorem rd_codes (m : Memref sig .tc .vmem S1x32x160x128 .fp8e4m3) (X : BufTy.Contents (Elt Ideal) m.view.ty) (k : Fin k0_t2_loop.trips) (a : Fin 4)
    (inb) (d : Fin 160) (r : Fin 128) :
    View.readAt (Elt Ideal) m.view (Rect.unit (s := S1x32x160x128) (k0_off2 k (BitVec.ofNat 32 a.val)) S1x1x160x128.size inb).toLoadRect X (ix4 0 0 d r)
      = m.view.read (Elt Ideal) X (ix4 0 (hd k a) d r) := by
  refine readAt_unit_eq m.view X inb _ _ fun b => ?_
  rw [off2_eq]
  match b with
  | ⟨0, _⟩ => rfl
  | ⟨1, _⟩ => rfl
  | ⟨2, _⟩ => exact (Nat.zero_add _).symm
  | ⟨3, _⟩ => exact (Nat.zero_add _).symm

/-- A head's scale, loaded. -/
theorem rd_scale (m : Memref sig .tc .smem S2x32 .f32) (X : BufTy.Contents (Elt Ideal) m.view.ty) (i : grid0.Coords) (k : Fin k0_t2_loop.trips) (a : Fin 4)
    (inb) (h) :
    View.readAt (Elt Ideal) m.view (Rect.unit (s := S2x32) (k0_off3 i k (BitVec.ofNat 32 a.val)) S1x1.size inb).toLoadRect X (Shape.Idx.first (s := S1x1) h)
      = m.view.read (Elt Ideal) X (ix2 (ci i) (hd k a)) := by
  refine readAt_unit_eq m.view X inb _ _ fun b => ?_
  rw [off3_eq]
  match b with
  | ⟨0, _⟩ => exact (Nat.add_zero _).symm
  | ⟨1, _⟩ => exact (Nat.add_zero _).symm

/-- One head's scores, from what it loads. -/
theorem head_score (i : grid0.Coords) (k : Fin k0_t2_loop.trips) (a : Fin 4) (inb inb' inb₂ inb₃ h₂ h₃) (r c : Fin 128) :
    k0_pay3 (F := Ideal)
        (View.readAt (Elt Ideal) arg5.view (Rect.unit (s := S1x32x160x128) (k0_off2 k (BitVec.ofNat 32 a.val)) S1x1x160x128.size inb).toLoadRect X5)
        (View.readAt (Elt Ideal) arg6.view (Rect.unit (s := S1x32x160x128) (k0_off2 k (BitVec.ofNat 32 a.val)) S1x1x160x128.size inb').toLoadRect X6)
        (View.readAt (Elt Ideal) arg2.view (Rect.unit (s := S2x32) (k0_off3 i k (BitVec.ofNat 32 a.val)) S1x1.size inb₂).toLoadRect X2 (Shape.Idx.first (s := S1x1) h₂))
        (View.readAt (Elt Ideal) arg3.view (Rect.unit (s := S2x32) (k0_off3 i k (BitVec.ofNat 32 a.val)) S1x1.size inb₃).toLoadRect X3 (Shape.Idx.first (s := S1x1) h₃))
        (ix2 r c)
      = score (inOf arg2 arg3 arg4 arg5 arg6 arg7 X2 X3 X4 X5 X6 X7) (ci i) (hd k a) r c := by
  refine (pay3_apply _ _ _ _ r c).trans ?_
  exact congrArg₂ (· * ·)
    (Finset.sum_congr rfl fun d _ => congrArg₂ (· * ·) (rd_codes arg5 X5 k a inb d r) (rd_codes arg6 X6 k a inb' d c))
    (congrArg (· * kc) (congrArg₂ (· * ·) (rd_scale arg2 X2 i k a inb₂ h₂) (rd_scale arg3 X3 i k a inb₃ h₃)))

end

/-- The table after the stores below slice `j` of part `a`. -/
def DT (k : Fin k0_t2_loop.trips) (a j : ℕ) (y : S4608x128.Idx) : Prop :=
  (y 0).val % 36 < 4 * k.val + a ∨ ((y 0).val % 36 = 4 * k.val + a ∧ (y 0).val / 36 < 8 * j)

def PT (x : In) (i : Fin 2) (m : Memref sig .tc .vmem S4608x128 .f32) (D : S4608x128.Idx → Prop) (f : BufTy.Contents (Elt Ideal) m.view.ty) : Prop :=
  ∀ y, D y → m.view.read (Elt Ideal) f y = gT x i y

theorem stepT_aux (x : In) (i : Fin 2) (m : Memref sig .tc .vmem S4608x128 .f32) (f : BufTy.Contents (Elt Ideal) m.view.ty)
    (k : Fin k0_t2_loop.trips) (a : Fin 4) (j : Fin 16) (S : FVec Ideal S128x128 .f32) (hS : ∀ r c, S (ix2 r c) = score x i (hd k a) r c)
    (L : List (View.Piece (Elt Ideal) S4608x128 .f32)) (off : Fin 2 → ℕ) (hoff : off = ![4 * k.val + a.val + 288 * j.val, 0]) (sl sc inb sp)
    (h : PT x i m (DT k a.val j.val) (m.view.writes (Elt Ideal) f L)) :
    PT x i m (DT k a.val (j.val + 1)) (m.view.writes (Elt Ideal) f
      (⟨(⟨⟨off, S8x128.size, ![36, 1], inb⟩, sp⟩ : Rect S4608x128),
        shapeCast S8x128 (extractStridedSlice (s := S128x128) S8x128 ![8 * j.val, 0] S sl) sc⟩ :: L)) := by
  subst hoff
  have hk := trips_lt k
  have ha := a.isLt
  have hj := j.isLt
  refine read_cons m.view f (gT x i) _ _ _ _ L h (fun y => ?_) (fun y hy hn => ?_)
  · have y0 : (y 0).val < 8 := (y 0).isLt
    have y1 : (y 1).val < 128 := (y 1).isLt
    have e0 : ∀ e : S4608x128.Idx, (⟨⟨![4 * k.val + a.val + 288 * j.val, 0], S8x128.size, ![36, 1], inb⟩, sp⟩ : Rect S4608x128).emb y = e →
        (e 0).val = 4 * k.val + a.val + 288 * j.val + 36 * (y 0).val ∧ (e 1).val = (y 1).val := by
      rintro e rfl
      constructor
      · rfl
      · show 0 + 1 * (y 1).val = _
        omega
    generalize (⟨⟨![4 * k.val + a.val + 288 * j.val, 0], S8x128.size, ![36, 1], inb⟩, sp⟩ : Rect S4608x128).emb y = e at *
    obtain ⟨h0, h1⟩ := e0 e rfl
    have hw : shapeCast S8x128 (extractStridedSlice (s := S128x128) S8x128 ![8 * j.val, 0] S sl) sc y
        = S (ix2 (⟨8 * j.val + (y 0).val, by omega⟩ : Fin 128) (⟨(y 1).val, y1⟩ : Fin 128)) := by
      rw [shapeCast_self]
      refine congrArg S (funext fun b => Fin.ext ?_)
      match b with
      | ⟨0, _⟩ => rfl
      | ⟨1, _⟩ => exact Nat.zero_add _
    refine hw.trans ((hS _ _).trans ?_)
    unfold gT
    have hm : (e 0).val % 36 = 4 * k.val + a.val := by omega
    rw [dif_pos (by omega)]
    congr 1
    · exact Fin.ext hm.symm
    · exact Fin.ext (by show 8 * j.val + (y 0).val = (e 0).val / 36; omega)
    · exact Fin.ext h1.symm
  · rw [LoadRect.mem_set]
    unfold DT at hy hn
    have y1 : (y 1).val < 128 := (y 1).isLt
    intro b
    match b with
    | ⟨0, _⟩ =>
      refine ⟨(y 0).val / 36 - 8 * j.val, ?_, ?_⟩
      · show _ < 8
        omega
      · show (y 0).val = 4 * k.val + a.val + 288 * j.val + 36 * _
        omega
    | ⟨1, _⟩ =>
      refine ⟨(y 1).val, y1, ?_⟩
      show (y 1).val = 0 + 1 * (y 1).val
      omega

theorem stepT (x : In) (i : Fin 2) (m : Memref sig .tc .vmem S4608x128 .f32) (f : BufTy.Contents (Elt Ideal) m.view.ty)
    (k : Fin k0_t2_loop.trips) (a : Fin 4) (j : Fin 16) (S : FVec Ideal S128x128 .f32) (hS : ∀ r c, S (ix2 r c) = score x i (hd k a) r c)
    (L : List (View.Piece (Elt Ideal) S4608x128 .f32)) (sl sc inb sp) (h : PT x i m (DT k a.val j.val) (m.view.writes (Elt Ideal) f L)) :
    PT x i m (DT k a.val (j.val + 1)) (m.view.writes (Elt Ideal) f
      (⟨(⟨⟨k0_off4 k (BitVec.ofNat 32 a.val) (BitVec.ofNat 32 (288 * j.val)), S8x128.size, ![36, 1], inb⟩, sp⟩ : Rect S4608x128),
        shapeCast S8x128 (extractStridedSlice (s := S128x128) S8x128 ![8 * j.val, 0] S sl) sc⟩ :: L)) :=
  stepT_aux x i m f k a j S hS L _ (off4_eq k a j) sl sc inb sp h

/-- The sixteen slices of a part done, the next part starts. -/
theorem nextT (x : In) (i : Fin 2) (m : Memref sig .tc .vmem S4608x128 .f32) (k : Fin k0_t2_loop.trips) (a : ℕ) (f : BufTy.Contents (Elt Ideal) m.view.ty)
    (h : PT x i m (DT k a 16) f) : PT x i m (DT k (a + 1) 0) f := fun y hy => h y (by
  unfold DT at *
  have := ValueIdx.idx2_lt0 y
  omega)

/-! ## The log-sum-exp rows -/

def PL (x : In) (bias : Fin 128 → Fin 128 → EReal) (i : Fin 2) (m : Memref sig .tc .vmem S1x32x128 .f32) (n : ℕ) (f : BufTy.Contents (Elt Ideal) m.view.ty) : Prop :=
  ∀ y : S1x32x128.Idx, (y 1).val < n → m.view.read (Elt Ideal) f y = gL x bias i y

theorem stepL_aux (x : In) (bias : Fin 128 → Fin 128 → EReal) (i : Fin 2) (m : Memref sig .tc .vmem S1x32x128 .f32) (f : BufTy.Contents (Elt Ideal) m.view.ty)
    (k : Fin k0_t2_loop.trips) (a : Fin 4) (z : FVec Ideal S128x128 .f32) (hz : ∀ r, (fun c => z (ix2 c r)) = zcol x bias i (hd k a) r)
    (L : List (View.Piece (Elt Ideal) S1x32x128 .f32)) (off : Fin 3 → ℕ) (hoff : off = ![0, 4 * k.val + a.val, 0]) (inb)
    (h : PL x bias i m (4 * k.val + a.val) (m.view.writes (Elt Ideal) f L)) :
    PL x bias i m (4 * k.val + (a.val + 1)) (m.view.writes (Elt Ideal) f (⟨Rect.unit (s := S1x32x128) off S1x1x128.size inb, k0_pay25 z⟩ :: L)) := by
  subst hoff
  have hk := trips_lt k
  have ha := a.isLt
  refine read_cons m.view f (gL x bias i) _ _ _ _ L h (fun y => ?_) (fun y hy hn => ?_)
  · have y0 : (y 0).val < 1 := (y 0).isLt
    have y1 : (y 1).val < 1 := (y 1).isLt
    have y2 : (y 2).val < 128 := (y 2).isLt
    have hy : (y : S1x1x128.Idx) = ix3 0 0 (⟨(y 2).val, y2⟩ : Fin 128) := by
      funext b
      match b with
      | ⟨0, _⟩ => exact Fin.ext (by show (y 0).val = 0; omega)
      | ⟨1, _⟩ => exact Fin.ext (by show (y 1).val = 0; omega)
      | ⟨2, _⟩ => rfl
    have hw := pay25_apply z (⟨(y 2).val, y2⟩ : Fin 128)
    rw [hz] at hw
    refine ((congrArg (k0_pay25 z) hy).trans hw).trans ?_
    unfold gL lse
    have h1 : ∀ e : S1x32x128.Idx, (Rect.unit (s := S1x32x128) ![0, 4 * k.val + a.val, 0] S1x1x128.size inb).emb y = e →
        e 1 = hd k a ∧ e 2 = (⟨(y 2).val, y2⟩ : Fin 128) := by
      rintro e rfl
      exact ⟨Fin.ext (by show 4 * k.val + a.val + 1 * (y 1).val = 4 * k.val + a.val; omega), Fin.ext (by show 0 + 1 * (y 2).val = (y 2).val; omega)⟩
    obtain ⟨e1, e2⟩ := h1 _ rfl
    rw [e1, e2]
  · rw [Rect.mem_set_unit]
    have y0 : (y 0).val < 1 := (y 0).isLt
    have y2 : (y 2).val < 128 := (y 2).isLt
    intro b
    match b with
    | ⟨0, _⟩ => exact ⟨Nat.zero_le _, by show (y 0).val < 0 + 1; omega⟩
    | ⟨1, _⟩ => exact ⟨by show 4 * k.val + a.val ≤ (y 1).val; omega, by show (y 1).val < 4 * k.val + a.val + 1; omega⟩
    | ⟨2, _⟩ => exact ⟨Nat.zero_le _, by show (y 2).val < 0 + 128; omega⟩

theorem stepL (x : In) (bias : Fin 128 → Fin 128 → EReal) (i : Fin 2) (m : Memref sig .tc .vmem S1x32x128 .f32) (f : BufTy.Contents (Elt Ideal) m.view.ty)
    (k : Fin k0_t2_loop.trips) (a : Fin 4) (z : FVec Ideal S128x128 .f32) (hz : ∀ r, (fun c => z (ix2 c r)) = zcol x bias i (hd k a) r)
    (L : List (View.Piece (Elt Ideal) S1x32x128 .f32)) (inb)
    (h : PL x bias i m (4 * k.val + a.val) (m.view.writes (Elt Ideal) f L)) :
    PL x bias i m (4 * k.val + (a.val + 1)) (m.view.writes (Elt Ideal) f
      (⟨Rect.unit (s := S1x32x128) (k0_off5 k (BitVec.ofNat 32 a.val)) S1x1x128.size inb, k0_pay25 z⟩ :: L)) :=
  stepL_aux x bias i m f k a z hz L _ (off5_eq k a) inb h

/-! ## The four heads' outputs, transposed -/

theorem stepG (x : In) (bias : Fin 128 → Fin 128 → EReal) (i : Fin 2) (m : Memref sig .tc .vmem S640x128 .f32) (f : BufTy.Contents (Elt Ideal) m.view.ty)
    (k : Fin k0_t2_loop.trips) (a : Fin 4) (z : FVec Ideal S128x128 .f32) (hz : ∀ r, (fun c => z (ix2 c r)) = zcol x bias i (hd k a) r)
    (v : FVec Ideal S1x1x160x128 .fp8e4m3) (hv : ∀ d c, v (ix4 0 0 d c) = x.v (ix4 0 (hd k a) d c)) (s : EReal) (hs : s = x.s (ix2 i (hd k a)))
    (L : List (View.Piece (Elt Ideal) S640x128 .f32)) (inb)
    (h : ∀ y : S640x128.Idx, (y 0).val < 160 * a.val → m.view.read (Elt Ideal) (m.view.writes (Elt Ideal) f L) y = gG x bias i k y) :
    ∀ y : S640x128.Idx, (y 0).val < 160 * (a.val + 1) → m.view.read (Elt Ideal) (m.view.writes (Elt Ideal) f
      (⟨Rect.unit (s := S640x128) ![160 * a.val, 0] S160x128.size inb, k0_pay30 (F := Ideal) (k0_pay26 z v) (k0_pay27 z) (k0_pay28 z s) k0_pay29⟩ :: L)) y
        = gG x bias i k y := by
  have hk := trips_lt k
  have ha := a.isLt
  refine read_cons m.view f (gG x bias i k) _ _ _ _ L h (fun y => ?_) (fun y hy hn => ?_)
  · have y0 : (y 0).val < 160 := (y 0).isLt
    have y1 : (y 1).val < 128 := (y 1).isLt
    have hy : (y : S160x128.Idx) = ix2 (⟨(y 0).val, y0⟩ : Fin 160) (⟨(y 1).val, y1⟩ : Fin 128) := by
      funext b
      match b with
      | ⟨0, _⟩ => rfl
      | ⟨1, _⟩ => rfl
    have hw := pay30_apply z v s (⟨(y 0).val, y0⟩ : Fin 160) (⟨(y 1).val, y1⟩ : Fin 128)
    rw [hz, hs] at hw
    simp only [hv] at hw
    refine ((congrArg (k0_pay30 (F := Ideal) (k0_pay26 z v) (k0_pay27 z) (k0_pay28 z s) k0_pay29) hy).trans ?_).trans
      (hw.trans ?_)
    · rw [hs]
    unfold gG out
    have h1 : ∀ e : S640x128.Idx, (Rect.unit (s := S640x128) ![160 * a.val, 0] S160x128.size inb).emb y = e →
        (e 0).val = 160 * a.val + (y 0).val ∧ e 1 = (⟨(y 1).val, y1⟩ : Fin 128) := by
      rintro e rfl
      exact ⟨by show 160 * a.val + 1 * (y 0).val = _; omega, Fin.ext (by show 0 + 1 * (y 1).val = (y 1).val; omega)⟩
    generalize (Rect.unit (s := S640x128) ![160 * a.val, 0] S160x128.size inb).emb y = e at *
    obtain ⟨e0, e1⟩ := h1 _ rfl
    have e2 : (⟨4 * k.val + (e 0).val / 160, by omega⟩ : Fin 32) = hd k a := Fin.ext (by show 4 * k.val + (e 0).val / 160 = 4 * k.val + a.val; omega)
    have e3 : (⟨(e 0).val % 160, by omega⟩ : Fin 160) = ⟨(y 0).val, y0⟩ := Fin.ext (by show (e 0).val % 160 = (y 0).val; omega)
    rw [e1, e3]
    simp only [e2]
  · rw [Rect.mem_set_unit]
    have y1 : (y 1).val < 128 := (y 1).isLt
    intro b
    match b with
    | ⟨0, _⟩ => exact ⟨by show 160 * a.val ≤ (y 0).val; omega, by show (y 0).val < 160 * a.val + 160; omega⟩
    | ⟨1, _⟩ => exact ⟨Nat.zero_le _, by show (y 1).val < 0 + 128; omega⟩

/-! ## The output -/

def PO (x : In) (bias : Fin 128 → Fin 128 → EReal) (i : Fin 2) (m : Memref sig .tc .vmem S1x128x5120 .bf16) (n : ℕ) (f : BufTy.Contents (Elt Ideal) m.view.ty) : Prop :=
  ∀ y : S1x128x5120.Idx, (y 2).val < n → m.view.read (Elt Ideal) f y = gO x bias i y

theorem pay119_apply (w : FVec Ideal S128x128 .f32) (r j : Fin 128) : k0_pay119 (F := Ideal) w (ix3 0 r j) = w (ix2 j r) := by
  pointwise [k0_pay119]

theorem stepO_aux (x : In) (bias : Fin 128 → Fin 128 → EReal) (i : Fin 2) (m : Memref sig .tc .vmem S1x128x5120 .bf16) (f : BufTy.Contents (Elt Ideal) m.view.ty)
    (k : Fin k0_t2_loop.trips) (a : Fin 5) (w : FVec Ideal S128x128 .f32)
    (hw : ∀ j r : Fin 128, w (ix2 j r) = gG x bias i ⟨k.val, trips_lt k⟩ (ix2 ⟨128 * a.val + j.val, by omega⟩ r))
    (L : List (View.Piece (Elt Ideal) S1x128x5120 .bf16)) (off : Fin 3 → ℕ) (hoff : off = ![0, 0, 640 * k.val + 128 * a.val]) (inb)
    (h : PO x bias i m (640 * k.val + 128 * a.val) (m.view.writes (Elt Ideal) f L)) :
    PO x bias i m (640 * k.val + 128 * (a.val + 1)) (m.view.writes (Elt Ideal) f (⟨Rect.unit (s := S1x128x5120) off S1x128x128.size inb, k0_pay119 (F := Ideal) w⟩ :: L)) := by
  subst hoff
  have hk := trips_lt k
  have ha := a.isLt
  refine read_cons m.view f (gO x bias i) _ _ _ _ L h (fun y => ?_) (fun y hy hn => ?_)
  · have y0 : (y 0).val < 1 := (y 0).isLt
    have y1 : (y 1).val < 128 := (y 1).isLt
    have y2 : (y 2).val < 128 := (y 2).isLt
    have hy : (y : S1x128x128.Idx) = ix3 0 (⟨(y 1).val, y1⟩ : Fin 128) (⟨(y 2).val, y2⟩ : Fin 128) := by
      funext b
      match b with
      | ⟨0, _⟩ => exact Fin.ext (by show (y 0).val = 0; omega)
      | ⟨1, _⟩ => rfl
      | ⟨2, _⟩ => rfl
    refine (congrArg (k0_pay119 (F := Ideal) w) hy).trans ((pay119_apply w _ _).trans ((hw _ _).trans ?_))
    unfold gG gO
    have h1 : ∀ e : S1x128x5120.Idx, (Rect.unit (s := S1x128x5120) ![0, 0, 640 * k.val + 128 * a.val] S1x128x128.size inb).emb y = e →
        e 1 = (⟨(y 1).val, y1⟩ : Fin 128) ∧ (e 2).val = 640 * k.val + 128 * a.val + (y 2).val := by
      rintro e rfl
      exact ⟨Fin.ext (by show 0 + 1 * (y 1).val = (y 1).val; omega), by show 640 * k.val + 128 * a.val + 1 * (y 2).val = _; omega⟩
    generalize (Rect.unit (s := S1x128x5120) ![0, 0, 640 * k.val + 128 * a.val] S1x128x128.size inb).emb y = e at *
    obtain ⟨e1, e2⟩ := h1 _ rfl
    rw [e1]
    congr 1
    · exact Fin.ext (by show 4 * k.val + (128 * a.val + (y 2).val) / 160 = (e 2).val / 160; omega)
    · exact Fin.ext (by show (128 * a.val + (y 2).val) % 160 = (e 2).val % 160; omega)
  · rw [Rect.mem_set_unit]
    have y0 : (y 0).val < 1 := (y 0).isLt
    have y1 : (y 1).val < 128 := (y 1).isLt
    intro b
    match b with
    | ⟨0, _⟩ => exact ⟨Nat.zero_le _, by show (y 0).val < 0 + 1; omega⟩
    | ⟨1, _⟩ => exact ⟨Nat.zero_le _, by show (y 1).val < 0 + 128; omega⟩
    | ⟨2, _⟩ => exact ⟨by show 640 * k.val + 128 * a.val ≤ (y 2).val; omega, by show (y 2).val < 640 * k.val + 128 * a.val + 128; omega⟩

theorem stepO (x : In) (bias : Fin 128 → Fin 128 → EReal) (i : Fin 2) (m : Memref sig .tc .vmem S1x128x5120 .bf16) (f : BufTy.Contents (Elt Ideal) m.view.ty)
    (k : Fin k0_t2_loop.trips) (a : Fin 5) (w : FVec Ideal S128x128 .f32)
    (hw : ∀ j r : Fin 128, w (ix2 j r) = gG x bias i ⟨k.val, trips_lt k⟩ (ix2 ⟨128 * a.val + j.val, by omega⟩ r))
    (L : List (View.Piece (Elt Ideal) S1x128x5120 .bf16)) (inb)
    (h : PO x bias i m (640 * k.val + 128 * a.val) (m.view.writes (Elt Ideal) f L)) :
    PO x bias i m (640 * k.val + 128 * (a.val + 1)) (m.view.writes (Elt Ideal) f
      (⟨Rect.unit (s := S1x128x5120) (k0_off6 k (BitVec.ofNat 32 (128 * a.val))) S1x128x128.size inb, k0_pay119 (F := Ideal) w⟩ :: L)) :=
  stepO_aux x bias i m f k a w hw L _ (off6_eq k a) inb h

end Cert.KernelIdeal.Val
-- ==== Proof.Val.T1.lean ====
/-
  Hand-written. `KernelIdeal`'s edge-counting loop over the reals: after `k` trips entry `(c, r)` of the mask counts the edges below
  `128 k` that row `r` has at column `c`.
-/
module

public import proofs.«01_k».proof.Proof.Gen.KernelIdeal.Loops
public import proofs.«01_k».proof.Proof.Gen.KernelIdeal.Skeleton
public import proofs.«01_k».proof.Proof.Gen.KernelIdeal.Frame
public import proofs.«01_k».proof.Proof.Val.Spec
public import Idealize.ShloMosaic.Lib.Tactic
public import Idealize.ShloMosaic.Lib.Pointwise

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Edge `e` lies in the row whose first edge is `lo` and whose next row's first edge is `hi`. -/
def InRow (lo hi : BitVec 32) (e : ℕ) : Prop := lo.toInt ≤ (e : ℤ) ∧ (e : ℤ) < hi.toInt

/-- A number that counts something, and is positive exactly when `P` holds of something counted. -/
def Counts (x : EReal) (P : Prop) : Prop := ∃ n : ℕ, x = (n : EReal) ∧ (0 < n ↔ P)

theorem sum_counts {N : ℕ} (f : Fin N → EReal) (P : Fin N → Prop) (h : ∀ j, Counts (f j) (P j)) : Counts (∑ j, f j) (∃ j, P j) := by
  choose n hn hp using h
  refine ⟨∑ j, n j, ?_, ?_⟩
  · rw [Finset.sum_congr rfl fun j _ => hn j]
    induction (Finset.univ : Finset (Fin N)) using Finset.induction_on with
    | empty => simp
    | insert a s ha ih => rw [Finset.sum_insert ha, Finset.sum_insert ha, ih, Nat.cast_add]
  · simp only [Finset.sum_pos_iff, Finset.mem_univ, true_and, hp]

theorem Counts.add {x y : EReal} {P Q : Prop} (hx : Counts x P) (hy : Counts y Q) : Counts (x + y) (P ∨ Q) := by
  obtain ⟨n, rfl, hn⟩ := hx
  obtain ⟨k, rfl, hk⟩ := hy
  exact ⟨n + k, (Nat.cast_add n k).symm, by rw [← hn, ← hk]; omega⟩

theorem Counts.mul {x y : EReal} {P Q : Prop} (hx : Counts x P) (hy : Counts y Q) : Counts (x * y) (P ∧ Q) := by
  obtain ⟨n, rfl, hn⟩ := hx
  obtain ⟨k, rfl, hk⟩ := hy
  exact ⟨n * k, (EReal.natCast_mul n k).symm, by rw [← hn, ← hk]; exact CanonicallyOrderedAdd.mul_pos⟩

theorem ind_counts (b : BitVec 1) : Counts (FloatOps.sitofp (F := Ideal) FTy.f32 (BitVec.setWidth 32 b)) (b = 1#1) := by
  rcases BitVec.eq_zero_or_eq_one b with rfl | rfl
  · exact ⟨0, by show (((BitVec.setWidth 32 0#1).toInt : ℝ) : EReal) = _; simp, by simp⟩
  · exact ⟨1, by show (((BitVec.setWidth 32 1#1).toInt : ℝ) : EReal) = _; simp [show ((1#32 : BitVec 32).toInt) = 1 from rfl], by simp⟩

theorem Counts.congr {x : EReal} {P Q : Prop} (h : Counts x P) (e : P ↔ Q) : Counts x Q := by
  obtain ⟨n, rfl, hn⟩ := h
  exact ⟨n, rfl, hn.trans e⟩

/-- One trip's update of the mask, at an entry. -/
theorem pay166_counts (v1 : IVec S128x128 32) (hv1 : ∀ j r, v1 (ix2 j r) = BitVec.ofNat 32 j.val) (v7 v8 : IVec S1x128 32) (k : Fin k0_t1_loop.trips)
    (v508 : Vec Ideal S1x128 .i32) (v525 : Vec Ideal S128x128 .f32) (c r : Fin 128) (P : Prop) (h : Counts (v525 (ix2 c r)) P) :
    Counts (k0_pay166 (F := Ideal) v1 v7 v8 0#32 k v508 v525 (ix2 c r))
      (P ∨ ∃ j : Fin 128, v508 (ix2 0 j) = BitVec.ofNat 32 c.val ∧ InRow (v7 (ix2 0 r)) (v8 (ix2 0 r)) (128 * k.val + j.val)) := by
  pointwise [k0_pay166, hv1]
  refine h.add ((sum_counts _ _ fun x => (ind_counts _).mul (ind_counts _)).congr (exists_congr fun x => and_congr ?_ ?_))
  · simp only [IntOp.cmpi]
    rcases Decidable.em (BitVec.ofNat 32 c.val = v508 (ix2 0 x)) with he | he
    · rw [he]; simp
    · have hb : (BitVec.ofNat 32 c.val == v508 (ix2 0 x)) = false := beq_false_of_ne he
      rw [hb]
      exact iff_of_false (by decide) (Ne.symm he)
  · have hk : k.val < 24 := Nat.lt_of_lt_of_le k.isLt k0_t1_abs.2.1
    have e : IntOp.addi (BitVec.ofNat 32 x.val) (Scalar.muli (Scf.iv 0#32 1#32 k.val) 128#32) = BitVec.ofNat 32 (128 * k.val + x.val) := by
      have hx := x.isLt
      generalize x.val = a at *
      generalize k.val = b at *
      apply BitVec.eq_of_toNat_eq
      simp [IntOp.addi, Scalar.muli, IntOp.muli, Scf.iv]
      omega
    rw [e]
    simp only [IntOp.cmpi, IntOp.andi, InRow]
    have hi : (BitVec.ofNat 32 (128 * k.val + x.val)).toInt = ((128 * k.val + x.val : ℕ) : ℤ) := by
      have hx := x.isLt
      generalize x.val = a at *
      generalize k.val = b at *
      rw [BitVec.toInt_eq_toNat_of_lt] <;> rw [BitVec.toNat_ofNat] <;> omega
    rw [BitVec.sle_eq_decide, BitVec.slt_eq_decide, hi]
    by_cases h1 : (v7 (ix2 0 r)).toInt ≤ ((128 * k.val + x.val : ℕ) : ℤ) <;> by_cases h2 : ((128 * k.val + x.val : ℕ) : ℤ) < (v8 (ix2 0 r)).toInt <;>
      simp only [h1, h2] <;> decide

/-- The mask from the counts. -/
theorem pay167_counts (x : Vec Ideal S128x128 .f32) (c r : Fin 128) (P : Prop) [Decidable P] (h : Counts (x (ix2 c r)) P) :
    k0_pay167 (F := Ideal) x (ix2 c r) = if P then 0 else ⊥ := by
  obtain ⟨n, hn, hp⟩ := h
  pointwise [k0_pay167, hn]
  have h5 : Ideal.ofBits FTy.f32 1056964608#32 = ((1 / 2 : ℝ) : EReal) := by
    simp [Ideal.ofBits, Ideal.ieee]
    rw [← EReal.coe_mul]
    norm_num
  have hb : Ideal.ofBits FTy.f32 4286578688#32 = (⊥ : EReal) := by simp [Ideal.ofBits, Ideal.ieee]
  rw [h5, hb]
  refine if_congr ?_ rfl rfl
  rw [← hp]
  have hc : ((n : EReal)) = ((n : ℝ) : EReal) := by norm_cast
  rw [hc, EReal.coe_lt_coe_iff]
  constructor
  · intro h
    by_contra h0
    have : n = 0 := by omega
    subst this
    norm_num at h
  · intro h
    have : (1 : ℝ) ≤ (n : ℝ) := by exact_mod_cast h
    linarith

/-- What the mask holds after `n` blocks of edges. -/
def PB (m17 : Memref sig .tc .vmem S24x128 .i32) (X17 : BufTy.Contents (Elt Ideal) m17.view.ty) (v7 v8 : IVec S1x128 32)
    (m : Memref sig .tc .vmem S128x128 .f32) (n : ℕ) (f : BufTy.Contents (Elt Ideal) m.view.ty) : Prop :=
  ∀ c r : Fin 128, Counts (m.view.read (Elt Ideal) f (ix2 c r))
    (∃ (b : Fin 24) (j : Fin 128), b.val < n ∧ m17.view.read (Elt Ideal) X17 (ix2 b j) = BitVec.ofNat 32 c.val
      ∧ InRow (v7 (ix2 0 r)) (v8 (ix2 0 r)) (128 * b.val + j.val))

theorem off1_eq : ∀ k : Fin k0_t1_loop.trips, k0_off1 k = ![k.val, 0] := by decide +kernel

theorem PB_zero (m17 : Memref sig .tc .vmem S24x128 .i32) (X17 : BufTy.Contents (Elt Ideal) m17.view.ty) (v7 v8 : IVec S1x128 32)
    (m : Memref sig .tc .vmem S128x128 .f32) (f : BufTy.Contents (Elt Ideal) m.view.ty) (h : ∀ y, m.view.read (Elt Ideal) f y = 0) :
    PB m17 X17 v7 v8 m 0 f := fun c r => ⟨0, by rw [h]; simp, by simp⟩

theorem PB_succ (m17 : Memref sig .tc .vmem S24x128 .i32) (X17 : BufTy.Contents (Elt Ideal) m17.view.ty) (v1 : IVec S128x128 32)
    (hv1 : ∀ j r, v1 (ix2 j r) = BitVec.ofNat 32 j.val) (v7 v8 : IVec S1x128 32)
    (m : Memref sig .tc .vmem S128x128 .f32) (k : Fin k0_t1_loop.trips) (f : BufTy.Contents (Elt Ideal) m.view.ty) (inb inb' inb'')
    (h : PB m17 X17 v7 v8 m k.val f) :
    PB m17 X17 v7 v8 m (k.val + 1) (m.view.writes (Elt Ideal) f [⟨Rect.unit (s := S128x128) ![0, 0] S128x128.size inb,
      k0_pay166 (F := Ideal) v1 v7 v8 0#32 k
        (View.readAt (Elt Ideal) m17.view (Rect.unit (s := S24x128) (k0_off1 k) S1x128.size inb').toLoadRect X17)
        (View.readAt (Elt Ideal) m.view (Rect.unit (s := S128x128) ![0, 0] S128x128.size inb'').toLoadRect f)⟩]) := by
  intro c r
  have hk : k.val < 24 := Nat.lt_of_lt_of_le k.isLt k0_t1_abs.2.1
  have hemb : (Rect.unit (s := S128x128) ![0, 0] S128x128.size inb).emb (ix2 c r) = ix2 c r := by
    funext a
    apply Fin.ext
    match a with
    | ⟨0, _⟩ => show 0 + 1 * c.val = c.val; omega
    | ⟨1, _⟩ => show 0 + 1 * r.val = r.val; omega
  have hr := View.read_writes_cons_emb m.view f (Rect.unit (s := S128x128) ![0, 0] S128x128.size inb) (k0_pay166 (F := Ideal) v1 v7 v8 0#32 k
        (View.readAt (Elt Ideal) m17.view (Rect.unit (s := S24x128) (k0_off1 k) S1x128.size inb').toLoadRect X17)
        (View.readAt (Elt Ideal) m.view (Rect.unit (s := S128x128) ![0, 0] S128x128.size inb'').toLoadRect f)) [] (ix2 c r)
  rw [hemb] at hr
  rw [hr]
  refine (pay166_counts v1 hv1 v7 v8 k _ _ c r (∃ (b : Fin 24) (j : Fin 128), b.val < k.val ∧ m17.view.read (Elt Ideal) X17 (ix2 b j) = BitVec.ofNat 32 c.val
      ∧ InRow (v7 (ix2 0 r)) (v8 (ix2 0 r)) (128 * b.val + j.val)) ?_).congr ?_
  · rw [readAt_unit_eq m.view f inb'' (ix2 c r) (ix2 c r) (fun a => by
      match a with
      | ⟨0, _⟩ => exact (Nat.zero_add _).symm
      | ⟨1, _⟩ => exact (Nat.zero_add _).symm)]
    exact h c r
  · have e : ∀ j : Fin 128, View.readAt (Elt Ideal) m17.view (Rect.unit (s := S24x128) (k0_off1 k) S1x128.size inb').toLoadRect X17 (ix2 0 j)
        = m17.view.read (Elt Ideal) X17 (ix2 ⟨k.val, hk⟩ j) := fun j => readAt_unit_eq m17.view X17 inb' _ _ (fun a => by
      rw [off1_eq]
      match a with
      | ⟨0, _⟩ => rfl
      | ⟨1, _⟩ => exact (Nat.zero_add _).symm)
    simp only [e]
    constructor
    · rintro (⟨b, j, hb, h1, h2⟩ | ⟨j, h1, h2⟩)
      · exact ⟨b, j, by omega, h1, h2⟩
      · exact ⟨⟨k.val, hk⟩, j, Nat.lt_succ_self _, h1, h2⟩
    · rintro ⟨b, j, hb, h1, h2⟩
      rcases Nat.lt_succ_iff_lt_or_eq.mp hb with hb | hb
      · exact .inl ⟨b, j, hb, h1, h2⟩
      · have : b = ⟨k.val, hk⟩ := Fin.ext hb
        subst this
        exact .inr ⟨j, h1, h2⟩

local notation "𝕄G" => MT nD τ sig Unit (Elt Ideal) ℕ (UR sig nD τ) ℕ

set_option warn.classDefReducibility false in
set_option maxHeartbeats 4000000 in
/-- The loop over the blocks of edges, by the mask it builds. -/
@[sl_loop] def loopInv_k0_t1V (𝒱 : Variants) (c : Dev nD) (bd : Option 𝒱.V) (E : Set ℕ) (i : grid0.Coords) (arg1 : Memref sig .tc .smem S2x129 .i32) (harg1 : arg1.IsWhole) (arg2 : Memref sig .tc .smem S2x32 .f32) (harg2 : arg2.IsWhole) (arg3 : Memref sig .tc .smem S2x32 .f32) (harg3 : arg3.IsWhole) (arg4 : Memref sig .tc .smem S2x32 .f32) (harg4 : arg4.IsWhole) (arg5 : Memref sig .tc .vmem S1x32x160x128 .fp8e4m3) (harg5 : arg5.IsWhole) (arg6 : Memref sig .tc .vmem S1x32x160x128 .fp8e4m3) (harg6 : arg6.IsWhole) (arg7 : Memref sig .tc .vmem S1x32x160x128 .fp8e4m3) (harg7 : arg7.IsWhole) (arg8 : Memref sig .tc .vmem S2x129 .i32) (harg8 : arg8.IsWhole) (arg9 : Memref sig .tc .vmem S2x3072 .i32) (harg9 : arg9.IsWhole) (arg10 : Memref sig .tc .vmem S1x128x5120 .bf16) (harg10 : arg10.IsWhole) (arg11 : Memref sig .tc .vmem S1x32x3072 .f32) (harg11 : arg11.IsWhole) (arg12 : Memref sig .tc .vmem S1x32x128 .f32) (harg12 : arg12.IsWhole) (arg13 : Memref sig .tc .vmem S4608x128 .f32) (harg13 : arg13.IsWhole) (arg14 : Memref sig .tc .vmem S32x3328 .f32) (harg14 : arg14.IsWhole) (arg15 : Memref sig .tc .vmem S128x128 .f32) (harg15 : arg15.IsWhole) (arg16 : Memref sig .tc .vmem S640x128 .f32) (harg16 : arg16.IsWhole) (arg17 : Memref sig .tc .vmem S24x128 .i32) (harg17 : arg17.IsWhole) (arg0 : BitVec 32) (v0 : IVec S1x128 32) (v1 : IVec S128x128 32) (v7 : IVec S1x128 32) (v8 : IVec S1x128 32) (c0_i32_77 : BitVec 32)
    (X17 : BufTy.Contents (Elt Ideal) arg17.view.ty) (G15 : BufTy.Contents (Elt Ideal) arg15.view.ty) :
    LoopInvTy_k0_t1 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v0 v1 v7 v8 c0_i32_77 where
  inv k _ := iprop((arg17.view.loc (c : Thread nD τ) ↦[arg17.view.set]{fullShare} X17)
    ∗ (∃ f, (arg15.view.loc (c : Thread nD τ) ↦[arg15.view.set]{fullShare} f)
      ∗ ⌜K0 k f arg15.view.junk = K0 k G15 arg15.view.junk⌝ ∗ ⌜Since k ((∀ j r, v1 (ix2 j r) = BitVec.ofNat 32 j.val) → c0_i32_77 = 0#32 → (∀ y, arg15.view.read (Elt Ideal) G15 y = 0) →
          PB arg17 X17 v7 v8 arg15 k f) = True⌝))
  step k acc := by
    have hk : k.val < 24 := Nat.lt_of_lt_of_le k.isLt k0_t1_abs.2.1
    unfold k0_t1_body
    iintro ⟨H17, ⟨%f15, H15, %hz15, %h15⟩⟩
    sl_exec
    sl_step
    isplitl [H17]; iexact H17
    iexists _
    isplitl [H15]; iexact H15
    isplitr
    · ipureintro; rfl
    ipureintro
    refine Since.mk fun hv1 h0 hz => ?_
    subst h0
    refine PB_succ arg17 X17 v1 hv1 v7 v8 arg15 k f15 _ _ _ ?_
    rcases Nat.eq_zero_or_pos k.val with e | e
    · have e15 : f15 = G15 := by rw [e] at hz15; exact hz15
      rw [e, e15]
      exact PB_zero _ _ _ _ _ _ hz
    · exact Since.get h15 e hv1 rfl hz

end Cert.KernelIdeal.Val
-- ==== Proof.Val.T2.lean ====
/-
  Hand-written. `KernelIdeal`'s head-group loop over the reals: after `k` trips the scores, the log-sum-exp rows and the output
  columns of the first `4 k` heads are the ones the specification states.
-/
module

public import proofs.«01_k».proof.Proof.Gen.KernelIdeal.Loops
public import proofs.«01_k».proof.Proof.Gen.KernelIdeal.Skeleton
public import proofs.«01_k».proof.Proof.Gen.KernelIdeal.Frame
public import proofs.«01_k».proof.Proof.Val.Spec
public import Idealize.ShloMosaic.Lib.Tactic

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section

variable (arg2 arg3 arg4 : Memref sig .tc .smem S2x32 .f32) (arg5 arg6 arg7 : Memref sig .tc .vmem S1x32x160x128 .fp8e4m3)
  (arg15 : Memref sig .tc .vmem S128x128 .f32)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty) (X7 : BufTy.Contents (Elt Ideal) arg7.view.ty)
  (X15 : BufTy.Contents (Elt Ideal) arg15.view.ty) (i : grid0.Coords) (k : Fin k0_t2_loop.trips) (a : Fin 4)

/-- The bias the head-group loop reads, off its buffer. -/
def biasOf (c r : Fin 128) : EReal := arg15.view.read (Elt Ideal) X15 (ix2 c r)

/-- A part's scores, as it computes them. -/
def Shead : FVec Ideal S128x128 .f32 :=
  k0_pay3 (F := Ideal)
    (View.readAt (Elt Ideal) arg5.view (Rect.unit (s := S1x32x160x128) (k0_off2 k (BitVec.ofNat 32 a.val)) S1x1x160x128.size (k0_off2_inb k a)).toLoadRect X5)
    (View.readAt (Elt Ideal) arg6.view (Rect.unit (s := S1x32x160x128) (k0_off2 k (BitVec.ofNat 32 a.val)) S1x1x160x128.size (k0_off2_inb k a)).toLoadRect X6)
    (View.readAt (Elt Ideal) arg2.view (Rect.unit (s := S2x32) (k0_off3 i k (BitVec.ofNat 32 a.val)) S1x1.size (k0_off3_inb i k a)).toLoadRect X2 (Shape.Idx.first (s := S1x1) (by decide)))
    (View.readAt (Elt Ideal) arg3.view (Rect.unit (s := S2x32) (k0_off3 i k (BitVec.ofNat 32 a.val)) S1x1.size (k0_off3_inb i k a)).toLoadRect X3 (Shape.Idx.first (s := S1x1) (by decide)))

theorem Shead_apply (r c : Fin 128) : Shead arg2 arg3 arg5 arg6 X2 X3 X5 X6 i k a (ix2 r c)
    = score (inOf arg2 arg3 arg4 arg5 arg6 arg7 X2 X3 X4 X5 X6 X7) (ci i) (hd k a) r c :=
  head_score arg2 arg3 arg4 arg5 arg6 arg7 X2 X3 X4 X5 X6 X7 i k a _ _ _ _ _ _ r c

/-- A part's biased scores, as it computes them. -/
def Zhead : FVec Ideal S128x128 .f32 :=
  k0_pay21 (F := Ideal) (Shead arg2 arg3 arg5 arg6 X2 X3 X5 X6 i k a)
    (View.readAt (Elt Ideal) arg15.view (Rect.unit (s := S128x128) ![0, 0] S128x128.size inb_S128x128_S128x128_0_0).toLoadRect X15)

theorem Zhead_apply (r : Fin 128) : (fun c => Zhead arg2 arg3 arg5 arg6 arg15 X2 X3 X5 X6 X15 i k a (ix2 c r))
    = zcol (inOf arg2 arg3 arg4 arg5 arg6 arg7 X2 X3 X4 X5 X6 X7) (biasOf arg15 X15) (ci i) (hd k a) r := by
  funext c
  refine (pay21_apply _ _ c r).trans (congrArg₂ (· + ·) (Shead_apply arg2 arg3 arg4 arg5 arg6 arg7 X2 X3 X4 X5 X6 X7 i k a r c) ?_)
  refine readAt_unit_eq arg15.view X15 _ _ _ fun b => ?_
  match b with
  | ⟨0, _⟩ => exact (Nat.zero_add _).symm
  | ⟨1, _⟩ => exact (Nat.zero_add _).symm

/-- A part's codes of v, as it loads them. -/
def Vhead : FVec Ideal S1x1x160x128 .fp8e4m3 :=
  View.readAt (Elt Ideal) arg7.view (Rect.unit (s := S1x32x160x128) (k0_off2 k (BitVec.ofNat 32 a.val)) S1x1x160x128.size (k0_off2_inb k a)).toLoadRect X7

/-- A part's scale of v, as it loads it. -/
def shead : EReal :=
  View.readAt (Elt Ideal) arg4.view (Rect.unit (s := S2x32) (k0_off3 i k (BitVec.ofNat 32 a.val)) S1x1.size (k0_off3_inb i k a)).toLoadRect X4 (Shape.Idx.first (s := S1x1) (by decide))

theorem slT : ∀ j : Fin 16, S128x128.Slices ![8 * j.val, 0] S8x128 := by decide

/-- A block of the four heads' outputs, read back. -/
theorem covG (x : In) (bias : Fin 128 → Fin 128 → EReal) (i : Fin 2) (m : Memref sig .tc .vmem S640x128 .f32) (k : Fin k0_t2_loop.trips) (a : Fin 5)
    (L : List (View.Piece (Elt Ideal) S640x128 .f32)) (inb)
    (h : ∀ y : S640x128.Idx, (y 0).val < 160 * (((3 : Fin 4) : ℕ) + 1) → m.view.read (Elt Ideal) (m.view.writes (Elt Ideal) m.view.junk L) y = gG x bias i ⟨k.val, trips_lt k⟩ y)
    (j r : Fin 128) :
    m.view.readCov L (Rect.unit (s := S640x128) ![128 * a.val, 0] S128x128.size inb).toLoadRect (ix2 j r)
      = gG x bias i ⟨k.val, trips_lt k⟩ (ix2 ⟨128 * a.val + j.val, by omega⟩ r) := by
  refine (readAt_unit_eq m.view _ inb _ _ fun b => ?_).trans (h _ ?_)
  · match b with
    | ⟨0, _⟩ => rfl
    | ⟨1, _⟩ => exact (Nat.zero_add _).symm
  · show 128 * a.val + j.val < 160 * (3 + 1)
    omega

end

local notation "𝕄G" => MT nD τ sig Unit (Elt Ideal) ℕ (UR sig nD τ) ℕ

set_option warn.classDefReducibility false in
set_option maxHeartbeats 400000000 in
/-- The loop over the head groups, by what it writes. -/
@[sl_loop] def loopInv_k0_t2 (𝒱 : Variants) (c : Dev nD) (bd : Option 𝒱.V) (E : Set ℕ) (i : grid0.Coords) (arg1 : Memref sig .tc .smem S2x129 .i32) (harg1 : arg1.IsWhole) (arg2 : Memref sig .tc .smem S2x32 .f32) (harg2 : arg2.IsWhole) (arg3 : Memref sig .tc .smem S2x32 .f32) (harg3 : arg3.IsWhole) (arg4 : Memref sig .tc .smem S2x32 .f32) (harg4 : arg4.IsWhole) (arg5 : Memref sig .tc .vmem S1x32x160x128 .fp8e4m3) (harg5 : arg5.IsWhole) (arg6 : Memref sig .tc .vmem S1x32x160x128 .fp8e4m3) (harg6 : arg6.IsWhole) (arg7 : Memref sig .tc .vmem S1x32x160x128 .fp8e4m3) (harg7 : arg7.IsWhole) (arg8 : Memref sig .tc .vmem S2x129 .i32) (harg8 : arg8.IsWhole) (arg9 : Memref sig .tc .vmem S2x3072 .i32) (harg9 : arg9.IsWhole) (arg10 : Memref sig .tc .vmem S1x128x5120 .bf16) (harg10 : arg10.IsWhole) (arg11 : Memref sig .tc .vmem S1x32x3072 .f32) (harg11 : arg11.IsWhole) (arg12 : Memref sig .tc .vmem S1x32x128 .f32) (harg12 : arg12.IsWhole) (arg13 : Memref sig .tc .vmem S4608x128 .f32) (harg13 : arg13.IsWhole) (arg14 : Memref sig .tc .vmem S32x3328 .f32) (harg14 : arg14.IsWhole) (arg15 : Memref sig .tc .vmem S128x128 .f32) (harg15 : arg15.IsWhole) (arg16 : Memref sig .tc .vmem S640x128 .f32) (harg16 : arg16.IsWhole) (arg17 : Memref sig .tc .vmem S24x128 .i32) (harg17 : arg17.IsWhole) (arg0 : BitVec 32) (v0 : IVec S1x128 32) (v1 : IVec S128x128 32) (v7 : IVec S1x128 32) (v8 : IVec S1x128 32) (c0_i32_77 : BitVec 32)
    (X2 : BufTy.Contents (Elt Ideal) arg2.view.ty) (X3 : BufTy.Contents (Elt Ideal) arg3.view.ty) (X4 : BufTy.Contents (Elt Ideal) arg4.view.ty)
    (X5 : BufTy.Contents (Elt Ideal) arg5.view.ty) (X6 : BufTy.Contents (Elt Ideal) arg6.view.ty) (X7 : BufTy.Contents (Elt Ideal) arg7.view.ty)
    (X15 : BufTy.Contents (Elt Ideal) arg15.view.ty) :
    LoopInvTy_k0_t2 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v0 v1 v7 v8 c0_i32_77 where
  inv k _ := iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg15.view.loc (c : Thread nD τ) ↦[arg15.view.set]{fullShare} X15)
    ∗ (∃ f, (arg10.view.loc (c : Thread nD τ) ↦[arg10.view.set]{fullShare} f) ∗ ⌜Since k (PO (inOf arg2 arg3 arg4 arg5 arg6 arg7 X2 X3 X4 X5 X6 X7) (biasOf arg15 X15) (ci i) arg10 (640 * k) f) = True⌝)
    ∗ (∃ f, (arg12.view.loc (c : Thread nD τ) ↦[arg12.view.set]{fullShare} f) ∗ ⌜Since k (PL (inOf arg2 arg3 arg4 arg5 arg6 arg7 X2 X3 X4 X5 X6 X7) (biasOf arg15 X15) (ci i) arg12 (4 * k) f) = True⌝)
    ∗ (∃ f, (arg13.view.loc (c : Thread nD τ) ↦[arg13.view.set]{fullShare} f) ∗ ⌜Since k (PT (inOf arg2 arg3 arg4 arg5 arg6 arg7 X2 X3 X4 X5 X6 X7) (ci i) arg13 (fun y => (y 0).val % 36 < 4 * k) f) = True⌝)
    ∗ (∃ f, arg16.view.loc (c : Thread nD τ) ↦[arg16.view.set]{fullShare} f))
  step k acc := by
    have hk : k.val < 8 := Nat.lt_of_lt_of_le k.isLt k0_t2_abs.2.1
    unfold k0_t2_body
    iintro ⟨H2, H3, H4, H5, H6, H7, H15, ⟨%f10, H10, %g10⟩, ⟨%f12, H12, %g12⟩, ⟨%f13, H13, %g13⟩, ⟨%f16, H16⟩⟩
    have h10 := Since.get0 g10 (fun e => by rw [e]; exact fun y hy => absurd hy (Nat.not_lt_zero _))
    have h12 := Since.get0 g12 (fun e => by rw [e]; exact fun y hy => absurd hy (Nat.not_lt_zero _))
    have h13 := Since.get0 g13 (fun e => by rw [e]; exact fun y hy => absurd hy (Nat.not_lt_zero _))
    sl_exec
    sl_step
    let Sh : Fin 4 → FVec Ideal S128x128 .f32 := fun a => Shead arg2 arg3 arg5 arg6 X2 X3 X5 X6 i k a
    have hS : ∀ a r c, Sh a (ix2 r c) = score (inOf arg2 arg3 arg4 arg5 arg6 arg7 X2 X3 X4 X5 X6 X7) (ci i) (hd k a) r c := fun a r c => Shead_apply arg2 arg3 arg4 arg5 arg6 arg7 X2 X3 X4 X5 X6 X7 i k a r c
    let Zh : Fin 4 → FVec Ideal S128x128 .f32 := fun a => Zhead arg2 arg3 arg5 arg6 arg15 X2 X3 X5 X6 X15 i k a
    have hZ : ∀ a r, (fun c => Zh a (ix2 c r)) = zcol (inOf arg2 arg3 arg4 arg5 arg6 arg7 X2 X3 X4 X5 X6 X7) (biasOf arg15 X15) (ci i) (hd k a) r := fun a r => Zhead_apply arg2 arg3 arg4 arg5 arg6 arg7 arg15 X2 X3 X4 X5 X6 X7 X15 i k a r
    let Vh : Fin 4 → FVec Ideal S1x1x160x128 .fp8e4m3 := fun a => Vhead arg7 X7 k a
    have hV : ∀ a d c, Vh a (ix4 0 0 d c) = (inOf arg2 arg3 arg4 arg5 arg6 arg7 X2 X3 X4 X5 X6 X7).v (ix4 0 (hd k a) d c) := fun a d c => rd_codes arg7 X7 k a _ d c
    let sh : Fin 4 → EReal := fun a => shead arg4 X4 i k a
    have hs : ∀ a, sh a = (inOf arg2 arg3 arg4 arg5 arg6 arg7 X2 X3 X4 X5 X6 X7).s (ix2 (ci i) (hd k a)) := fun a => rd_scale arg4 X4 i k a _ _
    isplitl [H2]; iexact H2
    isplitl [H3]; iexact H3
    isplitl [H4]; iexact H4
    isplitl [H5]; iexact H5
    isplitl [H6]; iexact H6
    isplitl [H7]; iexact H7
    isplitl [H15]; iexact H15
    isplitl [H10]
    · iexists _
      isplitl [H10]; iexact H10
      ipureintro
      refine Since.mk ?_
      show PO (inOf arg2 arg3 arg4 arg5 arg6 arg7 X2 X3 X4 X5 X6 X7) (biasOf arg15 X15) (ci i) arg10 (640 * k.val + 128 * 5) _
      refine stepO (inOf arg2 arg3 arg4 arg5 arg6 arg7 X2 X3 X4 X5 X6 X7) (biasOf arg15 X15) (ci i) arg10 f10 k 4 _ (fun j r => covG (inOf arg2 arg3 arg4 arg5 arg6 arg7 X2 X3 X4 X5 X6 X7) (biasOf arg15 X15) (ci i) arg16 k 4 _ _ (stepG (inOf arg2 arg3 arg4 arg5 arg6 arg7 X2 X3 X4 X5 X6 X7) (biasOf arg15 X15) (ci i) arg16 _ k 3 (Zh 3) (hZ 3) (Vh 3) (hV 3) (sh 3) (hs 3) _ _ (stepG (inOf arg2 arg3 arg4 arg5 arg6 arg7 X2 X3 X4 X5 X6 X7) (biasOf arg15 X15) (ci i) arg16 _ k 2 (Zh 2) (hZ 2) (Vh 2) (hV 2) (sh 2) (hs 2) _ _ (stepG (inOf arg2 arg3 arg4 arg5 arg6 arg7 X2 X3 X4 X5 X6 X7) (biasOf arg15 X15) (ci i) arg16 _ k 1 (Zh 1) (hZ 1) (Vh 1) (hV 1) (sh 1) (hs 1) _ _ (stepG (inOf arg2 arg3 arg4 arg5 arg6 arg7 X2 X3 X4 X5 X6 X7) (biasOf arg15 X15) (ci i) arg16 _ k 0 (Zh 0) (hZ 0) (Vh 0) (hV 0) (sh 0) (hs 0) _ _ (fun y hy => absurd hy (Nat.not_lt_zero _)))))) j r) _ _ ?_
      refine stepO (inOf arg2 arg3 arg4 arg5 arg6 arg7 X2 X3 X4 X5 X6 X7) (biasOf arg15 X15) (ci i) arg10 f10 k 3 _ (fun j r => covG (inOf arg2 arg3 arg4 arg5 arg6 arg7 X2 X3 X4 X5 X6 X7) (biasOf arg15 X15) (ci i) arg16 k 3 _ _ (stepG (inOf arg2 arg3 arg4 arg5 arg6 arg7 X2 X3 X4 X5 X6 X7) (biasOf arg15 X15) (ci i) arg16 _ k 3 (Zh 3) (hZ 3) (Vh 3) (hV 3) (sh 3) (hs 3) _ _ (stepG (inOf arg2 arg3 arg4 arg5 arg6 arg7 X2 X3 X4 X5 X6 X7) (biasOf arg15 X15) (ci i) arg16 _ k 2 (Zh 2) (hZ 2) (Vh 2) (hV 2) (sh 2) (hs 2) _ _ (stepG (inOf arg2 arg3 arg4 arg5 arg6 arg7 X2 X3 X4 X5 X6 X7) (biasOf arg15 X15) (ci i) arg16 _ k 1 (Zh 1) (hZ 1) (Vh 1) (hV 1) (sh 1) (hs 1) _ _ (stepG (inOf arg2 arg3 arg4 arg5 arg6 arg7 X2 X3 X4 X5 X6 X7) (biasOf arg15 X15) (ci i) arg16 _ k 0 (Zh 0) (hZ 0) (Vh 0) (hV 0) (sh 0) (hs 0) _ _ (fun y hy => absurd hy (Nat.not_lt_zero _)))))) j r) _ _ ?_
      refine stepO (inOf arg2 arg3 arg4 arg5 arg6 arg7 X2 X3 X4 X5 X6 X7) (biasOf arg15 X15) (ci i) arg10 f10 k 2 _ (fun j r => covG (inOf arg2 arg3 arg4 arg5 arg6 arg7 X2 X3 X4 X5 X6 X7) (biasOf arg15 X15) (ci i) arg16 k 2 _ _ (stepG (inOf arg2 arg3 arg4 arg5 arg6 arg7 X2 X3 X4 X5 X6 X7) (biasOf arg15 X15) (ci i) arg16 _ k 3 (Zh 3) (hZ 3) (Vh 3) (hV 3) (sh 3) (hs 3) _ _ (stepG (inOf arg2 arg3 arg4 arg5 arg6 arg7 X2 X3 X4 X5 X6 X7) (biasOf arg15 X15) (ci i) arg16 _ k 2 (Zh 2) (hZ 2) (Vh 2) (hV 2) (sh 2) (hs 2) _ _ (stepG (inOf arg2 arg3 arg4 arg5 arg6 arg7 X2 X3 X4 X5 X6 X7) (biasOf arg15 X15) (ci i) arg16 _ k 1 (Zh 1) (hZ 1) (Vh 1) (hV 1) (sh 1) (hs 1) _ _ (stepG (inOf arg2 arg3 arg4 arg5 arg6 arg7 X2 X3 X4 X5 X6 X7) (biasOf arg15 X15) (ci i) arg16 _ k 0 (Zh 0) (hZ 0) (Vh 0) (hV 0) (sh 0) (hs 0) _ _ (fun y hy => absurd hy (Nat.not_lt_zero _)))))) j r) _ _ ?_
      refine stepO (inOf arg2 arg3 arg4 arg5 arg6 arg7 X2 X3 X4 X5 X6 X7) (biasOf arg15 X15) (ci i) arg10 f10 k 1 _ (fun j r => covG (inOf arg2 arg3 arg4 arg5 arg6 arg7 X2 X3 X4 X5 X6 X7) (biasOf arg15 X15) (ci i) arg16 k 1 _ _ (stepG (inOf arg2 arg3 arg4 arg5 arg6 arg7 X2 X3 X4 X5 X6 X7) (biasOf arg15 X15) (ci i) arg16 _ k 3 (Zh 3) (hZ 3) (Vh 3) (hV 3) (sh 3) (hs 3) _ _ (stepG (inOf arg2 arg3 arg4 arg5 arg6 arg7 X2 X3 X4 X5 X6 X7) (biasOf arg15 X15) (ci i) arg16 _ k 2 (Zh 2) (hZ 2) (Vh 2) (hV 2) (sh 2) (hs 2) _ _ (stepG (inOf arg2 arg3 arg4 arg5 arg6 arg7 X2 X3 X4 X5 X6 X7) (biasOf arg15 X15) (ci i) arg16 _ k 1 (Zh 1) (hZ 1) (Vh 1) (hV 1) (sh 1) (hs 1) _ _ (stepG (inOf arg2 arg3 arg4 arg5 arg6 arg7 X2 X3 X4 X5 X6 X7) (biasOf arg15 X15) (ci i) arg16 _ k 0 (Zh 0) (hZ 0) (Vh 0) (hV 0) (sh 0) (hs 0) _ _ (fun y hy => absurd hy (Nat.not_lt_zero _)))))) j r) _ _ ?_
      refine stepO (inOf arg2 arg3 arg4 arg5 arg6 arg7 X2 X3 X4 X5 X6 X7) (biasOf arg15 X15) (ci i) arg10 f10 k 0 _ (fun j r => covG (inOf arg2 arg3 arg4 arg5 arg6 arg7 X2 X3 X4 X5 X6 X7) (biasOf arg15 X15) (ci i) arg16 k 0 _ _ (stepG (inOf arg2 arg3 arg4 arg5 arg6 arg7 X2 X3 X4 X5 X6 X7) (biasOf arg15 X15) (ci i) arg16 _ k 3 (Zh 3) (hZ 3) (Vh 3) (hV 3) (sh 3) (hs 3) _ _ (stepG (inOf arg2 arg3 arg4 arg5 arg6 arg7 X2 X3 X4 X5 X6 X7) (biasOf arg15 X15) (ci i) arg16 _ k 2 (Zh 2) (hZ 2) (Vh 2) (hV 2) (sh 2) (hs 2) _ _ (stepG (inOf arg2 arg3 arg4 arg5 arg6 arg7 X2 X3 X4 X5 X6 X7) (biasOf arg15 X15) (ci i) arg16 _ k 1 (Zh 1) (hZ 1) (Vh 1) (hV 1) (sh 1) (hs 1) _ _ (stepG (inOf arg2 arg3 arg4 arg5 arg6 arg7 X2 X3 X4 X5 X6 X7) (biasOf arg15 X15) (ci i) arg16 _ k 0 (Zh 0) (hZ 0) (Vh 0) (hV 0) (sh 0) (hs 0) _ _ (fun y hy => absurd hy (Nat.not_lt_zero _)))))) j r) _ _ ?_
      exact h10
    isplitl [H12]
    · iexists _
      isplitl [H12]; iexact H12
      ipureintro
      refine Since.mk ?_
      show PL (inOf arg2 arg3 arg4 arg5 arg6 arg7 X2 X3 X4 X5 X6 X7) (biasOf arg15 X15) (ci i) arg12 (4 * k.val + 4) _
      refine stepL (inOf arg2 arg3 arg4 arg5 arg6 arg7 X2 X3 X4 X5 X6 X7) (biasOf arg15 X15) (ci i) arg12 f12 k 3 (Zh 3) (hZ 3) _ _ ?_
      refine stepL (inOf arg2 arg3 arg4 arg5 arg6 arg7 X2 X3 X4 X5 X6 X7) (biasOf arg15 X15) (ci i) arg12 f12 k 2 (Zh 2) (hZ 2) _ _ ?_
      refine stepL (inOf arg2 arg3 arg4 arg5 arg6 arg7 X2 X3 X4 X5 X6 X7) (biasOf arg15 X15) (ci i) arg12 f12 k 1 (Zh 1) (hZ 1) _ _ ?_
      refine stepL (inOf arg2 arg3 arg4 arg5 arg6 arg7 X2 X3 X4 X5 X6 X7) (biasOf arg15 X15) (ci i) arg12 f12 k 0 (Zh 0) (hZ 0) _ _ ?_
      exact h12
    isplitl [H13]
    · iexists _
      isplitl [H13]; iexact H13
      ipureintro
      refine Since.mk ?_
      suffices hh : PT (inOf arg2 arg3 arg4 arg5 arg6 arg7 X2 X3 X4 X5 X6 X7) (ci i) arg13 (DT k 4 0) _ from fun y hy => hh y (Or.inl (by have : (y 0).val % 36 < 4 * (k.val + 1) := hy; omega))
      refine nextT (inOf arg2 arg3 arg4 arg5 arg6 arg7 X2 X3 X4 X5 X6 X7) (ci i) arg13 k 3 _ ?_
      refine stepT (inOf arg2 arg3 arg4 arg5 arg6 arg7 X2 X3 X4 X5 X6 X7) (ci i) arg13 f13 k 3 15 (Sh 3) (hS 3) _ (slT 15) shapeCasts_S8x128_S8x128 _ _ ?_
      refine stepT (inOf arg2 arg3 arg4 arg5 arg6 arg7 X2 X3 X4 X5 X6 X7) (ci i) arg13 f13 k 3 14 (Sh 3) (hS 3) _ (slT 14) shapeCasts_S8x128_S8x128 _ _ ?_
      refine stepT (inOf arg2 arg3 arg4 arg5 arg6 arg7 X2 X3 X4 X5 X6 X7) (ci i) arg13 f13 k 3 13 (Sh 3) (hS 3) _ (slT 13) shapeCasts_S8x128_S8x128 _ _ ?_
      refine stepT (inOf arg2 arg3 arg4 arg5 arg6 arg7 X2 X3 X4 X5 X6 X7) (ci i) arg13 f13 k 3 12 (Sh 3) (hS 3) _ (slT 12) shapeCasts_S8x128_S8x128 _ _ ?_
      refine stepT (inOf arg2 arg3 arg4 arg5 arg6 arg7 X2 X3 X4 X5 X6 X7) (ci i) arg13 f13 k 3 11 (Sh 3) (hS 3) _ (slT 11) shapeCasts_S8x128_S8x128 _ _ ?_
      refine stepT (inOf arg2 arg3 arg4 arg5 arg6 arg7 X2 X3 X4 X5 X6 X7) (ci i) arg13 f13 k 3 10 (Sh 3) (hS 3) _ (slT 10) shapeCasts_S8x128_S8x128 _ _ ?_
      refine stepT (inOf arg2 arg3 arg4 arg5 arg6 arg7 X2 X3 X4 X5 X6 X7) (ci i) arg13 f13 k 3 9 (Sh 3) (hS 3) _ (slT 9) shapeCasts_S8x128_S8x128 _ _ ?_
      refine stepT (inOf arg2 arg3 arg4 arg5 arg6 arg7 X2 X3 X4 X5 X6 X7) (ci i) arg13 f13 k 3 8 (Sh 3) (hS 3) _ (slT 8) shapeCasts_S8x128_S8x128 _ _ ?_
      refine stepT (inOf arg2 arg3 arg4 arg5 arg6 arg7 X2 X3 X4 X5 X6 X7) (ci i) arg13 f13 k 3 7 (Sh 3) (hS 3) _ (slT 7) shapeCasts_S8x128_S8x128 _ _ ?_
      refine stepT (inOf arg2 arg3 arg4 arg5 arg6 arg7 X2 X3 X4 X5 X6 X7) (ci i) arg13 f13 k 3 6 (Sh 3) (hS 3) _ (slT 6) shapeCasts_S8x128_S8x128 _ _ ?_
      refine stepT (inOf arg2 arg3 arg4 arg5 arg6 arg7 X2 X3 X4 X5 X6 X7) (ci i) arg13 f13 k 3 5 (Sh 3) (hS 3) _ (slT 5) shapeCasts_S8x128_S8x128 _ _ ?_
      refine stepT (inOf arg2 arg3 arg4 arg5 arg6 arg7 X2 X3 X4 X5 X6 X7) (ci i) arg13 f13 k 3 4 (Sh 3) (hS 3) _ (slT 4) shapeCasts_S8x128_S8x128 _ _ ?_
      refine stepT (inOf arg2 arg3 arg4 arg5 arg6 arg7 X2 X3 X4 X5 X6 X7) (ci i) arg13 f13 k 3 3 (Sh 3) (hS 3) _ (slT 3) shapeCasts_S8x128_S8x128 _ _ ?_
      refine stepT (inOf arg2 arg3 arg4 arg5 arg6 arg7 X2 X3 X4 X5 X6 X7) (ci i) arg13 f13 k 3 2 (Sh 3) (hS 3) _ (slT 2) shapeCasts_S8x128_S8x128 _ _ ?_
      refine stepT (inOf arg2 arg3 arg4 arg5 arg6 arg7 X2 X3 X4 X5 X6 X7) (ci i) arg13 f13 k 3 1 (Sh 3) (hS 3) _ (slT 1) shapeCasts_S8x128_S8x128 _ _ ?_
      refine stepT (inOf arg2 arg3 arg4 arg5 arg6 arg7 X2 X3 X4 X5 X6 X7) (ci i) arg13 f13 k 3 0 (Sh 3) (hS 3) _ (slT 0) shapeCasts_S8x128_S8x128 _ _ ?_
      refine nextT (inOf arg2 arg3 arg4 arg5 arg6 arg7 X2 X3 X4 X5 X6 X7) (ci i) arg13 k 2 _ ?_
      refine stepT (inOf arg2 arg3 arg4 arg5 arg6 arg7 X2 X3 X4 X5 X6 X7) (ci i) arg13 f13 k 2 15 (Sh 2) (hS 2) _ (slT 15) shapeCasts_S8x128_S8x128 _ _ ?_
      refine stepT (inOf arg2 arg3 arg4 arg5 arg6 arg7 X2 X3 X4 X5 X6 X7) (ci i) arg13 f13 k 2 14 (Sh 2) (hS 2) _ (slT 14) shapeCasts_S8x128_S8x128 _ _ ?_
      refine stepT (inOf arg2 arg3 arg4 arg5 arg6 arg7 X2 X3 X4 X5 X6 X7) (ci i) arg13 f13 k 2 13 (Sh 2) (hS 2) _ (slT 13) shapeCasts_S8x128_S8x128 _ _ ?_
      refine stepT (inOf arg2 arg3 arg4 arg5 arg6 arg7 X2 X3 X4 X5 X6 X7) (ci i) arg13 f13 k 2 12 (Sh 2) (hS 2) _ (slT 12) shapeCasts_S8x128_S8x128 _ _ ?_
      refine stepT (inOf arg2 arg3 arg4 arg5 arg6 arg7 X2 X3 X4 X5 X6 X7) (ci i) arg13 f13 k 2 11 (Sh 2) (hS 2) _ (slT 11) shapeCasts_S8x128_S8x128 _ _ ?_
      refine stepT (inOf arg2 arg3 arg4 arg5 arg6 arg7 X2 X3 X4 X5 X6 X7) (ci i) arg13 f13 k 2 10 (Sh 2) (hS 2) _ (slT 10) shapeCasts_S8x128_S8x128 _ _ ?_
      refine stepT (inOf arg2 arg3 arg4 arg5 arg6 arg7 X2 X3 X4 X5 X6 X7) (ci i) arg13 f13 k 2 9 (Sh 2) (hS 2) _ (slT 9) shapeCasts_S8x128_S8x128 _ _ ?_
      refine stepT (inOf arg2 arg3 arg4 arg5 arg6 arg7 X2 X3 X4 X5 X6 X7) (ci i) arg13 f13 k 2 8 (Sh 2) (hS 2) _ (slT 8) shapeCasts_S8x128_S8x128 _ _ ?_
      refine stepT (inOf arg2 arg3 arg4 arg5 arg6 arg7 X2 X3 X4 X5 X6 X7) (ci i) arg13 f13 k 2 7 (Sh 2) (hS 2) _ (slT 7) shapeCasts_S8x128_S8x128 _ _ ?_
      refine stepT (inOf arg2 arg3 arg4 arg5 arg6 arg7 X2 X3 X4 X5 X6 X7) (ci i) arg13 f13 k 2 6 (Sh 2) (hS 2) _ (slT 6) shapeCasts_S8x128_S8x128 _ _ ?_
      refine stepT (inOf arg2 arg3 arg4 arg5 arg6 arg7 X2 X3 X4 X5 X6 X7) (ci i) arg13 f13 k 2 5 (Sh 2) (hS 2) _ (slT 5) shapeCasts_S8x128_S8x128 _ _ ?_
      refine stepT (inOf arg2 arg3 arg4 arg5 arg6 arg7 X2 X3 X4 X5 X6 X7) (ci i) arg13 f13 k 2 4 (Sh 2) (hS 2) _ (slT 4) shapeCasts_S8x128_S8x128 _ _ ?_
      refine stepT (inOf arg2 arg3 arg4 arg5 arg6 arg7 X2 X3 X4 X5 X6 X7) (ci i) arg13 f13 k 2 3 (Sh 2) (hS 2) _ (slT 3) shapeCasts_S8x128_S8x128 _ _ ?_
      refine stepT (inOf arg2 arg3 arg4 arg5 arg6 arg7 X2 X3 X4 X5 X6 X7) (ci i) arg13 f13 k 2 2 (Sh 2) (hS 2) _ (slT 2) shapeCasts_S8x128_S8x128 _ _ ?_
      refine stepT (inOf arg2 arg3 arg4 arg5 arg6 arg7 X2 X3 X4 X5 X6 X7) (ci i) arg13 f13 k 2 1 (Sh 2) (hS 2) _ (slT 1) shapeCasts_S8x128_S8x128 _ _ ?_
      refine stepT (inOf arg2 arg3 arg4 arg5 arg6 arg7 X2 X3 X4 X5 X6 X7) (ci i) arg13 f13 k 2 0 (Sh 2) (hS 2) _ (slT 0) shapeCasts_S8x128_S8x128 _ _ ?_
      refine nextT (inOf arg2 arg3 arg4 arg5 arg6 arg7 X2 X3 X4 X5 X6 X7) (ci i) arg13 k 1 _ ?_
      refine stepT (inOf arg2 arg3 arg4 arg5 arg6 arg7 X2 X3 X4 X5 X6 X7) (ci i) arg13 f13 k 1 15 (Sh 1) (hS 1) _ (slT 15) shapeCasts_S8x128_S8x128 _ _ ?_
      refine stepT (inOf arg2 arg3 arg4 arg5 arg6 arg7 X2 X3 X4 X5 X6 X7) (ci i) arg13 f13 k 1 14 (Sh 1) (hS 1) _ (slT 14) shapeCasts_S8x128_S8x128 _ _ ?_
      refine stepT (inOf arg2 arg3 arg4 arg5 arg6 arg7 X2 X3 X4 X5 X6 X7) (ci i) arg13 f13 k 1 13 (Sh 1) (hS 1) _ (slT 13) shapeCasts_S8x128_S8x128 _ _ ?_
      refine stepT (inOf arg2 arg3 arg4 arg5 arg6 arg7 X2 X3 X4 X5 X6 X7) (ci i) arg13 f13 k 1 12 (Sh 1) (hS 1) _ (slT 12) shapeCasts_S8x128_S8x128 _ _ ?_
      refine stepT (inOf arg2 arg3 arg4 arg5 arg6 arg7 X2 X3 X4 X5 X6 X7) (ci i) arg13 f13 k 1 11 (Sh 1) (hS 1) _ (slT 11) shapeCasts_S8x128_S8x128 _ _ ?_
      refine stepT (inOf arg2 arg3 arg4 arg5 arg6 arg7 X2 X3 X4 X5 X6 X7) (ci i) arg13 f13 k 1 10 (Sh 1) (hS 1) _ (slT 10) shapeCasts_S8x128_S8x128 _ _ ?_
      refine stepT (inOf arg2 arg3 arg4 arg5 arg6 arg7 X2 X3 X4 X5 X6 X7) (ci i) arg13 f13 k 1 9 (Sh 1) (hS 1) _ (slT 9) shapeCasts_S8x128_S8x128 _ _ ?_
      refine stepT (inOf arg2 arg3 arg4 arg5 arg6 arg7 X2 X3 X4 X5 X6 X7) (ci i) arg13 f13 k 1 8 (Sh 1) (hS 1) _ (slT 8) shapeCasts_S8x128_S8x128 _ _ ?_
      refine stepT (inOf arg2 arg3 arg4 arg5 arg6 arg7 X2 X3 X4 X5 X6 X7) (ci i) arg13 f13 k 1 7 (Sh 1) (hS 1) _ (slT 7) shapeCasts_S8x128_S8x128 _ _ ?_
      refine stepT (inOf arg2 arg3 arg4 arg5 arg6 arg7 X2 X3 X4 X5 X6 X7) (ci i) arg13 f13 k 1 6 (Sh 1) (hS 1) _ (slT 6) shapeCasts_S8x128_S8x128 _ _ ?_
      refine stepT (inOf arg2 arg3 arg4 arg5 arg6 arg7 X2 X3 X4 X5 X6 X7) (ci i) arg13 f13 k 1 5 (Sh 1) (hS 1) _ (slT 5) shapeCasts_S8x128_S8x128 _ _ ?_
      refine stepT (inOf arg2 arg3 arg4 arg5 arg6 arg7 X2 X3 X4 X5 X6 X7) (ci i) arg13 f13 k 1 4 (Sh 1) (hS 1) _ (slT 4) shapeCasts_S8x128_S8x128 _ _ ?_
      refine stepT (inOf arg2 arg3 arg4 arg5 arg6 arg7 X2 X3 X4 X5 X6 X7) (ci i) arg13 f13 k 1 3 (Sh 1) (hS 1) _ (slT 3) shapeCasts_S8x128_S8x128 _ _ ?_
      refine stepT (inOf arg2 arg3 arg4 arg5 arg6 arg7 X2 X3 X4 X5 X6 X7) (ci i) arg13 f13 k 1 2 (Sh 1) (hS 1) _ (slT 2) shapeCasts_S8x128_S8x128 _ _ ?_
      refine stepT (inOf arg2 arg3 arg4 arg5 arg6 arg7 X2 X3 X4 X5 X6 X7) (ci i) arg13 f13 k 1 1 (Sh 1) (hS 1) _ (slT 1) shapeCasts_S8x128_S8x128 _ _ ?_
      refine stepT (inOf arg2 arg3 arg4 arg5 arg6 arg7 X2 X3 X4 X5 X6 X7) (ci i) arg13 f13 k 1 0 (Sh 1) (hS 1) _ (slT 0) shapeCasts_S8x128_S8x128 _ _ ?_
      refine nextT (inOf arg2 arg3 arg4 arg5 arg6 arg7 X2 X3 X4 X5 X6 X7) (ci i) arg13 k 0 _ ?_
      refine stepT (inOf arg2 arg3 arg4 arg5 arg6 arg7 X2 X3 X4 X5 X6 X7) (ci i) arg13 f13 k 0 15 (Sh 0) (hS 0) _ (slT 15) shapeCasts_S8x128_S8x128 _ _ ?_
      refine stepT (inOf arg2 arg3 arg4 arg5 arg6 arg7 X2 X3 X4 X5 X6 X7) (ci i) arg13 f13 k 0 14 (Sh 0) (hS 0) _ (slT 14) shapeCasts_S8x128_S8x128 _ _ ?_
      refine stepT (inOf arg2 arg3 arg4 arg5 arg6 arg7 X2 X3 X4 X5 X6 X7) (ci i) arg13 f13 k 0 13 (Sh 0) (hS 0) _ (slT 13) shapeCasts_S8x128_S8x128 _ _ ?_
      refine stepT (inOf arg2 arg3 arg4 arg5 arg6 arg7 X2 X3 X4 X5 X6 X7) (ci i) arg13 f13 k 0 12 (Sh 0) (hS 0) _ (slT 12) shapeCasts_S8x128_S8x128 _ _ ?_
      refine stepT (inOf arg2 arg3 arg4 arg5 arg6 arg7 X2 X3 X4 X5 X6 X7) (ci i) arg13 f13 k 0 11 (Sh 0) (hS 0) _ (slT 11) shapeCasts_S8x128_S8x128 _ _ ?_
      refine stepT (inOf arg2 arg3 arg4 arg5 arg6 arg7 X2 X3 X4 X5 X6 X7) (ci i) arg13 f13 k 0 10 (Sh 0) (hS 0) _ (slT 10) shapeCasts_S8x128_S8x128 _ _ ?_
      refine stepT (inOf arg2 arg3 arg4 arg5 arg6 arg7 X2 X3 X4 X5 X6 X7) (ci i) arg13 f13 k 0 9 (Sh 0) (hS 0) _ (slT 9) shapeCasts_S8x128_S8x128 _ _ ?_
      refine stepT (inOf arg2 arg3 arg4 arg5 arg6 arg7 X2 X3 X4 X5 X6 X7) (ci i) arg13 f13 k 0 8 (Sh 0) (hS 0) _ (slT 8) shapeCasts_S8x128_S8x128 _ _ ?_
      refine stepT (inOf arg2 arg3 arg4 arg5 arg6 arg7 X2 X3 X4 X5 X6 X7) (ci i) arg13 f13 k 0 7 (Sh 0) (hS 0) _ (slT 7) shapeCasts_S8x128_S8x128 _ _ ?_
      refine stepT (inOf arg2 arg3 arg4 arg5 arg6 arg7 X2 X3 X4 X5 X6 X7) (ci i) arg13 f13 k 0 6 (Sh 0) (hS 0) _ (slT 6) shapeCasts_S8x128_S8x128 _ _ ?_
      refine stepT (inOf arg2 arg3 arg4 arg5 arg6 arg7 X2 X3 X4 X5 X6 X7) (ci i) arg13 f13 k 0 5 (Sh 0) (hS 0) _ (slT 5) shapeCasts_S8x128_S8x128 _ _ ?_
      refine stepT (inOf arg2 arg3 arg4 arg5 arg6 arg7 X2 X3 X4 X5 X6 X7) (ci i) arg13 f13 k 0 4 (Sh 0) (hS 0) _ (slT 4) shapeCasts_S8x128_S8x128 _ _ ?_
      refine stepT (inOf arg2 arg3 arg4 arg5 arg6 arg7 X2 X3 X4 X5 X6 X7) (ci i) arg13 f13 k 0 3 (Sh 0) (hS 0) _ (slT 3) shapeCasts_S8x128_S8x128 _ _ ?_
      refine stepT (inOf arg2 arg3 arg4 arg5 arg6 arg7 X2 X3 X4 X5 X6 X7) (ci i) arg13 f13 k 0 2 (Sh 0) (hS 0) _ (slT 2) shapeCasts_S8x128_S8x128 _ _ ?_
      refine stepT (inOf arg2 arg3 arg4 arg5 arg6 arg7 X2 X3 X4 X5 X6 X7) (ci i) arg13 f13 k 0 1 (Sh 0) (hS 0) _ (slT 1) shapeCasts_S8x128_S8x128 _ _ ?_
      refine stepT (inOf arg2 arg3 arg4 arg5 arg6 arg7 X2 X3 X4 X5 X6 X7) (ci i) arg13 f13 k 0 0 (Sh 0) (hS 0) _ (slT 0) shapeCasts_S8x128_S8x128 _ _ ?_
      exact fun y hy => h13 y (by unfold DT at hy; omega)
    sl_close

end Cert.KernelIdeal.Val
-- ==== Proof.Val.T3.lean ====
/-
  Hand-written. `KernelIdeal`'s gathering loop over the reals: after `k` trips every edge of the first `k` rows holds its score.
-/
module

public import proofs.«01_k».proof.Proof.Gen.KernelIdeal.Loops
public import proofs.«01_k».proof.Proof.Gen.KernelIdeal.Skeleton
public import proofs.«01_k».proof.Proof.Gen.KernelIdeal.Frame
public import proofs.«01_k».proof.Proof.Val.Spec
public import Idealize.ShloMosaic.Lib.Tactic
public import Idealize.ShloMosaic.Lib.Pointwise
public import Idealize.ShloMosaic.Lib.WordCmp
public import Idealize.ShloMosaic.Lib.WordArith

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The block a row starts in, whatever word its start is: at most 24. -/
theorem blk_le (v : BitVec 32) : (Scalar.minsi (Scalar.shrui v 7#32) 24#32).toNat ≤ 24 := by
  have h : (Scalar.shrui v 7#32).toNat < 2 ^ 31 := by
    have e : (Scalar.shrui v 7#32).toNat = v.toNat / 128 := by
      show (IntOp.shrui .scalar v 7#32).toNat = _
      unfold IntOp.shrui
      rw [if_pos (by decide), BitVec.ushiftRight_eq', BitVec.toNat_ushiftRight, Nat.shiftRight_eq_div_pow]; rfl
    have := v.isLt
    omega
  have e := WordArith.toNat_minsi_of_lt (Scalar.shrui v 7#32) 24#32 h (by decide)
  have : (24#32 : BitVec 32).toNat = 24 := by decide
  show (IntOp.minsi (Scalar.shrui v 7#32) 24#32).toNat ≤ 24
  omega

/-- The side condition the row loop assumes of the word it reads holds of every word. -/
theorem chk1_all (v : BitVec 32) : k0_chk1 v := by
  have h := blk_le v
  unfold k0_chk1 k0_off8 k0_off9 k0_mult6 k0_mult7 k0_off11 k0_off12 k0_off13 k0_off14 k0_off15 k0_off16 k0_off17 k0_off18
  dsimp only
  generalize Scalar.minsi (Scalar.shrui v 7#32) 24#32 = x at h
  have hx : x = BitVec.ofNat 32 x.toNat := by simp
  generalize x.toNat = n at h hx
  subst hx
  revert h
  revert n
  decide

theorem andi127 (w : BitVec 32) : Scalar.andi w 127#32 = BitVec.ofNat 32 (w.toNat % 128) := by
  apply BitVec.eq_of_toNat_eq
  show (w &&& 127#32).toNat = _
  rw [BitVec.toNat_and, BitVec.toNat_ofNat, BitVec.toNat_ofNat, Nat.mod_eq_of_lt (show w.toNat % 128 < 2 ^ 32 by omega)]
  exact Nat.and_two_pow_sub_one_eq_mod w.toNat 7

theorem sge_small (a b : ℕ) (ha : a < 128) (hb : b < 128) : IntOp.cmpi .sge (BitVec.ofNat 32 a) (BitVec.ofNat 32 b) = BitVec.ofBool (decide (b ≤ a)) := by
  rw [WordCmp.cmpi_sge_ofNat (by norm_num; omega) (by norm_num; omega)]

theorem pay123_apply (v0 : IVec S1x128 32) (hv0 : ∀ j, v0 (ix2 0 j) = BitVec.ofNat 32 j.val) (w : Elt Ideal .i32) (j : Fin 128) :
    k0_pay123 (F := Ideal) v0 w (ix2 0 j) = BitVec.ofBool (decide (w.toNat % 128 ≤ j.val)) := by
  show IntOp.cmpi .sge (v0 (ix2 0 j)) (Scalar.andi w 127#32) = _
  rw [hv0, andi127]
  exact sge_small _ _ j.isLt (Nat.mod_lt _ (by norm_num))

theorem pay124_apply (v0 : IVec S1x128 32) (hv0 : ∀ j, v0 (ix2 0 j) = BitVec.ofNat 32 j.val) (w : Elt Ideal .i32) (A B : Vec Ideal S1x128 .i32) (a : Fin 8) (j : Fin 128) :
    k0_pay124 (F := Ideal) v0 w A B (ix2 a j) = if w.toNat % 128 ≤ j.val then A (ix2 0 j) else B (ix2 0 j) := by
  pointwise [k0_pay124, pay123_apply v0 hv0]

theorem pay125_apply (v0 : IVec S1x128 32) (hv0 : ∀ j, v0 (ix2 0 j) = BitVec.ofNat 32 j.val) (w : Elt Ideal .i32) (a : Fin 8) (j : Fin 128) :
    k0_pay173 (k0_pay125 (F := Ideal) v0 w) (ix2 a j) = BitVec.ofBool (decide (w.toNat % 128 ≤ j.val)) := by
  pointwise [k0_pay173, k0_pay125, pay123_apply v0 hv0]

theorem pay172_apply (idx : IVec S8x128 32) (x : Vec Ideal S8x128 .f32) (a : Fin 8) (j : Fin 128) (h : (idx (ix2 a j)).toNat < 128) :
    k0_pay172 (F := Ideal) idx x (ix2 a j) = x (ix2 a ⟨(idx (ix2 a j)).toNat, h⟩) := by
  pointwise [k0_pay172, k0_pay171]
  have hs : IntOp.cmpi CmpIPredicate.slt (idx (ix2 a j)) 0#32 = 0#1 := by
    rw [WordCmp.cmpi_slt_eq, BitVec.toInt_eq_toNat_of_lt (by omega), decide_eq_false (by simp)]
    rfl
  have e : Scalar.select (IntOp.cmpi CmpIPredicate.slt (idx (ix2 a j)) 0#32) (IntOp.addi (idx (ix2 a j)) 128#32) (idx (ix2 a j)) = idx (ix2 a j) := by
    rw [hs]; rfl
  congr 2
  apply Fin.ext
  show BitVec.toNat _ % 128 = _
  rw [e, Nat.mod_eq_of_lt h]

/-- The block a row's first edge lies in, as the kernel caps it. -/
def blkN (w : BitVec 32) : ℕ := min (w.toNat / 128) 24

theorem minsi_blk (v : BitVec 32) : (Scalar.minsi (Scalar.shrui v 7#32) 24#32) = BitVec.ofNat 32 (blkN v) := by
  have e : (Scalar.shrui v 7#32).toNat = v.toNat / 128 := by
    show (IntOp.shrui .scalar v 7#32).toNat = _
    unfold IntOp.shrui
    rw [if_pos (by decide), BitVec.ushiftRight_eq', BitVec.toNat_ushiftRight, Nat.shiftRight_eq_div_pow]; rfl
  have h : (Scalar.shrui v 7#32).toNat < 2 ^ 31 := by
    have := v.isLt
    omega
  apply BitVec.eq_of_toNat_eq
  refine (WordArith.toNat_minsi_of_lt (Scalar.shrui v 7#32) 24#32 h (by decide)).trans ?_
  have : (24#32 : BitVec 32).toNat = 24 := by decide
  rw [e, this, BitVec.toNat_ofNat]
  unfold blkN
  omega

theorem offs_eq (v : BitVec 32) : k0_off8 v = ![min (blkN v) 23, 0] ∧ k0_off9 v = ![min (blkN v + 1) 23, 0]
    ∧ k0_off11 v = ![8 * (0 : Fin 4).val, 128 * blkN v] ∧ k0_off12 v = ![8 * (0 : Fin 4).val, 128 * (blkN v + 1)]
    ∧ k0_off13 v = ![8 * (1 : Fin 4).val, 128 * blkN v] ∧ k0_off14 v = ![8 * (1 : Fin 4).val, 128 * (blkN v + 1)]
    ∧ k0_off15 v = ![8 * (2 : Fin 4).val, 128 * blkN v] ∧ k0_off16 v = ![8 * (2 : Fin 4).val, 128 * (blkN v + 1)]
    ∧ k0_off17 v = ![8 * (3 : Fin 4).val, 128 * blkN v] ∧ k0_off18 v = ![8 * (3 : Fin 4).val, 128 * (blkN v + 1)] := by
  have h : blkN v ≤ 24 := Nat.min_le_right _ _
  unfold k0_off8 k0_off9 k0_off11 k0_off12 k0_off13 k0_off14 k0_off15 k0_off16 k0_off17 k0_off18
  dsimp only
  rw [minsi_blk]
  generalize blkN v = n at h
  revert h
  revert n
  decide

theorem off7_eq (i : grid0.Coords) : ∀ k : Fin k0_t3_loop.trips, k0_off7 i k = ![(i 0).val, k.val] := by
  have hi : (i 0).val < 2 := (i 0).isLt
  unfold k0_off7
  generalize (i 0).val = n at hi
  revert n
  decide +kernel

theorem off10_eq : ∀ (k : Fin k0_t3_loop.trips) (q : Fin 4), k0_off10 k (BitVec.ofNat 32 (8 * q.val)) = ![36 * k.val + 8 * q.val, 0] := by
  decide +kernel

theorem trips3_lt (k : Fin k0_t3_loop.trips) : k.val < 128 := Nat.lt_of_lt_of_le k.isLt k0_t3_abs.2.1

theorem mem_on {t : Shape} (m : IVec t 1) (x : t.Idx) : x ∈ IVec.on m ↔ m x = 1#1 := by
  simp [IVec.on]

/-- One more store through a mask: at the elements it wrote the payload, elsewhere as before. -/
theorem read_masked {sig : RefSig} {κ : Kind} {sp : Space} {s : Shape} {e : EltTy} (v : View sig κ sp s e) (f : v.ty.Contents (Elt Ideal))
    (g : s.Idx → Elt Ideal e) (D D' : s.Idx → Prop) (r : Rect s) (w : r.shape.Idx → Elt Ideal e) (M : Finset r.shape.Idx)
    (hL : ∀ y, D y → v.read (Elt Ideal) f y = g y) (hw : ∀ x ∈ M, D' (r.emb x) → w x = g (r.emb x))
    (hD : ∀ y, D' y → ¬ D y → ∃ x ∈ M, r.emb x = y) (y : s.Idx) (hy : D' y) :
    v.read (Elt Ideal) (View.write (Elt Ideal) (v.slice r) f w M) y = g y := by
  by_cases hm : ∃ x ∈ M, r.emb x = y
  · obtain ⟨x, hx, rfl⟩ := hm
    rw [View.read_slice_write_emb r f w hx]
    exact hw x hx hy
  · rw [View.read_slice_write_of_not_mem r f w M (fun h => hm (by simpa using h))]
    exact hL y (by by_contra h; exact hm (hD y hy h))

/-- One more store, its payload known where asked. -/
theorem read_cons' {sig : RefSig} {κ : Kind} {sp : Space} {s : Shape} {e : EltTy} (v : View sig κ sp s e) (f : v.ty.Contents (Elt Ideal))
    (g : s.Idx → Elt Ideal e) (D D' : s.Idx → Prop) (r : Rect s) (w : r.shape.Idx → Elt Ideal e)
    (hL : ∀ y, D y → v.read (Elt Ideal) f y = g y) (hw : ∀ x, D' (r.emb x) → w x = g (r.emb x))
    (hD : ∀ y, D' y → ¬ D y → ∃ x, r.emb x = y) (y : s.Idx) (hy : D' y) :
    v.read (Elt Ideal) (v.writes (Elt Ideal) f [⟨r, w⟩]) y = g y := by
  by_cases hm : y ∈ r.set
  · obtain ⟨x, rfl⟩ : ∃ x, r.emb x = y := r.exists_idx_of_mem hm
    rw [View.read_writes_cons_emb]
    exact hw x hy
  · rw [View.read_writes_cons_miss _ _ _ _ _ hm]
    refine hL y ?_
    by_contra h
    obtain ⟨x, rfl⟩ := hD y hy h
    exact hm (r.toLoadRect.idx_mem x)

section

variable (m13 : Memref sig .tc .vmem S4608x128 .f32) (m14 : Memref sig .tc .vmem S32x3328 .f32) (m17 : Memref sig .tc .vmem S24x128 .i32)
  (X13 : BufTy.Contents (Elt Ideal) m13.view.ty) (X17 : BufTy.Contents (Elt Ideal) m17.view.ty) (f14 : BufTy.Contents (Elt Ideal) m14.view.ty)

/-- The column word of edge `e`. -/
def colN (e : ℕ) : BitVec 32 := if h : e < 3072 then m17.view.read (Elt Ideal) X17 (ix2 ⟨e / 128, by omega⟩ ⟨e % 128, by omega⟩) else 0#32

/-- The table entry of row `k`, head `h` at edge `e`'s column. -/
def tabN (k : Fin 128) (h : Fin 32) (e : ℕ) : EReal :=
  m13.view.read (Elt Ideal) X13 (ix2 ⟨36 * k.val + h.val, by omega⟩ ⟨(colN m17 X17 e).toNat % 128, Nat.mod_lt _ (by norm_num)⟩)

/-- What the edges hold while row `k`'s, from edge `n`, are stored. -/
def gS (k : Fin 128) (n : ℕ) (y : S32x3328.Idx) : EReal :=
  if (y 1).val < n then m14.view.read (Elt Ideal) f14 y else tabN m13 m17 X13 X17 k (y 0) (y 1).val

/-- The edges known after `q` blocks of heads, and with `p` the masked half of the next. -/
def DS (n E b q : ℕ) (p : Prop) (y : S32x3328.Idx) : Prop :=
  (y 1).val < 3072 ∧ ((y 1).val < n ∨ ((y 1).val < E ∧ ((y 0).val < 8 * q ∨ (p ∧ (y 0).val < 8 * q + 8 ∧ (y 1).val < 128 * (b + 1)))))

variable (v0 : IVec S1x128 32) (hv0 : ∀ j, v0 (ix2 0 j) = BitVec.ofNat 32 j.val) (w : Elt Ideal .i32)

/-- The column words a trip gathers by. -/
def idxS (h8 : ∀ a, k0_off8 w a + S1x128.size a ≤ S24x128.size a) (h9 : ∀ a, k0_off9 w a + S1x128.size a ≤ S24x128.size a) : IVec S8x128 32 :=
  k0_pay124 (F := Ideal) v0 w
    (View.readAt (Elt Ideal) m17.view (Rect.unit (s := S24x128) (k0_off8 w) S1x128.size h8).toLoadRect X17)
    (View.readAt (Elt Ideal) m17.view (Rect.unit (s := S24x128) (k0_off9 w) S1x128.size h9).toLoadRect X17)

include hv0

theorem idxS_apply (h8 h9) (a : Fin 8) (j : Fin 128) : idxS m17 X17 v0 w h8 h9 (ix2 a j)
    = if w.toNat % 128 ≤ j.val then m17.view.read (Elt Ideal) X17 (ix2 ⟨min (blkN w) 23, by omega⟩ j)
      else m17.view.read (Elt Ideal) X17 (ix2 ⟨min (blkN w + 1) 23, by omega⟩ j) := by
  unfold idxS
  rw [pay124_apply v0 hv0]
  congr 1
  · refine readAt_unit_eq m17.view X17 h8 _ _ fun c => ?_
    rw [(offs_eq w).1]
    match c with
    | ⟨0, _⟩ => rfl
    | ⟨1, _⟩ => exact (Nat.zero_add _).symm
  · refine readAt_unit_eq m17.view X17 h9 _ _ fun c => ?_
    rw [(offs_eq w).2.1]
    match c with
    | ⟨0, _⟩ => rfl
    | ⟨1, _⟩ => exact (Nat.zero_add _).symm

theorem payS_apply (k : Fin k0_t3_loop.trips) (q : Fin 4) (h8 h9 h10) (a : Fin 8) (j : Fin 128) (e : ℕ)
    (he : idxS m17 X17 v0 w h8 h9 (ix2 a j) = colN m17 X17 e) (hc : (colN m17 X17 e).toNat < 128) :
    k0_pay172 (F := Ideal) (idxS m17 X17 v0 w h8 h9)
      (View.readAt (Elt Ideal) m13.view (Rect.unit (s := S4608x128) (k0_off10 k (BitVec.ofNat 32 (8 * q.val))) S8x128.size h10).toLoadRect X13) (ix2 a j)
      = tabN m13 m17 X13 X17 ⟨k.val, trips3_lt k⟩ ⟨8 * q.val + a.val, by omega⟩ e := by
  have hk := trips3_lt k
  rw [pay172_apply _ _ a j (by rw [he]; exact hc)]
  refine readAt_unit_eq m13.view X13 h10 _ _ fun c => ?_
  rw [off10_eq]
  match c with
  | ⟨0, _⟩ => show 36 * k.val + (8 * q.val + a.val) = 36 * k.val + 8 * q.val + a.val; omega
  | ⟨1, _⟩ =>
    show (colN m17 X17 e).toNat % 128 = 0 + (idxS m17 X17 v0 w h8 h9 (ix2 a j)).toNat
    rw [he, Nat.mod_eq_of_lt hc, Nat.zero_add]

variable (E : ℕ) (hE : E ≤ 3072) (hE' : E ≤ w.toNat + 128) (hcol : ∀ e, w.toNat ≤ e → e < E → (colN m17 X17 e).toNat < 128)

include hE hE' hcol

theorem maskStep (k : Fin k0_t3_loop.trips) (q : Fin 4) (base : BufTy.Contents (Elt Ideal) m14.view.ty) (off : Fin 2 → ℕ)
    (hoff : off = ![8 * q.val, 128 * blkN w]) (inb h8 h9 h10)
    (h : ∀ y, DS w.toNat E (blkN w) q.val False y → m14.view.read (Elt Ideal) base y = gS m13 m14 m17 X13 X17 f14 ⟨k.val, trips3_lt k⟩ w.toNat y) :
    ∀ y, DS w.toNat E (blkN w) q.val True y → m14.view.read (Elt Ideal)
      (View.write (Elt Ideal) (m14.access (Rect.unit (s := S32x3328) off S8x128.size inb)) base
        (k0_pay172 (F := Ideal) (idxS m17 X17 v0 w h8 h9)
          (View.readAt (Elt Ideal) m13.view (Rect.unit (s := S4608x128) (k0_off10 k (BitVec.ofNat 32 (8 * q.val))) S8x128.size h10).toLoadRect X13))
        (k0_pay173 (k0_pay125 (F := Ideal) v0 w)).on) y = gS m13 m14 m17 X13 X17 f14 ⟨k.val, trips3_lt k⟩ w.toNat y := by
  subst hoff
  have hk := trips3_lt k
  have hq := q.isLt
  have hb : blkN w = min (w.toNat / 128) 24 := rfl
  refine read_masked m14.view base _ _ _ _ _ _ h (fun x hx hD => ?_) (fun y hy hn => ?_)
  · obtain ⟨a, j, rfl⟩ : ∃ (a : Fin 8) (j : Fin 128), x = ix2 a j := ⟨x 0, x 1, ValueIdx.eq_ix2 x⟩
    rw [mem_on, pay125_apply v0 hv0] at hx
    have hj : w.toNat % 128 ≤ j.val := by
      by_contra hc
      rw [decide_eq_false hc] at hx
      exact absurd hx (by decide)
    have e0 : ∀ y : S32x3328.Idx, (Rect.unit (s := S32x3328) ![8 * q.val, 128 * blkN w] S8x128.size inb).emb (ix2 a j) = y →
        (y 0).val = 8 * q.val + a.val ∧ (y 1).val = 128 * blkN w + j.val := by
      rintro y rfl
      constructor
      · show 8 * q.val + 1 * a.val = _; omega
      · show 128 * blkN w + 1 * j.val = _; omega
    generalize hy' : (Rect.unit (s := S32x3328) ![8 * q.val, 128 * blkN w] S8x128.size inb).emb (ix2 a j) = y at hD ⊢
    obtain ⟨y0, y1⟩ := e0 y hy'
    obtain ⟨hD1, hD2⟩ := hD
    have hbw : blkN w = w.toNat / 128 := by omega
    have hy : ¬ (y 1).val < w.toNat := by omega
    have hyE : (y 1).val < E := by rcases hD2 with h | h; exact absurd h hy; exact h.1
    unfold gS
    rw [if_neg hy]
    refine (payS_apply m13 m17 X13 X17 v0 hv0 w k q h8 h9 h10 a j (y 1).val ?_ (hcol _ (by omega) hyE)).trans ?_
    · rw [idxS_apply m17 X17 v0 hv0, if_pos hj]
      unfold colN
      rw [dif_pos hD1]
      congr 2
      · apply Fin.ext; show min (blkN w) 23 = (y 1).val / 128; omega
      · apply Fin.ext; show j.val = (y 1).val % 128; omega
    · congr 1
      exact Fin.ext y0.symm
  · unfold DS at hy hn
    simp only [true_and, false_and, or_false] at hy hn
    have hy0 := ValueIdx.idx2_lt0 y
    refine ⟨ix2 ⟨(y 0).val - 8 * q.val, by omega⟩ ⟨(y 1).val - 128 * blkN w, by omega⟩, ?_, ?_⟩
    · rw [mem_on, pay125_apply v0 hv0, decide_eq_true (by show w.toNat % 128 ≤ (y 1).val - 128 * blkN w; omega)]
      rfl
    · funext c
      apply Fin.ext
      match c with
      | ⟨0, _⟩ => show 8 * q.val + 1 * ((y 0).val - 8 * q.val) = (y 0).val; omega
      | ⟨1, _⟩ => show 128 * blkN w + 1 * ((y 1).val - 128 * blkN w) = (y 1).val; omega

theorem fullStep (k : Fin k0_t3_loop.trips) (q : Fin 4) (base : BufTy.Contents (Elt Ideal) m14.view.ty) (off : Fin 2 → ℕ)
    (hoff : off = ![8 * q.val, 128 * (blkN w + 1)]) (inb h8 h9 h10)
    (h : ∀ y, DS w.toNat E (blkN w) q.val True y → m14.view.read (Elt Ideal) base y = gS m13 m14 m17 X13 X17 f14 ⟨k.val, trips3_lt k⟩ w.toNat y) :
    ∀ y, DS w.toNat E (blkN w) (q.val + 1) False y → m14.view.read (Elt Ideal)
      (m14.view.writes (Elt Ideal) base [⟨Rect.unit (s := S32x3328) off S8x128.size inb,
        k0_pay172 (F := Ideal) (idxS m17 X17 v0 w h8 h9)
          (View.readAt (Elt Ideal) m13.view (Rect.unit (s := S4608x128) (k0_off10 k (BitVec.ofNat 32 (8 * q.val))) S8x128.size h10).toLoadRect X13)⟩]) y
        = gS m13 m14 m17 X13 X17 f14 ⟨k.val, trips3_lt k⟩ w.toNat y := by
  subst hoff
  have hk := trips3_lt k
  have hq := q.isLt
  have hb : blkN w = min (w.toNat / 128) 24 := rfl
  refine read_cons' m14.view base _ _ _ _ _ h (fun x hD => ?_) (fun y hy hn => ?_)
  · obtain ⟨a, j, rfl⟩ : ∃ (a : Fin 8) (j : Fin 128), x = ix2 a j := ⟨x 0, x 1, ValueIdx.eq_ix2 x⟩
    have e0 : ∀ y : S32x3328.Idx, (Rect.unit (s := S32x3328) ![8 * q.val, 128 * (blkN w + 1)] S8x128.size inb).emb (ix2 a j) = y →
        (y 0).val = 8 * q.val + a.val ∧ (y 1).val = 128 * (blkN w + 1) + j.val := by
      rintro y rfl
      constructor
      · show 8 * q.val + 1 * a.val = _; omega
      · show 128 * (blkN w + 1) + 1 * j.val = _; omega
    generalize hy' : (Rect.unit (s := S32x3328) ![8 * q.val, 128 * (blkN w + 1)] S8x128.size inb).emb (ix2 a j) = y at hD ⊢
    obtain ⟨y0, y1⟩ := e0 y hy'
    obtain ⟨hD1, hD2⟩ := hD
    have hbw : blkN w = w.toNat / 128 := by omega
    have hy : ¬ (y 1).val < w.toNat := by omega
    have hyE : (y 1).val < E := by rcases hD2 with h | h; exact absurd h hy; exact h.1
    unfold gS
    rw [if_neg hy]
    refine (payS_apply m13 m17 X13 X17 v0 hv0 w k q h8 h9 h10 a j (y 1).val ?_ (hcol _ (by omega) hyE)).trans ?_
    · rw [idxS_apply m17 X17 v0 hv0, if_neg (by omega)]
      unfold colN
      rw [dif_pos hD1]
      congr 2
      · apply Fin.ext; show min (blkN w + 1) 23 = (y 1).val / 128; omega
      · apply Fin.ext; show j.val = (y 1).val % 128; omega
    · congr 1
      exact Fin.ext y0.symm
  · unfold DS at hy hn
    simp only [true_and, false_and, or_false] at hy hn
    have hy0 := ValueIdx.idx2_lt0 y
    refine ⟨ix2 ⟨(y 0).val - 8 * q.val, by omega⟩ ⟨(y 1).val - 128 * (blkN w + 1), by omega⟩, ?_⟩
    funext c
    apply Fin.ext
    match c with
    | ⟨0, _⟩ => show 8 * q.val + 1 * ((y 0).val - 8 * q.val) = (y 0).val; omega
    | ⟨1, _⟩ => show 128 * (blkN w + 1) + 1 * ((y 1).val - 128 * (blkN w + 1)) = (y 1).val; omega

end

/-- Row pointer `r`, as a number. -/
def rpN (m1 : Memref sig .tc .smem S2x129 .i32) (X1 : BufTy.Contents (Elt Ideal) m1.view.ty) (i : grid0.Coords) (r : ℕ) : ℕ :=
  if h : r < 129 then (m1.view.read (Elt Ideal) X1 (ix2 (ci i) ⟨r, h⟩)).toNat else 0

/-- What the gathering needs of the rows: their first edges rise, no row is longer than the table is wide, and the columns of the
  edges lie in the table. -/
structure RowsOk (rp : ℕ → ℕ) (col : ℕ → BitVec 32) : Prop where
  rise : ∀ r, r < 128 → rp r ≤ rp (r + 1)
  short : ∀ r, r < 128 → min (rp (r + 1)) 3072 ≤ rp r + 128
  inside : ∀ e, e < 3072 → e < rp 128 → (col e).toNat < 128

theorem RowsOk.mono {rp : ℕ → ℕ} {col : ℕ → BitVec 32} (h : RowsOk rp col) (a b : ℕ) (hab : a ≤ b) (hb : b ≤ 128) : rp a ≤ rp b := by
  induction b with
  | zero => have : a = 0 := by omega
            subst this; exact le_refl _
  | succ b ih =>
    rcases Nat.lt_or_ge a (b + 1) with h1 | h1
    · exact (ih (by omega) (by omega)).trans (h.rise b (by omega))
    · have : a = b + 1 := by omega
      subst this; exact le_refl _

/-- What the edges of the rows below `n` hold. -/
def PE (m1 : Memref sig .tc .smem S2x129 .i32) (X1 : BufTy.Contents (Elt Ideal) m1.view.ty) (m13 : Memref sig .tc .vmem S4608x128 .f32)
    (X13 : BufTy.Contents (Elt Ideal) m13.view.ty) (m17 : Memref sig .tc .vmem S24x128 .i32) (X17 : BufTy.Contents (Elt Ideal) m17.view.ty)
    (i : grid0.Coords) (m14 : Memref sig .tc .vmem S32x3328 .f32) (n : ℕ) (f : BufTy.Contents (Elt Ideal) m14.view.ty) : Prop :=
  ∀ (r : Fin 128) (h : Fin 32) (e : Fin 3072), r.val < n → rpN m1 X1 i r.val ≤ e.val → e.val < rpN m1 X1 i (r.val + 1) →
    m14.view.read (Elt Ideal) f (ix2 h ⟨e.val, by omega⟩) = tabN m13 m17 X13 X17 r h e.val

theorem PE_succ (m1 : Memref sig .tc .smem S2x129 .i32) (X1 : BufTy.Contents (Elt Ideal) m1.view.ty) (m13 : Memref sig .tc .vmem S4608x128 .f32)
    (X13 : BufTy.Contents (Elt Ideal) m13.view.ty) (m17 : Memref sig .tc .vmem S24x128 .i32) (X17 : BufTy.Contents (Elt Ideal) m17.view.ty)
    (i : grid0.Coords) (m14 : Memref sig .tc .vmem S32x3328 .f32) (k : Fin k0_t3_loop.trips) (f f' : BufTy.Contents (Elt Ideal) m14.view.ty)
    (hok : RowsOk (rpN m1 X1 i) (colN m17 X17)) (b : ℕ)
    (h : PE m1 X1 m13 X13 m17 X17 i m14 k.val f)
    (h' : ∀ y, DS (rpN m1 X1 i k.val) (min (rpN m1 X1 i (k.val + 1)) 3072) b 4 False y →
      m14.view.read (Elt Ideal) f' y = gS m13 m14 m17 X13 X17 f ⟨k.val, trips3_lt k⟩ (rpN m1 X1 i k.val) y) :
    PE m1 X1 m13 X13 m17 X17 i m14 (k.val + 1) f' := by
  intro r hh e hr h1 h2
  have hk := trips3_lt k
  rcases Nat.lt_succ_iff_lt_or_eq.mp hr with hr' | hr'
  · have hm := hok.mono (r.val + 1) k.val (by omega) (by omega)
    refine (h' _ ⟨e.isLt, Or.inl (show e.val < _ by omega)⟩).trans ?_
    refine (if_pos (show e.val < _ by omega)).trans ?_
    exact h r hh e hr' h1 h2
  · have : r = ⟨k.val, hk⟩ := Fin.ext hr'
    subst this
    refine (h' _ ⟨e.isLt, Or.inr ⟨show e.val < _ from lt_min h2 e.isLt, Or.inl (by show hh.val < 8 * 4; omega)⟩⟩).trans ?_
    exact if_neg (show ¬ e.val < _ from Nat.not_lt.mpr h1)

local notation "𝕄G" => MT nD τ sig Unit (Elt Ideal) ℕ (UR sig nD τ) ℕ

set_option warn.classDefReducibility false in
set_option maxHeartbeats 40000000 in
/-- The loop over the rows, by the edges it fills. -/
@[sl_loop] def loopInv_k0_t3 (𝒱 : Variants) (c : Dev nD) (bd : Option 𝒱.V) (E : Set ℕ) (i : grid0.Coords) (arg1 : Memref sig .tc .smem S2x129 .i32) (harg1 : arg1.IsWhole) (arg2 : Memref sig .tc .smem S2x32 .f32) (harg2 : arg2.IsWhole) (arg3 : Memref sig .tc .smem S2x32 .f32) (harg3 : arg3.IsWhole) (arg4 : Memref sig .tc .smem S2x32 .f32) (harg4 : arg4.IsWhole) (arg5 : Memref sig .tc .vmem S1x32x160x128 .fp8e4m3) (harg5 : arg5.IsWhole) (arg6 : Memref sig .tc .vmem S1x32x160x128 .fp8e4m3) (harg6 : arg6.IsWhole) (arg7 : Memref sig .tc .vmem S1x32x160x128 .fp8e4m3) (harg7 : arg7.IsWhole) (arg8 : Memref sig .tc .vmem S2x129 .i32) (harg8 : arg8.IsWhole) (arg9 : Memref sig .tc .vmem S2x3072 .i32) (harg9 : arg9.IsWhole) (arg10 : Memref sig .tc .vmem S1x128x5120 .bf16) (harg10 : arg10.IsWhole) (arg11 : Memref sig .tc .vmem S1x32x3072 .f32) (harg11 : arg11.IsWhole) (arg12 : Memref sig .tc .vmem S1x32x128 .f32) (harg12 : arg12.IsWhole) (arg13 : Memref sig .tc .vmem S4608x128 .f32) (harg13 : arg13.IsWhole) (arg14 : Memref sig .tc .vmem S32x3328 .f32) (harg14 : arg14.IsWhole) (arg15 : Memref sig .tc .vmem S128x128 .f32) (harg15 : arg15.IsWhole) (arg16 : Memref sig .tc .vmem S640x128 .f32) (harg16 : arg16.IsWhole) (arg17 : Memref sig .tc .vmem S24x128 .i32) (harg17 : arg17.IsWhole) (arg0 : BitVec 32) (v0 : IVec S1x128 32) (v1 : IVec S128x128 32) (v7 : IVec S1x128 32) (v8 : IVec S1x128 32) (c0_i32_77 : BitVec 32)
    (X1 : BufTy.Contents (Elt Ideal) arg1.view.ty) (X17 : BufTy.Contents (Elt Ideal) arg17.view.ty) (X13 : BufTy.Contents (Elt Ideal) arg13.view.ty) :
    LoopInvTy_k0_t3 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v0 v1 v7 v8 c0_i32_77 where
  inv k _ := iprop((arg1.view.loc (c : Thread nD τ) ↦[arg1.view.set]{fullShare} X1)
    ∗ (arg17.view.loc (c : Thread nD τ) ↦[arg17.view.set]{fullShare} X17)
    ∗ (arg13.view.loc (c : Thread nD τ) ↦[arg13.view.set]{fullShare} X13)
    ∗ (∃ f, (arg14.view.loc (c : Thread nD τ) ↦[arg14.view.set]{fullShare} f)
      ∗ ⌜Since k ((∀ j, v0 (ix2 0 j) = BitVec.ofNat 32 j.val) → RowsOk (rpN arg1 X1 i) (colN arg17 X17) → PE arg1 X1 arg13 X13 arg17 X17 i arg14 k f) = True⌝))
  step k acc := by
    have hk : k.val < 128 := trips3_lt k
    have hchk := chk1_all
    unfold k0_t3_body
    iintro ⟨H1, H17, H13, ⟨%f14, H14, %g14⟩⟩
    have h14 := Since.get0 g14 (fun e => by rw [e]; exact fun _ _ r h e' hr => absurd hr (Nat.not_lt_zero _))
    sl_exec
    sl_step
    isplitl [H1]; iexact H1
    isplitl [H17]; iexact H17
    isplitl [H13]; iexact H13
    iexists _
    isplitl [H14]; iexact H14
    ipureintro
    refine Since.mk fun hv0 hok => ?_
    have hw : View.readAt (Elt Ideal) arg1.view (Rect.unit (s := S2x129) (k0_off7 i k) S1x1.size (k0_off7_inb i k)).toLoadRect X1 (Shape.Idx.first (s := S1x1) (by decide))
        = arg1.view.read (Elt Ideal) X1 (ix2 (ci i) ⟨k.val, by omega⟩) := by
      refine readAt_unit_eq arg1.view X1 _ _ _ fun a => ?_
      rw [off7_eq]
      match a with
      | ⟨0, _⟩ => exact (Nat.add_zero _).symm
      | ⟨1, _⟩ => exact (Nat.add_zero _).symm
    let w : Elt Ideal .i32 := View.readAt (Elt Ideal) arg1.view (Rect.unit (s := S2x129) (k0_off7 i k) S1x1.size (k0_off7_inb i k)).toLoadRect X1 (Shape.Idx.first (s := S1x1) (by decide))
    have hwn : rpN arg1 X1 i k.val = w.toNat := by
      unfold rpN
      rw [dif_pos (by omega)]
      exact congrArg BitVec.toNat hw.symm
    have hE' : min (rpN arg1 X1 i (k.val + 1)) 3072 ≤ w.toNat + 128 := by rw [← hwn]; exact hok.short k.val hk
    have hcol : ∀ e, w.toNat ≤ e → e < min (rpN arg1 X1 i (k.val + 1)) 3072 → (colN arg17 X17 e).toNat < 128 := fun e _ he =>
      hok.inside e (by omega) (lt_of_lt_of_le (lt_of_lt_of_le he (min_le_left _ _)) (hok.mono _ _ (by omega) (le_refl _)))
    refine PE_succ arg1 X1 arg13 X13 arg17 X17 i arg14 k f14 _ hok (blkN w) (h14 hv0 hok) ?_
    rw [hwn]
    refine fullStep arg13 arg14 arg17 X13 X17 f14 v0 hv0 w (min (rpN arg1 X1 i (k.val + 1)) 3072) (min_le_right _ _) hE' hcol k 3 _ _ ((offs_eq w).2.2.2.2.2.2.2.2.2) _ (hchk w).1 (hchk w).2.1 (k0_off10_inb k 3) ?_
    refine maskStep arg13 arg14 arg17 X13 X17 f14 v0 hv0 w (min (rpN arg1 X1 i (k.val + 1)) 3072) (min_le_right _ _) hE' hcol k 3 _ _ ((offs_eq w).2.2.2.2.2.2.2.2.1) _ (hchk w).1 (hchk w).2.1 (k0_off10_inb k 3) ?_
    refine fullStep arg13 arg14 arg17 X13 X17 f14 v0 hv0 w (min (rpN arg1 X1 i (k.val + 1)) 3072) (min_le_right _ _) hE' hcol k 2 _ _ ((offs_eq w).2.2.2.2.2.2.2.1) _ (hchk w).1 (hchk w).2.1 (k0_off10_inb k 2) ?_
    refine maskStep arg13 arg14 arg17 X13 X17 f14 v0 hv0 w (min (rpN arg1 X1 i (k.val + 1)) 3072) (min_le_right _ _) hE' hcol k 2 _ _ ((offs_eq w).2.2.2.2.2.2.1) _ (hchk w).1 (hchk w).2.1 (k0_off10_inb k 2) ?_
    refine fullStep arg13 arg14 arg17 X13 X17 f14 v0 hv0 w (min (rpN arg1 X1 i (k.val + 1)) 3072) (min_le_right _ _) hE' hcol k 1 _ _ ((offs_eq w).2.2.2.2.2.1) _ (hchk w).1 (hchk w).2.1 (k0_off10_inb k 1) ?_
    refine maskStep arg13 arg14 arg17 X13 X17 f14 v0 hv0 w (min (rpN arg1 X1 i (k.val + 1)) 3072) (min_le_right _ _) hE' hcol k 1 _ _ ((offs_eq w).2.2.2.2.1) _ (hchk w).1 (hchk w).2.1 (k0_off10_inb k 1) ?_
    refine fullStep arg13 arg14 arg17 X13 X17 f14 v0 hv0 w (min (rpN arg1 X1 i (k.val + 1)) 3072) (min_le_right _ _) hE' hcol k 0 _ _ ((offs_eq w).2.2.2.1) _ (hchk w).1 (hchk w).2.1 (k0_off10_inb k 0) ?_
    refine maskStep arg13 arg14 arg17 X13 X17 f14 v0 hv0 w (min (rpN arg1 X1 i (k.val + 1)) 3072) (min_le_right _ _) hE' hcol k 0 _ _ ((offs_eq w).2.2.1) _ (hchk w).1 (hchk w).2.1 (k0_off10_inb k 0) ?_
    · intro y hy
      unfold gS
      obtain ⟨h1, h2⟩ := hy
      have h3 : (y 1).val < w.toNat := by
        rcases h2 with h | ⟨_, h | h⟩
        · exact h
        · exact absurd h (by simp)
        · exact absurd h.1 id
      rw [if_pos h3]

end Cert.KernelIdeal.Val
-- ==== Proof.Val.Body.lean ====
/-
  Hand-written. `KernelIdeal`'s grid step over the reals: what its three results hold once it has run.
-/
module

public import proofs.«01_k».proof.Proof.Gen.KernelIdeal.Loops
public import proofs.«01_k».proof.Proof.Gen.KernelIdeal.Skeleton
public import proofs.«01_k».proof.Proof.Gen.KernelIdeal.Frame
public import proofs.«01_k».proof.Proof.Val.T1
public import proofs.«01_k».proof.Proof.Val.T2
public import proofs.«01_k».proof.Proof.Val.T3
public import Idealize.ShloMosaic.Lib.Tactic
public import Idealize.ShloMosaic.Lib.Pointwise
public import Idealize.ShloMosaic.Lib.WordCmp
public import Idealize.ShloMosaic.Lib.WordArith

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Row pointer `r` of the step's row of pointers. -/
def rpV (m : Memref sig .tc .vmem S2x129 .i32) (X : BufTy.Contents (Elt Ideal) m.view.ty) (i : grid0.Coords) (r : ℕ) : BitVec 32 :=
  if h : r < 129 then m.view.read (Elt Ideal) X (ix2 (ci i) ⟨r, h⟩) else 0#32

/-- The column of edge `e` in the step's row of columns. -/
def colV (m : Memref sig .tc .vmem S2x3072 .i32) (X : BufTy.Contents (Elt Ideal) m.view.ty) (i : grid0.Coords) (e : ℕ) : BitVec 32 :=
  if h : e < 3072 then m.view.read (Elt Ideal) X (ix2 (ci i) ⟨e, h⟩) else 0#32

open Classical in
/-- The mask: zero at a column the row has an edge to, minus infinity elsewhere. -/
def biasE (rp col : ℕ → BitVec 32) (c r : Fin 128) : EReal :=
  if ∃ e : Fin 3072, col e.val = BitVec.ofNat 32 c.val ∧ InRow (rp r.val) (rp (r.val + 1)) e.val then 0 else ⊥

open Classical in
/-- The edges' scores: edge `e`'s row and column, zero past the last row. -/
def gE (x : In) (rp : ℕ → ℕ) (col : ℕ → BitVec 32) (i : Fin 2) (y : S1x32x3072.Idx) : EReal :=
  if h : ∃ r : Fin 128, rp r.val ≤ (y 2).val ∧ (y 2).val < rp (r.val + 1) then
    score x i (y 1) h.choose ⟨(col (y 2).val).toNat % 128, Nat.mod_lt _ (by norm_num)⟩ else 0

theorem sel_row {α : Type} (i : grid0.Coords) (x y : α) :
    Scalar.select (Scalar.cmpi .eq (BitVec.ofNat 32 (i 0).val) 0#32) x y = if (ci i).val = 0 then x else y := by
  have hi : (i 0).val < 2 := (i 0).isLt
  unfold ci
  generalize (i 0).val = n at hi
  interval_cases n <;> rfl

/-- The step's row of a pair of rows, as the kernel picks it. -/
def rowW (i : grid0.Coords) (v : Vec Ideal S2x128 .i32) : IVec S1x128 32 :=
  shapeCast S1x128 (Scalar.select (Scalar.cmpi .eq (BitVec.ofNat 32 (i 0).val) 0#32)
    (extractStridedSlice S1x128 ![0, 0] v slices_S2x128_o0_0_S1x128) (extractStridedSlice S1x128 ![1, 0] v slices_S2x128_o1_0_S1x128) : IVec S1x128 32)
    shapeCasts_S1x128_S1x128

theorem rowW_apply (i : grid0.Coords) (v : Vec Ideal S2x128 .i32) (a : Fin 1) (j : Fin 128) : rowW i v (ix2 a j) = v (ix2 (ci i) j) := by
  unfold rowW
  rw [sel_row, shapeCast_self]
  have h : (ci i).val < 2 := (ci i).isLt
  obtain rfl : a = 0 := Subsingleton.elim _ _
  split
  · rename_i h0
    exact congrArg v (funext fun b => Fin.ext (by
      match b with
      | ⟨0, _⟩ => exact h0.symm
      | ⟨1, _⟩ => exact Nat.zero_add _))
  · rename_i h0
    exact congrArg v (funext fun b => Fin.ext (by
      match b with
      | ⟨0, _⟩ => show 1 + 0 = (ci i).val; omega
      | ⟨1, _⟩ => exact Nat.zero_add _))

theorem pay137_apply (i : grid0.Coords) (v : Vec Ideal S2x129 .i32) (r : Fin 128) :
    k0_pay137 (F := Ideal) i v (ix2 0 r) = v (ix2 (ci i) ⟨r.val, by omega⟩) := by
  unfold k0_pay137 k0_pay136
  have h : (ci i).val < 2 := (ci i).isLt
  dsimp only
  rw [sel_row]
  split
  · rename_i h0
    exact congrArg v (funext fun b => Fin.ext (by
      match b with
      | ⟨0, _⟩ => exact h0.symm
      | ⟨1, _⟩ => show 0 + (0 + r.val) = r.val; omega))
  · rename_i h0
    exact congrArg v (funext fun b => Fin.ext (by
      match b with
      | ⟨0, _⟩ => show 1 + (0 + 0) = (ci i).val; omega
      | ⟨1, _⟩ => show 0 + (0 + r.val) = r.val; omega))

theorem pay138_apply (i : grid0.Coords) (v : Vec Ideal S2x129 .i32) (r : Fin 128) :
    k0_pay138 (F := Ideal) i v (ix2 0 r) = v (ix2 (ci i) ⟨r.val + 1, by omega⟩) := by
  unfold k0_pay138 k0_pay136
  have h : (ci i).val < 2 := (ci i).isLt
  dsimp only
  rw [sel_row]
  split
  · rename_i h0
    exact congrArg v (funext fun b => Fin.ext (by
      match b with
      | ⟨0, _⟩ => exact h0.symm
      | ⟨1, _⟩ => show 0 + (1 + r.val) = r.val + 1; omega))
  · rename_i h0
    exact congrArg v (funext fun b => Fin.ext (by
      match b with
      | ⟨0, _⟩ => show 1 + (0 + 0) = (ci i).val; omega
      | ⟨1, _⟩ => show 0 + (1 + r.val) = r.val + 1; omega))

/-- The copied columns, below row `n`. -/
def PC (m17 : Memref sig .tc .vmem S24x128 .i32) (col : ℕ → BitVec 32) (n : ℕ) (f : BufTy.Contents (Elt Ideal) m17.view.ty) : Prop :=
  ∀ y : S24x128.Idx, (y 0).val < n → m17.view.read (Elt Ideal) f y = col (128 * (y 0).val + (y 1).val)

theorem stepC (i : grid0.Coords) (m9 : Memref sig .tc .vmem S2x3072 .i32) (X9 : BufTy.Contents (Elt Ideal) m9.view.ty)
    (m17 : Memref sig .tc .vmem S24x128 .i32) (f : BufTy.Contents (Elt Ideal) m17.view.ty) (n : Fin 24)
    (L : List (View.Piece (Elt Ideal) S24x128 .i32)) (inb inb')
    (h : PC m17 (colV m9 X9 i) n.val (m17.view.writes (Elt Ideal) f L)) :
    PC m17 (colV m9 X9 i) (n.val + 1) (m17.view.writes (Elt Ideal) f
      (⟨Rect.unit (s := S24x128) ![n.val, 0] S1x128.size inb,
        rowW i (View.readAt (Elt Ideal) m9.view (Rect.unit (s := S2x3072) ![0, 128 * n.val] S2x128.size inb').toLoadRect X9)⟩ :: L)) := by
  refine read_cons m17.view f (fun y => colV m9 X9 i (128 * (y 0).val + (y 1).val)) (fun y => (y 0).val < n.val) (fun y => (y 0).val < n.val + 1) _ _ L h
    (fun y => ?_) (fun y hy hn => ?_)
  · have y0 : (y 0).val < 1 := (y 0).isLt
    have y1 : (y 1).val < 128 := (y 1).isLt
    obtain ⟨a, j, rfl⟩ : ∃ (a : Fin 1) (j : Fin 128), y = ix2 a j := ⟨⟨_, y0⟩, ⟨_, y1⟩, funext fun b => by match b with | ⟨0, _⟩ => rfl | ⟨1, _⟩ => rfl⟩
    refine (rowW_apply i _ a j).trans ?_
    have hn := n.isLt
    have hj := j.isLt
    refine (readAt_unit_eq m9.view X9 inb' (ix2 (ci i) j) (ix2 (ci i) ⟨128 * n.val + j.val, by omega⟩) fun b => ?_).trans ?_
    · match b with
      | ⟨0, _⟩ => exact (Nat.zero_add _).symm
      | ⟨1, _⟩ => rfl
    · have e : 128 * (n.val + 1 * a.val) + (0 + 1 * j.val) = 128 * n.val + j.val := by omega
      show _ = colV m9 X9 i (128 * (n.val + 1 * a.val) + (0 + 1 * j.val))
      rw [e]
      unfold colV
      rw [dif_pos (by omega)]
  · rw [LoadRect.mem_set]
    have y1 : (y 1).val < 128 := (y 1).isLt
    intro b
    match b with
    | ⟨0, _⟩ => exact ⟨0, Nat.zero_lt_one, show (y 0).val = n.val + 1 * 0 by omega⟩
    | ⟨1, _⟩ => exact ⟨(y 1).val, y1, show (y 1).val = 0 + 1 * (y 1).val by omega⟩

/-- A block of the edges' scores, cut off past the last edge. -/
def finW (v0 : IVec S1x128 32) (w o : BitVec 32) (g : Vec Ideal S32x128 .f32) : FVec Ideal S1x32x128 .f32 :=
  shapeCast S1x32x128 (select (broadcastTo S32x128 (shapeCast S1x128 (cmpi .slt (addi v0 (broadcast S1x128 o)) (broadcast S1x128 w)) shapeCasts_S1x128_S1x128)
    broadcasts_S1x128_S32x128) g (broadcast S32x128 (Scalar.ofBits (F := Ideal) .f32 0x00000000#32))) shapeCasts_S32x128_S1x32x128

theorem finW_apply (v0 : IVec S1x128 32) (hv0 : ∀ j, v0 (ix2 0 j) = BitVec.ofNat 32 j.val) (w : BitVec 32) (n : Fin 24) (g : Vec Ideal S32x128 .f32)
    (a : Fin 1) (h : Fin 32) (j : Fin 128) :
    finW v0 w (BitVec.ofNat 32 (128 * n.val)) g (ix3 a h j) = if ((128 * n.val + j.val : ℕ) : ℤ) < w.toInt then g (ix2 h j) else 0 := by
  obtain rfl : a = 0 := Subsingleton.elim _ _
  have hn := n.isLt
  have hj := j.isLt
  have e : IntOp.addi (BitVec.ofNat 32 j.val) (BitVec.ofNat 32 (128 * n.val)) = BitVec.ofNat 32 (128 * n.val + j.val) := by
    show _ + _ = _
    rw [← BitVec.ofNat_add, Nat.add_comm]
  have e2 : (BitVec.ofNat 32 (128 * n.val + j.val)).toInt = ((128 * n.val + j.val : ℕ) : ℤ) := by
    rw [BitVec.toInt_eq_toNat_of_lt (by rw [BitVec.toNat_ofNat]; omega), BitVec.toNat_ofNat, Nat.mod_eq_of_lt (by omega)]
  pointwise [finW, hv0]
  rw [e, WordCmp.cmpi_slt_eq, e2]
  split
  · rename_i h; rw [decide_eq_true h]; rfl
  · rename_i h; rw [decide_eq_false h]; simp [Scalar.select, Ideal.ofBits, Ideal.ieee]

/-- The edges' scores below edge `n`, off what the gathering left. -/
def PF (m14 : Memref sig .tc .vmem S32x3328 .f32) (f14 : BufTy.Contents (Elt Ideal) m14.view.ty) (w : BitVec 32)
    (m11 : Memref sig .tc .vmem S1x32x3072 .f32) (n : ℕ) (f : BufTy.Contents (Elt Ideal) m11.view.ty) : Prop :=
  ∀ y : S1x32x3072.Idx, (y 2).val < n → m11.view.read (Elt Ideal) f y
    = if ((y 2).val : ℤ) < w.toInt then m14.view.read (Elt Ideal) f14 (ix2 (y 1 : Fin 32) ⟨(y 2).val, lt_of_lt_of_le (show (y 2).val < 3072 from (y 2).isLt) (by norm_num)⟩) else 0

theorem stepF (m14 : Memref sig .tc .vmem S32x3328 .f32) (f14 : BufTy.Contents (Elt Ideal) m14.view.ty) (w : BitVec 32)
    (v0 : IVec S1x128 32) (hv0 : ∀ j, v0 (ix2 0 j) = BitVec.ofNat 32 j.val)
    (m11 : Memref sig .tc .vmem S1x32x3072 .f32) (f : BufTy.Contents (Elt Ideal) m11.view.ty) (n : Fin 24)
    (L : List (View.Piece (Elt Ideal) S1x32x3072 .f32)) (inb inb')
    (h : PF m14 f14 w m11 (128 * n.val) (m11.view.writes (Elt Ideal) f L)) :
    PF m14 f14 w m11 (128 * (n.val + 1)) (m11.view.writes (Elt Ideal) f
      (⟨Rect.unit (s := S1x32x3072) ![0, 0, 128 * n.val] S1x32x128.size inb,
        finW v0 w (BitVec.ofNat 32 (128 * n.val)) (View.readAt (Elt Ideal) m14.view (Rect.unit (s := S32x3328) ![0, 128 * n.val] S32x128.size inb').toLoadRect f14)⟩ :: L)) := by
  refine read_cons m11.view f (fun y => if ((y 2).val : ℤ) < w.toInt then m14.view.read (Elt Ideal) f14 (ix2 (y 1 : Fin 32) ⟨(y 2).val, lt_of_lt_of_le (show (y 2).val < 3072 from (y 2).isLt) (by norm_num)⟩) else 0)
    (fun y => (y 2).val < 128 * n.val) (fun y => (y 2).val < 128 * (n.val + 1)) _ _ L h (fun y => ?_) (fun y hy hn => ?_)
  · have y0 : (y 0).val < 1 := (y 0).isLt
    have y1 : (y 1).val < 32 := (y 1).isLt
    have y2 : (y 2).val < 128 := (y 2).isLt
    obtain ⟨a, h, j, rfl⟩ : ∃ (a : Fin 1) (h : Fin 32) (j : Fin 128), y = ix3 a h j :=
      ⟨⟨_, y0⟩, ⟨_, y1⟩, ⟨_, y2⟩, funext fun b => by match b with | ⟨0, _⟩ => rfl | ⟨1, _⟩ => rfl | ⟨2, _⟩ => rfl⟩
    refine (finW_apply v0 hv0 w n _ a h j).trans ?_
    have e : 128 * n.val + 1 * j.val = 128 * n.val + j.val := by omega
    show _ = if ((128 * n.val + 1 * j.val : ℕ) : ℤ) < w.toInt then _ else _
    rw [e]
    refine if_congr Iff.rfl (readAt_unit_eq m14.view f14 inb' (ix2 h j) _ fun b => ?_) rfl
    match b with
    | ⟨0, _⟩ => exact congrArg (0 + ·) (Nat.one_mul _)
    | ⟨1, _⟩ => exact e
  · rw [LoadRect.mem_set]
    have y0 : (y 0).val < 1 := (y 0).isLt
    have y1 : (y 1).val < 32 := (y 1).isLt
    have y2 : (y 2).val < 3072 := (y 2).isLt
    intro b
    match b with
    | ⟨0, _⟩ => exact ⟨0, Nat.zero_lt_one, show (y 0).val = 0 + 1 * 0 by omega⟩
    | ⟨1, _⟩ => exact ⟨(y 1).val, y1, show (y 1).val = 0 + 1 * (y 1).val by omega⟩
    | ⟨2, _⟩ => exact ⟨(y 2).val - 128 * n.val, show _ < 128 by omega, show (y 2).val = 128 * n.val + 1 * ((y 2).val - 128 * n.val) by omega⟩

theorem whole_store (m : Memref sig .tc .vmem S128x128 .f32) (f : BufTy.Contents (Elt Ideal) m.view.ty) (inb) (w : FVec Ideal S128x128 .f32) (c r : Fin 128) :
    m.view.read (Elt Ideal) (m.view.writes (Elt Ideal) f [⟨Rect.unit (s := S128x128) ![0, 0] S128x128.size inb, w⟩]) (ix2 c r) = w (ix2 c r) := by
  have hemb : (Rect.unit (s := S128x128) ![0, 0] S128x128.size inb).emb (ix2 c r) = ix2 c r := by
    funext a
    apply Fin.ext
    match a with
    | ⟨0, _⟩ => show 0 + 1 * c.val = c.val; omega
    | ⟨1, _⟩ => show 0 + 1 * r.val = r.val; omega
  have hr := View.read_writes_cons_emb m.view f (Rect.unit (s := S128x128) ![0, 0] S128x128.size inb) w [] (ix2 c r)
  rwa [hemb] at hr

theorem iota0 (j : Fin 128) : (iota Kind.tc S1x128 32 [1] iota_S1x128_d1_w32) (ix2 0 j) = BitVec.ofNat 32 j.val := by
  pointwise []

theorem iota1 (j r : Fin 128) : (iota Kind.tc S128x128 32 [0] iota_S128x128_d0_w32) (ix2 j r) = BitVec.ofNat 32 j.val := by
  pointwise []

theorem pay139_apply (c r : Fin 128) : k0_pay139 (F := Ideal) (ix2 c r) = 0 := by
  pointwise [k0_pay139]

theorem off19_eq (i : grid0.Coords) : k0_off19 i = ![(i 0).val, 128] := by
  have hi : (i 0).val < 2 := (i 0).isLt
  unfold k0_off19
  generalize (i 0).val = n at hi
  revert n
  decide +kernel

/-- The columns the kernel copies are the step's columns. -/
theorem colN_eq (m17 : Memref sig .tc .vmem S24x128 .i32) (X17 : BufTy.Contents (Elt Ideal) m17.view.ty) (i : grid0.Coords)
    (m9 : Memref sig .tc .vmem S2x3072 .i32) (X9 : BufTy.Contents (Elt Ideal) m9.view.ty)
    (h : PC m17 (colV m9 X9 i) 24 X17) : colN m17 X17 = colV m9 X9 i := by
  funext e
  by_cases he : e < 3072
  · unfold colN
    rw [dif_pos he]
    refine (h _ (show e / 128 < 24 by omega)).trans (congrArg _ ?_)
    show 128 * (e / 128) + e % 128 = e
    omega
  · unfold colN colV
    rw [dif_neg he, dif_neg he]

theorem bias_eq (m17 : Memref sig .tc .vmem S24x128 .i32) (X17 : BufTy.Contents (Elt Ideal) m17.view.ty) (i : grid0.Coords)
    (m9 : Memref sig .tc .vmem S2x3072 .i32) (X9 : BufTy.Contents (Elt Ideal) m9.view.ty) (m8 : Memref sig .tc .vmem S2x129 .i32)
    (X8 : BufTy.Contents (Elt Ideal) m8.view.ty) (m15 : Memref sig .tc .vmem S128x128 .f32) (f f' : BufTy.Contents (Elt Ideal) m15.view.ty)
    (h : PC m17 (colV m9 X9 i) 24 X17) (inb₀ inb inb')
    (hb : PB m17 X17 (k0_pay137 (F := Ideal) i (View.readAt (Elt Ideal) m8.view (Rect.unit (s := S2x129) ![0, 0] S2x129.size inb₀).toLoadRect X8))
      (k0_pay138 (F := Ideal) i (View.readAt (Elt Ideal) m8.view (Rect.unit (s := S2x129) ![0, 0] S2x129.size inb₀).toLoadRect X8)) m15 24 f) :
    biasOf m15 (m15.view.writes (Elt Ideal) f' [⟨Rect.unit (s := S128x128) ![0, 0] S128x128.size inb,
        k0_pay167 (F := Ideal) (View.readAt (Elt Ideal) m15.view (Rect.unit (s := S128x128) ![0, 0] S128x128.size inb').toLoadRect f)⟩])
      = biasE (rpV m8 X8 i) (colV m9 X9 i) := by
  funext c r
  classical
  unfold biasOf
  refine (whole_store m15 f' inb _ c r).trans ?_
  have hr : ∀ n : Fin 129, View.readAt (Elt Ideal) m8.view (Rect.unit (s := S2x129) ![0, 0] S2x129.size inb₀).toLoadRect X8 (ix2 (ci i) n) = rpV m8 X8 i n.val := fun n => by
    unfold rpV
    rw [dif_pos n.isLt]
    refine readAt_unit_eq m8.view X8 inb₀ _ _ fun a => ?_
    match a with
    | ⟨0, _⟩ => exact (Nat.zero_add _).symm
    | ⟨1, _⟩ => exact (Nat.zero_add _).symm
  refine (pay167_counts _ c r (∃ e : Fin 3072, colV m9 X9 i e.val = BitVec.ofNat 32 c.val ∧ InRow (rpV m8 X8 i r.val) (rpV m8 X8 i (r.val + 1)) e.val) ?_).trans ?_
  · rw [readAt_unit_eq m15.view f inb' (ix2 c r) (ix2 c r) (fun a => by
      match a with
      | ⟨0, _⟩ => exact (Nat.zero_add _).symm
      | ⟨1, _⟩ => exact (Nat.zero_add _).symm)]
    refine (hb c r).congr ?_
    rw [pay137_apply, pay138_apply, hr, hr]
    constructor
    · rintro ⟨b, j, hb, h1, h2⟩
      refine ⟨⟨128 * b.val + j.val, by omega⟩, ?_, h2⟩
      rw [← h1]
      exact (h (ix2 b j) b.isLt).symm
    · rintro ⟨e, h1, h2⟩
      refine ⟨⟨e.val / 128, by omega⟩, ⟨e.val % 128, by omega⟩, by show e.val / 128 < 24; omega, ?_, ?_⟩
      · rw [← h1]
        refine (h _ (show e.val / 128 < 24 by omega)).trans (congrArg _ ?_)
        show 128 * (e.val / 128) + e.val % 128 = e.val
        omega
      · have : 128 * (e.val / 128) + e.val % 128 = e.val := by omega
        rw [this]
        exact h2
  · unfold biasE
    exact if_congr Iff.rfl rfl rfl

theorem edges_eq (x : In) (i : grid0.Coords) (m1 : Memref sig .tc .smem S2x129 .i32) (X1 : BufTy.Contents (Elt Ideal) m1.view.ty)
    (col : ℕ → BitVec 32) (m13 : Memref sig .tc .vmem S4608x128 .f32)
    (X13 : BufTy.Contents (Elt Ideal) m13.view.ty) (m17 : Memref sig .tc .vmem S24x128 .i32) (X17 : BufTy.Contents (Elt Ideal) m17.view.ty)
    (hc : colN m17 X17 = col) (m14 : Memref sig .tc .vmem S32x3328 .f32) (f14 : BufTy.Contents (Elt Ideal) m14.view.ty)
    (m11 : Memref sig .tc .vmem S1x32x3072 .f32) (f : BufTy.Contents (Elt Ideal) m11.view.ty) (w : BitVec 32)
    (hw : w.toInt = (rpN m1 X1 i 128 : ℤ)) (h0 : rpN m1 X1 i 0 = 0)
    (hok : RowsOk (rpN m1 X1 i) col)
    (hT : PT x (ci i) m13 (fun y => (y 0).val % 36 < 32) X13)
    (hE : PE m1 X1 m13 X13 m17 X17 i m14 128 f14) (hF : PF m14 f14 w m11 3072 f) (y : S1x32x3072.Idx) :
    m11.view.read (Elt Ideal) f y = gE x (rpN m1 X1 i) col (ci i) y := by
  have y1 : (y 1).val < 32 := (y 1).isLt
  have y2 : (y 2).val < 3072 := (y 2).isLt
  refine (hF y y2).trans ?_
  rw [hw]
  unfold gE
  by_cases hex : ∃ r : Fin 128, rpN m1 X1 i r.val ≤ (y 2).val ∧ (y 2).val < rpN m1 X1 i (r.val + 1)
  · rw [dif_pos hex]
    obtain ⟨h1, h2⟩ := hex.choose_spec
    generalize hex.choose = r at h1 h2
    have hm := hok.mono (r.val + 1) 128 (by omega) (le_refl _)
    rw [if_pos (by exact_mod_cast lt_of_lt_of_le h2 hm)]
    refine (hE r (y 1) (y 2) r.isLt h1 h2).trans ?_
    unfold tabN
    subst hc
    refine (hT _ (show (36 * r.val + (y 1).val) % 36 < 32 by omega)).trans ?_
    unfold gT
    have e : (36 * r.val + (y 1).val) % 36 = (y 1).val := by omega
    have e' : (36 * r.val + (y 1).val) / 36 = r.val := by omega
    refine (dif_pos (show (36 * r.val + (y 1).val) % 36 < 32 by omega)).trans ?_
    exact congrArg₂ (fun h r' => score x (ci i) h r' _) (Fin.ext e) (Fin.ext e')
  · rw [dif_neg hex, if_neg]
    intro hlt
    have hlt' : (y 2).val < rpN m1 X1 i 128 := by exact_mod_cast hlt
    have : ∀ n, n ≤ 128 → rpN m1 X1 i n ≤ (y 2).val := fun n => by
      induction n with
      | zero => intro _; rw [h0]; exact Nat.zero_le _
      | succ n ih =>
        intro hn
        by_contra hh
        exact hex ⟨⟨n, by omega⟩, ih (by omega), Nat.lt_of_not_le hh⟩
    exact absurd (this 128 (le_refl _)) (Nat.not_le.mpr hlt')

theorem rd_total (m : Memref sig .tc .smem S2x129 .i32) (X : BufTy.Contents (Elt Ideal) m.view.ty) (i : grid0.Coords) (inb) (h) :
    View.readAt (Elt Ideal) m.view (Rect.unit (s := S2x129) (k0_off19 i) S1x1.size inb).toLoadRect X (Shape.Idx.first (s := S1x1) h)
      = m.view.read (Elt Ideal) X (ix2 (ci i) ⟨128, by norm_num⟩) := by
  refine readAt_unit_eq m.view X inb _ _ fun b => ?_
  rw [congrFun (off19_eq i) b]
  match b with
  | ⟨0, _⟩ => exact (Nat.add_zero _).symm
  | ⟨1, _⟩ => exact (Nat.add_zero _).symm

local notation "𝕄G" => MT nD τ sig Unit (Elt Ideal) ℕ (UR sig nD τ) ℕ

set_option maxHeartbeats 400000000 in
/-- One grid step: what it reads ends as it was, its results end at what the specification says. -/
theorem body_run (𝒱 : Variants) (c : Dev nD) (bd : Option 𝒱.V) (E : Set ℕ) (i : grid0.Coords) (arg1 : Memref sig .tc .smem S2x129 .i32) (harg1 : arg1.IsWhole) (arg2 : Memref sig .tc .smem S2x32 .f32) (harg2 : arg2.IsWhole) (arg3 : Memref sig .tc .smem S2x32 .f32) (harg3 : arg3.IsWhole) (arg4 : Memref sig .tc .smem S2x32 .f32) (harg4 : arg4.IsWhole) (arg5 : Memref sig .tc .vmem S1x32x160x128 .fp8e4m3) (harg5 : arg5.IsWhole) (arg6 : Memref sig .tc .vmem S1x32x160x128 .fp8e4m3) (harg6 : arg6.IsWhole) (arg7 : Memref sig .tc .vmem S1x32x160x128 .fp8e4m3) (harg7 : arg7.IsWhole) (arg8 : Memref sig .tc .vmem S2x129 .i32) (harg8 : arg8.IsWhole) (arg9 : Memref sig .tc .vmem S2x3072 .i32) (harg9 : arg9.IsWhole) (arg10 : Memref sig .tc .vmem S1x128x5120 .bf16) (harg10 : arg10.IsWhole) (arg11 : Memref sig .tc .vmem S1x32x3072 .f32) (harg11 : arg11.IsWhole) (arg12 : Memref sig .tc .vmem S1x32x128 .f32) (harg12 : arg12.IsWhole) (arg13 : Memref sig .tc .vmem S4608x128 .f32) (harg13 : arg13.IsWhole) (arg14 : Memref sig .tc .vmem S32x3328 .f32) (harg14 : arg14.IsWhole) (arg15 : Memref sig .tc .vmem S128x128 .f32) (harg15 : arg15.IsWhole) (arg16 : Memref sig .tc .vmem S640x128 .f32) (harg16 : arg16.IsWhole) (arg17 : Memref sig .tc .vmem S24x128 .i32) (harg17 : arg17.IsWhole)
    (X1 : BufTy.Contents (Elt Ideal) arg1.view.ty) (X2 : BufTy.Contents (Elt Ideal) arg2.view.ty) (X3 : BufTy.Contents (Elt Ideal) arg3.view.ty)
    (X4 : BufTy.Contents (Elt Ideal) arg4.view.ty) (X5 : BufTy.Contents (Elt Ideal) arg5.view.ty) (X6 : BufTy.Contents (Elt Ideal) arg6.view.ty)
    (X7 : BufTy.Contents (Elt Ideal) arg7.view.ty) (X8 : BufTy.Contents (Elt Ideal) arg8.view.ty) (X9 : BufTy.Contents (Elt Ideal) arg9.view.ty)
    (hok : RowsOk (rpN arg1 X1 i) (colV arg9 X9 i)) (h0 : rpN arg1 X1 i 0 = 0) (hlast : rpN arg1 X1 i 128 < 2 ^ 31)
 :
    (iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (∃ f, arg10.view.loc (c : Thread nD τ) ↦[arg10.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg14.view.loc (c : Thread nD τ) ↦[arg14.view.set]{fullShare} f)
    ∗ (∃ f, arg15.view.loc (c : Thread nD τ) ↦[arg15.view.set]{fullShare} f)
    ∗ (∃ f, arg16.view.loc (c : Thread nD τ) ↦[arg16.view.set]{fullShare} f)
    ∗ (∃ f, arg17.view.loc (c : Thread nD τ) ↦[arg17.view.set]{fullShare} f)) : sProp 𝕄G)
    ⊢ wp frame (wpE (defs₀ (F := Ideal)) 𝒱 (c : Thread nD τ) bd) E (cc0__body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (∃ f, (arg10.view.loc (c : Thread nD τ) ↦[arg10.view.set]{fullShare} f) ∗ ⌜∀ y, arg10.view.read (Elt Ideal) f y = gO (inOf arg2 arg3 arg4 arg5 arg6 arg7 X2 X3 X4 X5 X6 X7) (biasE (rpV arg8 X8 i) (colV arg9 X9 i)) (ci i) y⌝)
    ∗ (∃ f, (arg11.view.loc (c : Thread nD τ) ↦[arg11.view.set]{fullShare} f) ∗ ⌜∀ y, arg11.view.read (Elt Ideal) f y = gE (inOf arg2 arg3 arg4 arg5 arg6 arg7 X2 X3 X4 X5 X6 X7) (rpN arg1 X1 i) (colV arg9 X9 i) (ci i) y⌝)
    ∗ (∃ f, (arg12.view.loc (c : Thread nD τ) ↦[arg12.view.set]{fullShare} f) ∗ ⌜∀ y, arg12.view.read (Elt Ideal) f y = gL (inOf arg2 arg3 arg4 arg5 arg6 arg7 X2 X3 X4 X5 X6 X7) (biasE (rpV arg8 X8 i) (colV arg9 X9 i)) (ci i) y⌝)
    ∗ (∃ f, arg13.view.loc (c : Thread nD τ) ↦[arg13.view.set]{fullShare} f)
    ∗ (∃ f, arg14.view.loc (c : Thread nD τ) ↦[arg14.view.set]{fullShare} f)
    ∗ (∃ f, arg15.view.loc (c : Thread nD τ) ↦[arg15.view.set]{fullShare} f)
    ∗ (∃ f, arg16.view.loc (c : Thread nD τ) ↦[arg16.view.set]{fullShare} f)
    ∗ (∃ f, arg17.view.loc (c : Thread nD τ) ↦[arg17.view.set]{fullShare} f))) := by
  simp only [cc0__body_eq_skeleton]; unfold cc0__body_skel
  iintro ⟨H1, H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩⟩
  have hchk := chk1_all
  sl_exec
  sl_step
  have e1 : Scf.trips k0_t1_loop.lb k0_t1_loop.ub k0_t1_loop.st = 24 := by decide +kernel
  have e2 : Scf.trips k0_t2_loop.lb k0_t2_loop.ub k0_t2_loop.st = 8 := by decide +kernel
  have e3 : Scf.trips k0_t3_loop.lb k0_t3_loop.ub k0_t3_loop.st = 128 := by decide +kernel
  rw [e1] at hL3
  rw [e2] at hL12 hL14 hL16
  have hcols : PC arg17 (colV arg9 X9 i) 24 (arg17.view.writes (Elt Ideal) arg17.view.junk (body_run.sl.H17_24 i arg9 X9)) := by
    refine stepC i arg9 X9 arg17 _ 23 _ _ _ ?_
    refine stepC i arg9 X9 arg17 _ 22 _ _ _ ?_
    refine stepC i arg9 X9 arg17 _ 21 _ _ _ ?_
    refine stepC i arg9 X9 arg17 _ 20 _ _ _ ?_
    refine stepC i arg9 X9 arg17 _ 19 _ _ _ ?_
    refine stepC i arg9 X9 arg17 _ 18 _ _ _ ?_
    refine stepC i arg9 X9 arg17 _ 17 _ _ _ ?_
    refine stepC i arg9 X9 arg17 _ 16 _ _ _ ?_
    refine stepC i arg9 X9 arg17 _ 15 _ _ _ ?_
    refine stepC i arg9 X9 arg17 _ 14 _ _ _ ?_
    refine stepC i arg9 X9 arg17 _ 13 _ _ _ ?_
    refine stepC i arg9 X9 arg17 _ 12 _ _ _ ?_
    refine stepC i arg9 X9 arg17 _ 11 _ _ _ ?_
    refine stepC i arg9 X9 arg17 _ 10 _ _ _ ?_
    refine stepC i arg9 X9 arg17 _ 9 _ _ _ ?_
    refine stepC i arg9 X9 arg17 _ 8 _ _ _ ?_
    refine stepC i arg9 X9 arg17 _ 7 _ _ _ ?_
    refine stepC i arg9 X9 arg17 _ 6 _ _ _ ?_
    refine stepC i arg9 X9 arg17 _ 5 _ _ _ ?_
    refine stepC i arg9 X9 arg17 _ 4 _ _ _ ?_
    refine stepC i arg9 X9 arg17 _ 3 _ _ _ ?_
    refine stepC i arg9 X9 arg17 _ 2 _ _ _ ?_
    refine stepC i arg9 X9 arg17 _ 1 _ _ _ ?_
    refine stepC i arg9 X9 arg17 _ 0 _ _ _ ?_
    exact fun y hy => absurd hy (Nat.not_lt_zero _)
  have hz : ∀ y, arg15.view.read (Elt Ideal) (arg15.view.writes (Elt Ideal) arg15.view.junk body_run.sl.H15_1) y = 0 := fun y => by
    rw [ValueIdx.eq_ix2 y]
    exact (whole_store arg15 _ _ _ _ _).trans (pay139_apply _ _)
  have hbias := bias_eq arg17 _ i arg9 X9 arg8 X8 arg15 fL0 arg15.view.junk hcols _ inb_S128x128_S128x128_0_0 inb_S128x128_S128x128_0_0 (Since.get hL3 (by norm_num) iota1 rfl hz)
  have hO := Since.get hL12 (by norm_num)
  have hL := Since.get hL14 (by norm_num)
  have hT := Since.get hL16 (by norm_num)
  have hcN := colN_eq arg17 _ i arg9 X9 hcols
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]
  · iexists _
    isplitl [H10]; iexact H10
    ipureintro
    intro y
    rw [← hbias]
    exact hO y (y 2).isLt
  isplitl [H11]
  · iexists _
    isplitl [H11]; iexact H11
    ipureintro
    have h3 := hL22
    rw [e3] at h3
    have hE := Since.get h3 (by norm_num) iota0 (by rw [hcN]; exact hok)
    have hw : (body_run.sl.r_4 i arg1 X1 : BitVec 32).toInt = (rpN arg1 X1 i 128 : ℤ) := by
      have e : (body_run.sl.r_4 i arg1 X1 : BitVec 32) = arg1.view.read (Elt Ideal) X1 (ix2 (ci i) ⟨128, by norm_num⟩) :=
        rd_total arg1 X1 i _ _
      have e' : (body_run.sl.r_4 i arg1 X1 : BitVec 32).toNat = rpN arg1 X1 i 128 := by
        rw [e]; unfold rpN; rw [dif_pos (by norm_num)]
      rw [BitVec.toInt_eq_toNat_of_lt (by omega), e']
    refine edges_eq (inOf arg2 arg3 arg4 arg5 arg6 arg7 X2 X3 X4 X5 X6 X7) i arg1 X1 _ arg13 fL3 arg17 _ hcN arg14 fL5 arg11 _ (body_run.sl.r_4 i arg1 X1) hw h0 hok hT hE ?_
    show PF arg14 fL5 (body_run.sl.r_4 i arg1 X1) arg11 (128 * 24) _
    refine stepF arg14 fL5 (body_run.sl.r_4 i arg1 X1) body_run.sl.v0 iota0 arg11 _ 23 _ _ _ ?_
    refine stepF arg14 fL5 (body_run.sl.r_4 i arg1 X1) body_run.sl.v0 iota0 arg11 _ 22 _ _ _ ?_
    refine stepF arg14 fL5 (body_run.sl.r_4 i arg1 X1) body_run.sl.v0 iota0 arg11 _ 21 _ _ _ ?_
    refine stepF arg14 fL5 (body_run.sl.r_4 i arg1 X1) body_run.sl.v0 iota0 arg11 _ 20 _ _ _ ?_
    refine stepF arg14 fL5 (body_run.sl.r_4 i arg1 X1) body_run.sl.v0 iota0 arg11 _ 19 _ _ _ ?_
    refine stepF arg14 fL5 (body_run.sl.r_4 i arg1 X1) body_run.sl.v0 iota0 arg11 _ 18 _ _ _ ?_
    refine stepF arg14 fL5 (body_run.sl.r_4 i arg1 X1) body_run.sl.v0 iota0 arg11 _ 17 _ _ _ ?_
    refine stepF arg14 fL5 (body_run.sl.r_4 i arg1 X1) body_run.sl.v0 iota0 arg11 _ 16 _ _ _ ?_
    refine stepF arg14 fL5 (body_run.sl.r_4 i arg1 X1) body_run.sl.v0 iota0 arg11 _ 15 _ _ _ ?_
    refine stepF arg14 fL5 (body_run.sl.r_4 i arg1 X1) body_run.sl.v0 iota0 arg11 _ 14 _ _ _ ?_
    refine stepF arg14 fL5 (body_run.sl.r_4 i arg1 X1) body_run.sl.v0 iota0 arg11 _ 13 _ _ _ ?_
    refine stepF arg14 fL5 (body_run.sl.r_4 i arg1 X1) body_run.sl.v0 iota0 arg11 _ 12 _ _ _ ?_
    refine stepF arg14 fL5 (body_run.sl.r_4 i arg1 X1) body_run.sl.v0 iota0 arg11 _ 11 _ _ _ ?_
    refine stepF arg14 fL5 (body_run.sl.r_4 i arg1 X1) body_run.sl.v0 iota0 arg11 _ 10 _ _ _ ?_
    refine stepF arg14 fL5 (body_run.sl.r_4 i arg1 X1) body_run.sl.v0 iota0 arg11 _ 9 _ _ _ ?_
    refine stepF arg14 fL5 (body_run.sl.r_4 i arg1 X1) body_run.sl.v0 iota0 arg11 _ 8 _ _ _ ?_
    refine stepF arg14 fL5 (body_run.sl.r_4 i arg1 X1) body_run.sl.v0 iota0 arg11 _ 7 _ _ _ ?_
    refine stepF arg14 fL5 (body_run.sl.r_4 i arg1 X1) body_run.sl.v0 iota0 arg11 _ 6 _ _ _ ?_
    refine stepF arg14 fL5 (body_run.sl.r_4 i arg1 X1) body_run.sl.v0 iota0 arg11 _ 5 _ _ _ ?_
    refine stepF arg14 fL5 (body_run.sl.r_4 i arg1 X1) body_run.sl.v0 iota0 arg11 _ 4 _ _ _ ?_
    refine stepF arg14 fL5 (body_run.sl.r_4 i arg1 X1) body_run.sl.v0 iota0 arg11 _ 3 _ _ _ ?_
    refine stepF arg14 fL5 (body_run.sl.r_4 i arg1 X1) body_run.sl.v0 iota0 arg11 _ 2 _ _ _ ?_
    refine stepF arg14 fL5 (body_run.sl.r_4 i arg1 X1) body_run.sl.v0 iota0 arg11 _ 1 _ _ _ ?_
    refine stepF arg14 fL5 (body_run.sl.r_4 i arg1 X1) body_run.sl.v0 iota0 arg11 _ 0 _ _ _ ?_
    exact fun y hy => absurd hy (Nat.not_lt_zero _)
  isplitl [H12]
  · iexists _
    isplitl [H12]; iexact H12
    ipureintro
    intro y
    rw [← hbias]
    exact hL y (y 1).isLt
  sl_close

end Cert.KernelIdeal.Val
-- ==== Proof.Val.Run.lean ====
/-
  Hand-written. `KernelIdeal` over the reals, run: what its three results hold, from what its arguments hold.
-/
module

public import proofs.«01_k».proof.Proof.Val.Body
public import proofs.«01_k».proof.Proof.Gen.KernelIdeal.Points
public import proofs.«01_k».proof.Proof.Gen.KernelIdeal.Launch
public import Idealize.ShloMosaic.Lib.Pipeline.FrameSuffix
public import Idealize.ShloMosaic.Lib.Pipeline.ValueKit
public import Idealize.ShloMosaic.Lib.Claim

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (Dat Cfg Window BodyObligation BodyObligationLoose cellOf RDat)

local notation "𝕄G" => MT nD τ sig Unit (Elt Ideal) ℕ (UR sig nD τ) ℕ

/-- Row pointer `r` of batch `b`, as a word. -/
def rpW (A : S2x129.Idx → BitVec 32) (b : Fin 2) (r : ℕ) : BitVec 32 := if h : r < 129 then A (ix2 b ⟨r, h⟩) else 0#32

/-- Row pointer `r` of batch `b`, as a number. -/
def rpM (A : S2x129.Idx → BitVec 32) (b : Fin 2) (r : ℕ) : ℕ := if h : r < 129 then (A (ix2 b ⟨r, h⟩)).toNat else 0

/-- The column of edge `e` of batch `b`. -/
def colM (A : S2x3072.Idx → BitVec 32) (b : Fin 2) (e : ℕ) : BitVec 32 := if h : e < 3072 then A (ix2 b ⟨e, h⟩) else 0#32

variable (m : (ℓ : Loc nD τ sig) → Buf (Elt Ideal) ℓ) (ρ : Dev nD → PrngReg)

/-- The memory's arguments, as one batch's arrays. -/
def inM (c : Dev nD) (b : Fin 2) : In where
  q := fun y => m ((c.tc : Thread nD τ).loc main_arg0) (ix4 b (y 3) (y 1) (y 2))
  k := fun y => m ((c.tc : Thread nD τ).loc main_arg1) (ix4 b (y 3) (y 1) (y 2))
  v := fun y => m ((c.tc : Thread nD τ).loc main_arg2) (ix4 b (y 3) (y 1) (y 2))
  a := m ((c.tc : Thread nD τ).loc main_arg3)
  b := m ((c.tc : Thread nD τ).loc main_arg4)
  s := m ((c.tc : Thread nD τ).loc main_arg5)

/-- The row pointers and columns held. -/
def rpA (c : Dev nD) : S2x129.Idx → BitVec 32 := m ((c.tc : Thread nD τ).loc main_arg6)
def colA (c : Dev nD) : S2x3072.Idx → BitVec 32 := m ((c.tc : Thread nD τ).loc main_arg7)

/-- The rows of each batch are as the kernel needs them. -/
def Good : Prop := ∀ (c : Dev nD) (b : Fin 2), RowsOk (rpM (rpA m c) b) (colM (colA m c) b) ∧ rpM (rpA m c) b 0 = 0 ∧ rpM (rpA m c) b 128 < 2 ^ 31

/-- The mask of a batch. -/
def biasM (c : Dev nD) (b : Fin 2) : Fin 128 → Fin 128 → EReal := biasE (rpW (rpA m c) b) (colM (colA m c) b)

theorem scr_eq (c : Dev nD) (b : Ref sig .tc) :
    (iprop(∃ f : Buf (Elt Ideal) ((c : Thread nD τ).loc b), ((c : Thread nD τ).loc b) ↦{fullShare} f) : sProp 𝕄G)
      = iprop(∃ f, (Memref.whole b).view.loc (c : Thread nD τ) ↦[(Memref.whole b).view.set]{fullShare} f) := by
  simp only [Memref.view_whole, View.set_whole]

/-- The run's proof data: every input window ends holding its block, the results' what the grid step leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => fun y => gO (inM m c (ci (grid0.coords t))) (biasM m c (ci (grid0.coords t))) (ci (grid0.coords t)) y
    | ⟨10, _⟩ => fun y => gE (inM m c (ci (grid0.coords t))) (rpM (rpA m c) (ci (grid0.coords t))) (colM (colA m c) (ci (grid0.coords t))) (ci (grid0.coords t)) y
    | ⟨11, _⟩ => fun y => gL (inM m c (ci (grid0.coords t))) (biasM m c (ci (grid0.coords t))) (ci (grid0.coords t)) y
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem defs₀_row (t : Fin cfg0.N) :
    defs₀ (F := Ideal) .tc cfg0.body (cfg0.bodyArgs t (cfg0.slots t)) = bodyAt0 t := by
  unfold defs₀; rw [Defs.onTc_tc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

theorem after0_9 (c : Dev nD) (t : Fin cfg0.N) : (dats m 0 c).after 9 t = fun y => gO (inM m c (ci (grid0.coords t))) (biasM m c (ci (grid0.coords t))) (ci (grid0.coords t)) y := rfl
theorem after0_10 (c : Dev nD) (t : Fin cfg0.N) : (dats m 0 c).after 10 t = fun y => gE (inM m c (ci (grid0.coords t))) (rpM (rpA m c) (ci (grid0.coords t))) (colM (colA m c) (ci (grid0.coords t))) (ci (grid0.coords t)) y := rfl
theorem after0_11 (c : Dev nD) (t : Fin cfg0.N) : (dats m 0 c).after 11 t = fun y => gL (inM m c (ci (grid0.coords t))) (biasM m c (ci (grid0.coords t))) (ci (grid0.coords t)) y := rfl

/-! ## The blocks, read off the arguments -/

theorem idx_facts : ∀ t : Fin grid0.N, win0_4.index t = ![(grid0.coords t 0).val, 0, 0, 0] ∧ win0_5.index t = ![(grid0.coords t 0).val, 0, 0, 0]
    ∧ win0_6.index t = ![(grid0.coords t 0).val, 0, 0, 0] ∧ win0_9.index t = ![(grid0.coords t 0).val, 0, 0]
    ∧ win0_10.index t = ![(grid0.coords t 0).val, 0, 0] ∧ win0_11.index t = ![(grid0.coords t 0).val, 0, 0] := by decide +kernel

theorem idx_const : ∀ t : Fin grid0.N, win0_0.index t = ![0, 0] ∧ win0_1.index t = ![0, 0] ∧ win0_2.index t = ![0, 0] ∧ win0_3.index t = ![0, 0]
    ∧ win0_7.index t = ![0, 0] ∧ win0_8.index t = ![0, 0] := by decide +kernel

theorem iblk_0 (c : Dev nD) (t : Fin cfg0.N) (y : S2x129.Idx) : iblk m c 0 t y = rpA m c y := by
  unfold rpA
  rw [← V_main_arg6 m c]
  blk_ext [iblk, idx_const t]

theorem iblk_7 (c : Dev nD) (t : Fin cfg0.N) (y : S2x129.Idx) : iblk m c 7 t y = rpA m c y := by
  unfold rpA
  rw [← V_main_arg6 m c]
  blk_ext [iblk, idx_const t]

theorem iblk_8 (c : Dev nD) (t : Fin cfg0.N) (y : S2x3072.Idx) : iblk m c 8 t y = colA m c y := by
  unfold colA
  rw [← V_main_arg7 m c]
  blk_ext [iblk, idx_const t]

theorem iblk_1 (c : Dev nD) (t : Fin cfg0.N) (y : S2x32.Idx) : iblk m c 1 t y = m ((c.tc : Thread nD τ).loc main_arg3) y := by
  rw [← V_main_arg3 m c]
  blk_ext [iblk, idx_const t]

theorem iblk_2 (c : Dev nD) (t : Fin cfg0.N) (y : S2x32.Idx) : iblk m c 2 t y = m ((c.tc : Thread nD τ).loc main_arg4) y := by
  rw [← V_main_arg4 m c]
  blk_ext [iblk, idx_const t]

theorem iblk_3 (c : Dev nD) (t : Fin cfg0.N) (y : S2x32.Idx) : iblk m c 3 t y = m ((c.tc : Thread nD τ).loc main_arg5) y := by
  rw [← V_main_arg5 m c]
  blk_ext [iblk, idx_const t]

theorem iblk_4 (c : Dev nD) (t : Fin cfg0.N) (y : S1x32x160x128.Idx) : iblk m c 4 t y = (inM m c (ci (grid0.coords t))).q y := by
  unfold inM
  unfold iblk
  entry_read
  show transpose S2x32x160x128 _ _ _ (((cfg0.win 4).blk t).view.emb y) = _
  have e : ((cfg0.win 4).blk t).view.emb y = (ix4 (ci (grid0.coords t)) (y 1) (y 2) (y 3) : S2x32x160x128.Idx) := by
    blk_ext [idx_facts t, ci]
  rw [e]
  pointwise

theorem iblk_5 (c : Dev nD) (t : Fin cfg0.N) (y : S1x32x160x128.Idx) : iblk m c 5 t y = (inM m c (ci (grid0.coords t))).k y := by
  unfold inM
  unfold iblk
  entry_read
  show transpose S2x32x160x128 _ _ _ (((cfg0.win 5).blk t).view.emb y) = _
  have e : ((cfg0.win 5).blk t).view.emb y = (ix4 (ci (grid0.coords t)) (y 1) (y 2) (y 3) : S2x32x160x128.Idx) := by
    blk_ext [idx_facts t, ci]
  rw [e]
  pointwise

theorem iblk_6 (c : Dev nD) (t : Fin cfg0.N) (y : S1x32x160x128.Idx) : iblk m c 6 t y = (inM m c (ci (grid0.coords t))).v y := by
  unfold inM
  unfold iblk
  entry_read
  show transpose S2x32x160x128 _ _ _ (((cfg0.win 6).blk t).view.emb y) = _
  have e : ((cfg0.win 6).blk t).view.emb y = (ix4 (ci (grid0.coords t)) (y 1) (y 2) (y 3) : S2x32x160x128.Idx) := by
    blk_ext [idx_facts t, ci]
  rw [e]
  pointwise

/-- The arrays a grid step reads, from its buffers' contents. -/
theorem inOf_eq (c : Dev nD) (t : Fin cfg0.N) (arg2 arg3 arg4 : Memref sig .tc .smem S2x32 .f32) (arg5 arg6 arg7 : Memref sig .tc .vmem S1x32x160x128 .fp8e4m3)
    (X2 : BufTy.Contents (Elt Ideal) arg2.view.ty) (X3 : BufTy.Contents (Elt Ideal) arg3.view.ty) (X4 : BufTy.Contents (Elt Ideal) arg4.view.ty)
    (X5 : BufTy.Contents (Elt Ideal) arg5.view.ty) (X6 : BufTy.Contents (Elt Ideal) arg6.view.ty) (X7 : BufTy.Contents (Elt Ideal) arg7.view.ty)
    (h2 : arg2.view.read (Elt Ideal) X2 = iblk m c 1 t) (h3 : arg3.view.read (Elt Ideal) X3 = iblk m c 2 t) (h4 : arg4.view.read (Elt Ideal) X4 = iblk m c 3 t)
    (h5 : arg5.view.read (Elt Ideal) X5 = iblk m c 4 t) (h6 : arg6.view.read (Elt Ideal) X6 = iblk m c 5 t) (h7 : arg7.view.read (Elt Ideal) X7 = iblk m c 6 t) :
    inOf arg2 arg3 arg4 arg5 arg6 arg7 X2 X3 X4 X5 X6 X7 = inM m c (ci (grid0.coords t)) := by
  unfold inOf
  rw [h2, h3, h4, h5, h6, h7, funext (iblk_4 m c t), funext (iblk_5 m c t), funext (iblk_6 m c t), funext (iblk_1 m c t),
    funext (iblk_2 m c t), funext (iblk_3 m c t)]
  rfl

theorem rpN_eq (c : Dev nD) (t : Fin cfg0.N) (arg : Memref sig .tc .smem S2x129 .i32) (X : BufTy.Contents (Elt Ideal) arg.view.ty)
    (h : arg.view.read (Elt Ideal) X = iblk m c 0 t) : rpN arg X (grid0.coords t) = rpM (rpA m c) (ci (grid0.coords t)) := by
  unfold rpN
  rw [h, funext (iblk_0 m c t)]
  rfl

theorem rpV_eq (c : Dev nD) (t : Fin cfg0.N) (arg : Memref sig .tc .vmem S2x129 .i32) (X : BufTy.Contents (Elt Ideal) arg.view.ty)
    (h : arg.view.read (Elt Ideal) X = iblk m c 7 t) : rpV arg X (grid0.coords t) = rpW (rpA m c) (ci (grid0.coords t)) := by
  unfold rpV
  rw [h, funext (iblk_7 m c t)]
  rfl

theorem colV_eq (c : Dev nD) (t : Fin cfg0.N) (arg : Memref sig .tc .vmem S2x3072 .i32) (X : BufTy.Contents (Elt Ideal) arg.view.ty)
    (h : arg.view.read (Elt Ideal) X = iblk m c 8 t) : colV arg X (grid0.coords t) = colM (colA m c) (ci (grid0.coords t)) := by
  unfold colV
  rw [h, funext (iblk_8 m c t)]
  rfl

set_option maxHeartbeats 40000000 in
theorem body_obligation (hG : Good m) (c : Dev nD) : BodyObligationLoose (dats m 0 c) (defs₀ (F := Ideal)) Variants.none () Set.univ := fun t => by
  rw [bigSep_W0, bigSep_W0, defs₀_row]
  simp only [Bool.false_eq_true, if_false]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl]
  simp only [before0_0, after0_0, before0_1, after0_1, before0_2, after0_2, before0_3, after0_3, before0_4, after0_4, before0_5, after0_5, before0_6, after0_6, before0_7, after0_7, before0_8, after0_8, after0_9, after0_10, after0_11]
  unfold Pipeline.ΦA
  rw [scopedRest0_eq]
  simp only [scr_eq]
  unfold owns
  iintro ⟨⟨⟨S0, S1, S2, S3, S4⟩, Hg⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩, ⟨%d8, %g8, %h8, H8⟩, ⟨%d9, %g9, %h9, H9⟩, ⟨%d10, %g10, %h10, H10⟩, ⟨%d11, %g11, %h11, H11⟩⟩
  iapply (wp_wand_r Idealize.ShloMosaic.frame (wpE (defs₀ (F := Ideal)) Variants.none (c : Thread nD τ) none) Set.univ)
  isplitl [S0 S1 S2 S3 S4 H0 H1 H2 H3 H4 H5 H6 H7 H8 H9 H10 H11]
  · unfold bodyAt0
    iapply (body_run Variants.none c none Set.univ (grid0.coords t) _ _ _ _ _ _ _ _ _ _ _ _ _ _ _ _ _ _ _ _ _ _ _ _ _ _ _ _ _ _ _ _ _ _ g0 g1 g2 g3 g4 g5 g6 g7 g8 (by rw [rpN_eq m c t _ _ h0, colV_eq m c t _ _ h8]; exact (hG c _).1) (by rw [rpN_eq m c t _ _ h0]; exact (hG c _).2.1) (by rw [rpN_eq m c t _ _ h0]; exact (hG c _).2.2))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [S0]; · iexact S0
    isplitl [S1]; · iexact S1
    isplitl [S2]; · iexact S2
    isplitl [S3]; · iexact S3
    iexact S4
  · iintro %_ ⟨H0, H1, H2, H3, H4, H5, H6, H7, H8, ⟨%f9, H9, %e9⟩, ⟨%f10, H10, %e10⟩, ⟨%f11, H11, %e11⟩, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]
    · iexists g0; isplitr
      · ipureintro; exact h0
      iexact H0
    isplitl [H1]
    · iexists g1; isplitr
      · ipureintro; exact h1
      iexact H1
    isplitl [H2]
    · iexists g2; isplitr
      · ipureintro; exact h2
      iexact H2
    isplitl [H3]
    · iexists g3; isplitr
      · ipureintro; exact h3
      iexact H3
    isplitl [H4]
    · iexists g4; isplitr
      · ipureintro; exact h4
      iexact H4
    isplitl [H5]
    · iexists g5; isplitr
      · ipureintro; exact h5
      iexact H5
    isplitl [H6]
    · iexists g6; isplitr
      · ipureintro; exact h6
      iexact H6
    isplitl [H7]
    · iexists g7; isplitr
      · ipureintro; exact h7
      iexact H7
    isplitl [H8]
    · iexists g8; isplitr
      · ipureintro; exact h8
      iexact H8
    isplitl [H9]
    · iexists f9; isplitr
      · ipureintro; funext y; rw [e9 y, inOf_eq m c t _ _ _ _ _ _ _ _ _ _ _ _ h1 h2 h3 h4 h5 h6, rpV_eq m c t _ _ h7, colV_eq m c t _ _ h8]; rfl
      iexact H9
    isplitl [H10]
    · iexists f10; isplitr
      · ipureintro; funext y; rw [e10 y, inOf_eq m c t _ _ _ _ _ _ _ _ _ _ _ _ h1 h2 h3 h4 h5 h6, rpN_eq m c t _ _ h0, colV_eq m c t _ _ h8]
      iexact H10
    iexists f11; isplitr
    · ipureintro; funext y; rw [e11 y, inOf_eq m c t _ _ _ _ _ _ _ _ _ _ _ _ h1 h2 h3 h4 h5 h6, rpV_eq m c t _ _ h7, colV_eq m c t _ _ h8]; rfl
    iexact H11

set_option maxHeartbeats 4000000 in
set_option backward.isDefEq.respectTransparency.types false in
theorem run_main (hG : Good m) : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := body_obligation m hG) (hq := fun _ _ _ => rfl) (howed := fun _ _ => rfl) (V₀ := V0 m) (opss := [hostOps1])
    (hsub := sfx_sub) (hfresh := sfx_fresh) (hkeep := sfx_keeps)
    (hmain := hmain m Variants.none) (hA := A_eq m) (hΦ := fun _ _ => rfl) (hQ' := fun _ h => h)

/-! ## The results -/

/-- What the first result holds. -/
def outM (c : Dev nD) (y : S2x128x5120.Idx) : EReal :=
  gO (inM m c (y 0)) (biasM m c (y 0)) (y 0) (ix3 0 (y 1) (y 2))

/-- What the second result holds. -/
def scoreM (c : Dev nD) (y : S2x3072x32.Idx) : EReal :=
  gE (inM m c (y 0)) (rpM (rpA m c) (y 0)) (colM (colA m c) (y 0)) (y 0) (ix3 0 (y 2) (y 1))

/-- What the third result holds. -/
def lseM (c : Dev nD) (y : S2x128x32.Idx) : EReal :=
  gL (inM m c (y 0)) (biasM m c (y 0)) (y 0) (ix3 0 (y 2) (y 1))

theorem arr_9 (c : Dev nD) : (dats m 0 c).arrAt 9 cfg0.N = outM m c := by
  refine (dats m 0 c).arrAt_eq_of_covers 9 _ (by decide +kernel) fun t hf y => ?_
  have e : ((cfg0.win 9).blk t).view.emb y = (ix3 (ci (grid0.coords t)) (y 1) (y 2) : S2x128x5120.Idx) := by
    blk_ext [idx_facts t, ci]
  have e' : y = (ix3 0 (y 1) (y 2) : S1x128x5120.Idx) := by blk_ext
  rw [e]
  blk_simp
  rw [after0_9]
  show gO _ _ _ y = gO _ _ _ (ix3 0 (y 1) (y 2))
  exact congrArg _ e'

theorem arr_10 (c : Dev nD) : (dats m 0 c).arrAt 10 cfg0.N = fun y : S2x32x3072.Idx => scoreM m c (ix3 (y 0) (y 2) (y 1)) := by
  refine (dats m 0 c).arrAt_eq_of_covers 10 _ (by decide +kernel) fun t hf y => ?_
  have e : ((cfg0.win 10).blk t).view.emb y = (ix3 (ci (grid0.coords t)) (y 1) (y 2) : S2x32x3072.Idx) := by
    blk_ext [idx_facts t, ci]
  have e' : y = (ix3 0 (y 1) (y 2) : S1x32x3072.Idx) := by blk_ext
  rw [e]
  blk_simp
  rw [after0_10]
  show gE _ _ _ _ y = gE _ _ _ _ (ix3 0 (y 1) (y 2))
  exact congrArg _ e'

theorem arr_11 (c : Dev nD) : (dats m 0 c).arrAt 11 cfg0.N = fun y : S2x32x128.Idx => lseM m c (ix3 (y 0) (y 2) (y 1)) := by
  refine (dats m 0 c).arrAt_eq_of_covers 11 _ (by decide +kernel) fun t hf y => ?_
  have e : ((cfg0.win 11).blk t).view.emb y = (ix3 (ci (grid0.coords t)) (y 1) (y 2) : S2x32x128.Idx) := by
    blk_ext [idx_facts t, ci]
  have e' : y = (ix3 0 (y 1) (y 2) : S1x32x128.Idx) := by blk_ext
  rw [e]
  blk_simp
  rw [after0_11]
  show gL _ _ _ y = gL _ _ _ (ix3 0 (y 1) (y 2))
  exact congrArg _ e'

theorem tail_4 (c : Dev nD) : Pipeline.afterTail₀ cfgs (dats m) 0 (V0 m) [hostOps1] c main_v4 = scoreM m c := by
  unfold Pipeline.afterTail₀
  show after hostOps1 _ _ = _
  unfold hostOps1
  after_results_simp
  have h := (dats m 0 c).withArrays_arrAt sharedIn0 (V0 m c) (A_eq m c) 10
  rw [arr_10] at h
  funext y
  refine (congrFun (congrArg (fun a => transpose _ _ a _) h) y).trans ?_
  pointwise

theorem tail_5 (c : Dev nD) : Pipeline.afterTail₀ cfgs (dats m) 0 (V0 m) [hostOps1] c main_v5 = lseM m c := by
  unfold Pipeline.afterTail₀
  show after hostOps1 _ _ = _
  unfold hostOps1
  after_results_simp
  have h := (dats m 0 c).withArrays_arrAt sharedIn0 (V0 m c) (A_eq m c) 11
  rw [arr_11] at h
  funext y
  refine (congrFun (congrArg (fun a => transpose _ _ a _) h) y).trans ?_
  pointwise

/-- From a memory whose rows are as needed, the program ends with its three results as stated and its arguments as they were. -/
theorem run (hG : Good m) : θ_run defs (onTc (τ := τ) (main (F := Ideal))) ⟨m, fun _ => 0, ρ⟩ (fun r => ∀ c : Dev nD,
      r.2.mem ((c.tc : Thread nD τ).loc main_v3_0) = outM m c
      ∧ r.2.mem ((c.tc : Thread nD τ).loc main_v4) = scoreM m c
      ∧ r.2.mem ((c.tc : Thread nD τ).loc main_v5) = lseM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      ((h.1 c).1 9).trans (arr_9 m c),
      ((h.1 c).2 main_v4 (Pipeline.mem_restRefs_of main_v4 (by decide) (by decide))).trans (tail_4 m c),
      ((h.1 c).2 main_v5 (Pipeline.mem_restRefs_of main_v5 (by decide) (by decide))).trans (tail_5 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).1 1).trans (((dats m 0 c).arrAt_in 1 rfl _).trans ((A_eq m c 1).trans (V_main_arg3 m c))),
      ((h.1 c).1 2).trans (((dats m 0 c).arrAt_in 2 rfl _).trans ((A_eq m c 2).trans (V_main_arg4 m c))),
      ((h.1 c).1 3).trans (((dats m 0 c).arrAt_in 3 rfl _).trans ((A_eq m c 3).trans (V_main_arg5 m c))),
      ((h.1 c).1 0).trans (((dats m 0 c).arrAt_in 0 rfl _).trans ((A_eq m c 0).trans (V_main_arg6 m c))),
      ((h.1 c).1 8).trans (((dats m 0 c).arrAt_in 8 rfl _).trans ((A_eq m c 8).trans (V_main_arg7 m c)))⟩)
    (run_main m ρ hG)

end Cert.KernelIdeal.Val
-- ==== Proof.Val.Row.lean ====
/-
  One row of the attention, over its edges and over its 128 columns: the edges of the row name different columns, and a
  column no edge names holds minus infinity. The maximum, the sum of exponentials and the weighted sum agree.
-/
module

public import proofs.«01_k».proof.Proof.Val.Head

@[expose] public section

noncomputable section

namespace Cert.KernelIdeal.Val

open Idealize.ShloMosaic

/-- A factor that is a nonnegative real may be taken out of a sum of extended reals. -/
theorem mul_sum_real {ι : Type} (S : Finset ι) (k : EReal) (h0 : 0 ≤ k) (ht : k ≠ ⊤) (f : ι → EReal) : k * ∑ i ∈ S, f i = ∑ i ∈ S, k * f i := by
  classical
  induction S using Finset.induction_on with
  | empty => simp
  | insert a S ha ih => rw [Finset.sum_insert ha, Finset.sum_insert ha, EReal.left_distrib_of_nonneg_of_ne_top h0 ht, ih]

/-- A row's edges `inRow` with their columns `col` and scores `sm`, and the row's column vector `z`. -/
structure RowOf (z : Fin 128 → EReal) (col : Fin 3072 → Fin 128) (inRow : Fin 3072 → Prop) (own : Fin 3072 → BitVec 1) (sm : Fin 3072 → EReal) :
    Prop where
  edge : ∀ e, inRow e → own e = 1#1 ∧ sm e = z (col e)
  past : ∀ e, ¬inRow e → own e = 1#1 → sm e = ⊥
  apart : ∀ e e', inRow e → inRow e' → col e = col e' → e = e'
  none : ∀ c, (∀ e, inRow e → col e ≠ c) → z c = ⊥

namespace RowOf
variable {z : Fin 128 → EReal} {col : Fin 3072 → Fin 128} {inRow : Fin 3072 → Prop} {own : Fin 3072 → BitVec 1} {sm : Fin 3072 → EReal}
  (h : RowOf z col inRow own sm)
include h

/-- The largest score of the row is the largest of the column vector. -/
theorem max_eq : ((Finset.univ : Finset (Fin 3072)).fold max ⊥ fun e => Scalar.select (own e) (sm e) ⊥) = cmax z := by
  apply le_antisymm
  · refine (Finset.fold_max_le _).2 ⟨bot_le, fun e _ => ?_⟩
    by_cases ho : own e = 1#1
    · rw [ho]
      show sm e ≤ _
      by_cases hi : inRow e
      · rw [(h.edge e hi).2]
        exact le_cmax z _
      · rw [h.past e hi ho]
        exact bot_le
    · rw [show own e = 0#1 from ValueIdx.eq_zero_of_ne_one ho]
      exact bot_le
  · refine (Finset.fold_max_le _).2 ⟨bot_le, fun c _ => ?_⟩
    by_cases hc : ∀ e, inRow e → col e ≠ c
    · rw [h.none c hc]
      exact bot_le
    · push Not at hc
      obtain ⟨e, hi, rfl⟩ := hc
      refine (Finset.le_fold_max _).2 (.inr ⟨e, Finset.mem_univ _, ?_⟩)
      rw [(h.edge e hi).1, ← (h.edge e hi).2]
      exact le_rfl

omit h in
theorem exp_bot_sub (x : EReal) : Ideal.exp (⊥ - x) = 0 := by
  rw [EReal.bot_sub]
  rfl

omit h in
theorem cexp_eq (z : Fin 128 → EReal) (c : Fin 128) : Ideal.exp (z c - cmax z) = cexp z c := by
  unfold cexp csub
  by_cases hb : cmax z = ⊥
  · have hz : z c = ⊥ := le_bot_iff.1 (hb ▸ le_cmax z c)
    rw [hz, exp_bot_sub, exp_bot_sub]
  · rw [if_neg hb]

theorem cexp_none (c : Fin 128) (hc : ∀ e, inRow e → col e ≠ c) : cexp z c = 0 := by
  unfold cexp
  rw [h.none c hc, exp_bot_sub]

/-- A sum over the row's edges is a sum over the columns. -/
theorem sum_eq (g : Fin 3072 → EReal) (f : Fin 128 → EReal) (hf : ∀ c, (∀ e, inRow e → col e ≠ c) → f c = 0)
    (hg : ∀ e, inRow e → g e = f (col e)) (hp : ∀ e, ¬inRow e → own e = 1#1 → g e = 0) :
    (∑ e : Fin 3072, Scalar.select (own e) (g e) 0) = ∑ c : Fin 128, f c := by
  classical
  have e1 : ∀ e, Scalar.select (own e) (g e) 0 = if inRow e then f (col e) else 0 := by
    intro e
    by_cases hi : inRow e
    · rw [if_pos hi, (h.edge e hi).1, ← hg e hi]
      rfl
    · rw [if_neg hi]
      by_cases ho : own e = 1#1
      · rw [ho, hp e hi ho]
        rfl
      · rw [show own e = 0#1 from ValueIdx.eq_zero_of_ne_one ho]
        rfl
  rw [Finset.sum_congr rfl (fun e _ => e1 e), ← Finset.sum_filter]
  have e2 : ∑ e ∈ Finset.univ.filter inRow, f (col e) = ∑ c ∈ (Finset.univ.filter inRow).image col, f c := by
    rw [Finset.sum_image]
    intro e he e' he' hcc
    exact h.apart e e' (Finset.mem_filter.1 he).2 (Finset.mem_filter.1 he').2 hcc
  rw [e2]
  refine Finset.sum_subset (Finset.subset_univ _) fun c _ hc => hf c fun e hi hce => hc ?_
  exact Finset.mem_image.2 ⟨e, Finset.mem_filter.2 ⟨Finset.mem_univ _, hi⟩, hce⟩

/-- The row's sum of exponentials. -/
theorem csum_eq (p : Fin 3072 → EReal) (hp : ∀ e, own e = 1#1 → p e = Ideal.exp (sm e - cmax z)) :
    (∑ e : Fin 3072, Scalar.select (own e) (p e) 0) = csum z := by
  refine h.sum_eq p (cexp z) h.cexp_none (fun e hi => ?_) (fun e hi ho => ?_)
  · rw [hp e (h.edge e hi).1, (h.edge e hi).2, cexp_eq]
  · rw [hp e ho, h.past e hi ho, exp_bot_sub]

omit h in
theorem csum_real (z : Fin 128 → EReal) : ∃ r : ℝ, 0 ≤ r ∧ csum z = (r : EReal) := by
  choose f hf using fun c => cexp_real z c
  refine ⟨∑ c, f c, Finset.sum_nonneg fun c _ => (hf c).1, ?_⟩
  unfold csum
  rw [Finset.sum_congr rfl fun c _ => (hf c).2]
  push_cast
  rfl

/-- The row's weighted sum. -/
theorem out_eq (p w : Fin 3072 → EReal) (hp : ∀ e, own e = 1#1 → p e = Ideal.exp (sm e - cmax z))
    (hw : ∀ e, own e = 1#1 → w e = if csum z = 0 then 0 else Ideal.div (p e) (csum z)) (u : Fin 3072 → EReal) (v : Fin 128 → EReal)
    (hu : ∀ e, inRow e → u e = v (col e)) (s : EReal) :
    (∑ e : Fin 3072, Scalar.select (own e) (w e * u e) 0) * s
      = (∑ c, v c * cexp z c) * (if csum z = 0 then 0 else Ideal.div s (csum z)) := by
  by_cases h0 : csum z = 0
  · rw [if_pos h0, mul_zero]
    rw [h.sum_eq (fun e => w e * u e) (fun _ => 0) (fun _ _ => rfl)
      (fun e hi => by rw [hw e (h.edge e hi).1, if_pos h0, zero_mul]) (fun e hi ho => by rw [hw e ho, if_pos h0, zero_mul])]
    rw [Finset.sum_const_zero, zero_mul]
  · rw [if_neg h0]
    obtain ⟨r, hr, hrc⟩ := csum_real z
    have hk0 : 0 ≤ (csum z)⁻¹ := by rw [hrc]; exact EReal.inv_nonneg_of_nonneg (EReal.coe_nonneg.2 hr)
    have hkt : (csum z)⁻¹ ≠ ⊤ := by rw [hrc, ← EReal.coe_inv]; exact EReal.coe_ne_top _
    have hdiv : ∀ x, Ideal.div x (csum z) = x * (csum z)⁻¹ := fun x => if_neg h0
    rw [h.sum_eq (fun e => w e * u e) (fun c => (csum z)⁻¹ * (v c * cexp z c))
      (fun c hc => by rw [h.cexp_none c hc, mul_zero, mul_zero])
      (fun e hi => by
        rw [hw e (h.edge e hi).1, if_neg h0, hdiv, hp e (h.edge e hi).1, (h.edge e hi).2, cexp_eq, hu e hi]
        rw [mul_comm (cexp z (col e)), mul_assoc, mul_comm (cexp z (col e))])
      (fun e hi ho => by rw [hw e ho, if_neg h0, hdiv, hp e ho, h.past e hi ho, exp_bot_sub, zero_mul, zero_mul])]
    rw [← mul_sum_real _ _ hk0 hkt, hdiv, mul_comm (csum z)⁻¹, mul_assoc, mul_comm (csum z)⁻¹]

end RowOf

end Cert.KernelIdeal.Val

end
-- ==== Proof.Val.Pre.lean ====
/-
  The precondition read entry by entry: per batch the row pointers start at zero and rise, every edge's column is one of
  the 128, and no row names a column twice.
-/
module

public import proofs.«01_k».proof.Pre_csr
public import Idealize.ShloMosaic.Lib.ValueIdx
public import Idealize.ShloMosaic.Lib.IndicatorCount
public import Idealize.ShloMosaic.Lib.Tactic
public import Idealize.ShloMosaic.Lib.Pointwise
public import Idealize.ShloMosaic.PureOps.Ideal.Laws

@[expose] public section

set_option maxRecDepth 65536

noncomputable section

namespace Cert.Pre_csr

open Idealize.ShloMosaic

theorem facts : Facts where
  bcast_S3072_S1x3072_1 := by decide
  slices_S2x129_S2x1_0_128 := by decide
  bcast_S1x3072_S2x3072_0_1 := by decide
  bcast_S2x1_S2x3072_0_1 := by decide
  slices_S2x129_S2x128_0_1 := by decide
  bcast_S2x128_S2x128x1_0_1 := by decide
  bcast_S3072_S1x1x3072_2 := by decide
  bcast_S2x128x1_S2x128x3072_0_1_2 := by decide
  bcast_S1x1x3072_S2x128x3072_0_1_2 := by decide
  natLt_1_32 := by decide
  reducesTo_S2x128x3072_S2x3072_d1 := by decide
  h_S_ := by decide
  slices_S2x129_S2x1_0_0 := by decide
  shapeCasts_S2x1_S2 := by decide
  bcast_S_S2 := by decide
  slices_S2x129_S2x128_0_0 := by decide
  bcast_S_S2x3072 := by decide
  bcast_S2x3072_S2x3072x1_0_1 := by decide
  bcast_S2x3072_S2x1x3072_0_2 := by decide
  bcast_S2x3072x1_S2x3072x3072_0_1_2 := by decide
  bcast_S2x1x3072_S2x3072x3072_0_1_2 := by decide
  bcast_S3072_S1x3072x1_1 := by decide
  bcast_S1x3072x1_S1x3072x3072_0_1_2 := by decide
  bcast_S1x1x3072_S1x3072x3072_0_1_2 := by decide
  bcast_S1x3072x3072_S2x3072x3072_0_1_2 := by decide

/-- The number of row pointers at or below edge `e`. -/
def cnt (A : S2x129.Idx → BitVec 32) (b : Fin 2) (e : Fin 3072) : ℕ :=
  (Finset.univ.filter fun r : Fin 128 => IntOp.cmpi .sle (A (ix2 b ⟨1 + r.val, by omega⟩)) (BitVec.ofNat 32 e.val) = 1#1).card

/-- Batch `b`'s row pointers and columns form a compressed sparse row structure. -/
structure Csr (A : S2x129.Idx → BitVec 32) (K : S2x3072.Idx → BitVec 32) (b : Fin 2) : Prop where
  first : A (ix2 b ⟨0, by omega⟩) = 0#32
  rise : ∀ r : Fin 128, IntOp.cmpi .sle (A (ix2 b ⟨r.val, by omega⟩)) (A (ix2 b ⟨1 + r.val, by omega⟩)) = 1#1
  inside : ∀ e : Fin 3072, IntOp.cmpi .slt (BitVec.ofNat 32 e.val) (A (ix2 b ⟨128, by omega⟩)) = 1#1 →
    IntOp.cmpi .sge (K (ix2 b e)) 0#32 = 1#1 ∧ IntOp.cmpi .slt (K (ix2 b e)) 128#32 = 1#1
  distinct : ∀ e e' : Fin 3072, e ≠ e' → IntOp.cmpi .slt (BitVec.ofNat 32 e.val) (A (ix2 b ⟨128, by omega⟩)) = 1#1 →
    IntOp.cmpi .slt (BitVec.ofNat 32 e'.val) (A (ix2 b ⟨128, by omega⟩)) = 1#1 → cnt A b e = cnt A b e' → K (ix2 b e) ≠ K (ix2 b e')

variable [Facts]
open Facts

/-- The count, as the word the predicate sums. -/
theorem count_eq (A : S2x129.Idx → BitVec 32) (b : Fin 2) (e : Fin 3072) :
    Host.reduce IntOp.addi
      (extui 32 (cmpi .sle
        (broadcastInDim S2x128x3072 ![0, 1, 2] bcast_S2x128x1_S2x128x3072_0_1_2
          (broadcastInDim S2x128x1 ![0, 1] bcast_S2x128_S2x128x1_0_1 (extractStridedSlice S2x128 ![0, 1] A slices_S2x129_S2x128_0_1)))
        (broadcastInDim S2x128x3072 ![0, 1, 2] bcast_S1x1x3072_S2x128x3072_0_1_2
          (broadcastInDim S1x1x3072 ![2] bcast_S3072_S1x1x3072_2 (iotaInDim S3072 32 0)))) natLt_1_32)
      (constantI S_ 32 0#32) reducesTo_S2x128x3072_S2x3072_d1 h_S_ (ix2 b e) = BitVec.ofNat 32 (cnt A b e) := by
  rw [Host.reduce_eq_fold_single _ _ _ reducesTo_S2x128x3072_S2x3072_d1 (by decide)]
  refine Eq.trans ?_ (IndicatorCount.fold_addi_setWidth_eq_card _ _)
  refine Finset.fold_congr (fun r _ => ?_)
  rw [Function.comp_apply]
  have h0 : ∀ hr : S2x128x3072.Reduces [1] S2x3072, hr.lift (ix2 b e) r = ix3 b r e := fun hr => ValueIdx.eq_ix3 _
  rw [h0]
  refine congrArg (fun z => BitVec.setWidth 32 z) ?_
  pointwise

variable (a0 a1 a2 : S2x128x32x160.Idx → EReal) (a3 a4 a5 : S2x32.Idx → EReal) (A : S2x129.Idx → BitVec 32) (K : S2x3072.Idx → BitVec 32)

theorem first_at (b : Fin 2) :
    (fn (F := Ideal) a0 a1 a2 a3 a4 a5 A K).1 (ix1 b) = IntOp.cmpi .eq (A (ix2 b ⟨0, by omega⟩)) 0#32 := by
  dsimp only [fn, fn_part1, fn_part2]
  pointwise

theorem rise_at (b : Fin 2) (r : Fin 128) :
    (fn (F := Ideal) a0 a1 a2 a3 a4 a5 A K).2.1 (ix2 b r) = IntOp.cmpi .sle (A (ix2 b ⟨r.val, by omega⟩)) (A (ix2 b ⟨1 + r.val, by omega⟩)) := by
  dsimp only [fn, fn_part1, fn_part2]
  pointwise

theorem inside_at (b : Fin 2) (e : Fin 3072) :
    (fn (F := Ideal) a0 a1 a2 a3 a4 a5 A K).2.2.1 (ix2 b e)
      = IntOp.ori (~~~(IntOp.cmpi .slt (BitVec.ofNat 32 e.val) (A (ix2 b ⟨128, by omega⟩))))
          (IntOp.andi (IntOp.cmpi .sge (K (ix2 b e)) 0#32) (IntOp.cmpi .slt (K (ix2 b e)) 128#32)) := by
  dsimp only [fn, fn_part1, fn_part2]
  pointwise

theorem distinct_at (b : Fin 2) (e e' : Fin 3072) :
    (fn (F := Ideal) a0 a1 a2 a3 a4 a5 A K).2.2.2 (ix3 b e e')
      = ~~~(IntOp.andi (IntOp.andi (IntOp.andi (IntOp.andi
            (IntOp.cmpi .eq (BitVec.ofNat 32 (cnt A b e)) (BitVec.ofNat 32 (cnt A b e')))
            (IntOp.cmpi .eq (K (ix2 b e)) (K (ix2 b e'))))
          (IntOp.cmpi .slt (BitVec.ofNat 32 e.val) (A (ix2 b ⟨128, by omega⟩))))
          (IntOp.cmpi .ne (BitVec.ofNat 32 e.val) (BitVec.ofNat 32 e'.val)))
          (IntOp.cmpi .slt (BitVec.ofNat 32 e'.val) (A (ix2 b ⟨128, by omega⟩)))) := by
  dsimp only [fn, fn_part1, fn_part2]
  rw [← count_eq A b e, ← count_eq A b e']
  generalize Host.reduce IntOp.addi _ _ reducesTo_S2x128x3072_S2x3072_d1 h_S_ = C
  pointwise

end Cert.Pre_csr

end
-- ==== Proof.Val.Csr.lean ====
/-
  The compressed sparse row structure in natural numbers: where the row pointers lie, which row an edge belongs to, and
  that a row has at most 128 edges.
-/
module

public import proofs.«01_k».proof.Proof.Val.Pre
public import Idealize.ShloMosaic.Lib.WordCmp

@[expose] public section

set_option maxRecDepth 65536

noncomputable section

namespace Cert.Pre_csr

open Idealize.ShloMosaic

section
variable [Facts]
variable (a0 a1 a2 : S2x128x32x160.Idx → EReal) (a3 a4 a5 : S2x32.Idx → EReal) (A : S2x129.Idx → BitVec 32) (K : S2x3072.Idx → BitVec 32)

/-- The precondition gives the structure of each batch. -/
theorem csr_of (h : (fn (F := Ideal) a0 a1 a2 a3 a4 a5 A K).1 = (fun _ => 1#1)
      ∧ (fn (F := Ideal) a0 a1 a2 a3 a4 a5 A K).2.1 = (fun _ => 1#1)
      ∧ (fn (F := Ideal) a0 a1 a2 a3 a4 a5 A K).2.2.1 = (fun _ => 1#1)
      ∧ (fn (F := Ideal) a0 a1 a2 a3 a4 a5 A K).2.2.2 = (fun _ => 1#1)) (b : Fin 2) : Csr A K b := by
  obtain ⟨h1, h2, h3, h4⟩ := h
  refine ⟨?_, fun r => ?_, fun e he => ?_, fun e e' hne he he' hc hk => ?_⟩
  · have := (first_at a0 a1 a2 a3 a4 a5 A K b).symm.trans (congrFun h1 _)
    rw [WordCmp.cmpi_eq_eq] at this
    by_contra hn
    rw [decide_eq_false hn] at this
    exact absurd this (by decide)
  · exact (rise_at a0 a1 a2 a3 a4 a5 A K b r).symm.trans (congrFun h2 _)
  · have := (inside_at a0 a1 a2 a3 a4 a5 A K b e).symm.trans (congrFun h3 _)
    rw [he] at this
    revert this
    generalize IntOp.cmpi .sge (K (ix2 b e)) 0#32 = x
    generalize IntOp.cmpi .slt (K (ix2 b e)) 128#32 = y
    revert x y
    decide
  · have := (distinct_at a0 a1 a2 a3 a4 a5 A K b e e').symm.trans (congrFun h4 _)
    have hw : IntOp.cmpi .ne (BitVec.ofNat 32 e.val) (BitVec.ofNat 32 e'.val) = 1#1 := by
      rw [WordCmp.cmpi_ne_eq_toNat, BitVec.toNat_ofNat, BitVec.toNat_ofNat]
      have h1 := e.isLt
      have h2 := e'.isLt
      have h3 : e.val ≠ e'.val := fun h => hne (Fin.ext h)
      rw [decide_eq_true (by omega)]
      rfl
    rw [he, he', hw, hc, hk, WordCmp.cmpi_eq_eq, WordCmp.cmpi_eq_eq, decide_eq_true rfl, decide_eq_true rfl] at this
    exact absurd this (by decide)

end

theorem nat_of_nonneg {x : BitVec 32} (h : 0 ≤ x.toInt) : x.toInt = x.toNat ∧ x.toNat < 2 ^ 31 := by
  have hl := x.isLt
  rw [BitVec.toInt_eq_toNat_cond] at h ⊢
  split at h <;> omega

theorem toInt_edge (e : Fin 3072) : (BitVec.ofNat 32 e.val).toInt = e.val := by
  have := e.isLt
  rw [BitVec.toInt_eq_toNat_cond, BitVec.toNat_ofNat]
  split <;> omega

theorem le_of_sle {x y : BitVec 32} (h : IntOp.cmpi .sle x y = 1#1) : x.toInt ≤ y.toInt := by
  rw [WordCmp.cmpi_sle_eq] at h
  by_contra hn
  rw [decide_eq_false hn] at h
  exact absurd h (by decide)

theorem lt_of_slt {x y : BitVec 32} (h : IntOp.cmpi .slt x y = 1#1) : x.toInt < y.toInt := by
  rw [WordCmp.cmpi_slt_eq] at h
  by_contra hn
  rw [decide_eq_false hn] at h
  exact absurd h (by decide)

/-- Row pointer `r` of batch `b`, as a number. -/
def rpA (A : S2x129.Idx → BitVec 32) (b : Fin 2) (r : ℕ) : ℕ := if h : r < 129 then (A (ix2 b ⟨r, h⟩)).toNat else 0

section
variable {A : S2x129.Idx → BitVec 32} {K : S2x3072.Idx → BitVec 32} {b : Fin 2} (h : Csr A K b)
include h

theorem Csr.nonneg : ∀ (r : ℕ) (hr : r < 129), 0 ≤ (A (ix2 b ⟨r, hr⟩)).toInt := by
  intro r
  induction r with
  | zero => intro hr; rw [show A (ix2 b ⟨0, hr⟩) = 0#32 from h.first]; decide
  | succ n ih =>
    intro hr
    have h1 := le_of_sle (h.rise ⟨n, by omega⟩)
    have h2 := ih (by omega)
    rw [show (⟨1 + (⟨n, by omega⟩ : Fin 128).val, by omega⟩ : Fin 129) = ⟨n + 1, hr⟩ from Fin.ext (Nat.add_comm 1 n)] at h1
    exact h2.trans h1

theorem Csr.toInt (r : ℕ) (hr : r < 129) : (A (ix2 b ⟨r, hr⟩)).toInt = rpA A b r ∧ rpA A b r < 2 ^ 31 := by
  unfold rpA
  rw [dif_pos hr]
  exact nat_of_nonneg (h.nonneg r hr)

theorem Csr.zero : rpA A b 0 = 0 := by
  unfold rpA
  rw [dif_pos (by omega), h.first]
  rfl

theorem Csr.mono (r : ℕ) (hr : r < 128) : rpA A b r ≤ rpA A b (r + 1) := by
  have h1 := le_of_sle (h.rise ⟨r, hr⟩)
  have h2 := (h.toInt r (by omega)).1
  have h3 := (h.toInt (r + 1) (by omega)).1
  rw [show (⟨1 + (⟨r, hr⟩ : Fin 128).val, by omega⟩ : Fin 129) = ⟨r + 1, by omega⟩ from Fin.ext (Nat.add_comm 1 r)] at h1
  exact Int.ofNat_le.mp ((h2.symm.le.trans h1).trans h3.le)

theorem Csr.mono' : ∀ (k r : ℕ), r + k ≤ 128 → rpA A b r ≤ rpA A b (r + k) := by
  intro k
  induction k with
  | zero => intro r _; exact le_rfl
  | succ n ih => intro r hr; exact (ih r (by omega)).trans (h.mono (r + n) (by omega))

theorem Csr.le {r s : ℕ} (hrs : r ≤ s) (hs : s ≤ 128) : rpA A b r ≤ rpA A b s := by
  obtain ⟨k, rfl⟩ := Nat.exists_eq_add_of_le hrs
  exact h.mono' k r hs

theorem Csr.live (e : Fin 3072) :
    IntOp.cmpi .slt (BitVec.ofNat 32 e.val) (A (ix2 b ⟨128, by omega⟩)) = BitVec.ofBool (decide (e.val < rpA A b 128)) := by
  have h1 := h.toInt 128 (by omega)
  have h2 : (BitVec.ofNat 32 e.val).toInt = e.val := toInt_edge e
  rw [WordCmp.cmpi_slt_eq, h1.1, h2]
  congr 1
  exact decide_eq_decide.mpr Int.ofNat_lt

theorem Csr.sle (e : Fin 3072) (r : ℕ) (hr : r < 129) :
    (IntOp.cmpi .sle (A (ix2 b ⟨r, hr⟩)) (BitVec.ofNat 32 e.val) = 1#1) ↔ rpA A b r ≤ e.val := by
  have h1 := h.toInt r hr
  have h2 : (BitVec.ofNat 32 e.val).toInt = e.val := toInt_edge e
  rw [WordCmp.cmpi_sle_eq, h1.1, h2]
  by_cases hc : rpA A b r ≤ e.val
  · rw [decide_eq_true (Int.ofNat_le.mpr hc)]; exact ⟨fun _ => hc, fun _ => rfl⟩
  · rw [decide_eq_false (fun hh => hc (Int.ofNat_le.mp hh))]
    exact ⟨fun hh => absurd hh (by decide), fun hh => absurd hh hc⟩

/-- An edge between row pointers `r` and `r + 1` counts `r`. -/
theorem Csr.cnt_row (e : Fin 3072) (r : ℕ) (hr : r < 128) (h1 : rpA A b r ≤ e.val) (h2 : e.val < rpA A b (r + 1)) : cnt A b e = r := by
  unfold cnt
  have : (Finset.univ.filter fun k : Fin 128 => IntOp.cmpi .sle (A (ix2 b ⟨1 + k.val, by omega⟩)) (BitVec.ofNat 32 e.val) = 1#1)
      = Finset.univ.filter fun k : Fin 128 => k.val < r := by
    refine Finset.filter_congr fun k _ => ?_
    rw [h.sle e (1 + k.val) (by omega)]
    constructor
    · intro hk
      by_contra hn
      have := h.le (r := r + 1) (s := 1 + k.val) (by omega) (by omega)
      omega
    · intro hk
      exact (h.le (by omega) (by omega)).trans h1
  rw [this]
  have e2 : (Finset.univ.filter fun k : Fin 128 => k.val < r) = Finset.Iio (⟨r, hr⟩ : Fin 128) := by
    ext k
    simp [Fin.lt_def]
  rw [e2, Fin.card_Iio]

/-- An entry past the last edge counts 128. -/
theorem Csr.cnt_past (e : Fin 3072) (h1 : rpA A b 128 ≤ e.val) : cnt A b e = 128 := by
  unfold cnt
  rw [Finset.filter_true_of_mem (fun k _ => (h.sle e (1 + k.val) (by omega)).2 ((h.le (by omega) (by omega)).trans h1))]
  rfl

/-- Every edge lies in a row. -/
theorem Csr.row (e : ℕ) (he : e < rpA A b 128) : ∃ r : Fin 128, rpA A b r ≤ e ∧ e < rpA A b (r + 1) := by
  have key : ∀ n : ℕ, n ≤ 128 → e < rpA A b n → ∃ r : Fin 128, rpA A b r ≤ e ∧ e < rpA A b (r + 1) := by
    intro n
    induction n with
    | zero => intro _ h0; rw [h.zero] at h0; omega
    | succ n ih =>
      intro hn h0
      by_cases hc : rpA A b n ≤ e
      · exact ⟨⟨n, by omega⟩, hc, h0⟩
      · exact ih (by omega) (by omega)
  exact key 128 le_rfl he

theorem Csr.row_unique {e r s : ℕ} (hr : r < 128) (hs : s < 128) (h1 : rpA A b r ≤ e) (h2 : e < rpA A b (r + 1)) (h3 : rpA A b s ≤ e)
    (h4 : e < rpA A b (s + 1)) : r = s := by
  rcases Nat.lt_trichotomy r s with hc | hc | hc
  · have := h.le (r := r + 1) (s := s) (by omega) (by omega); omega
  · exact hc
  · have := h.le (r := s + 1) (s := r) (by omega) (by omega); omega

/-- An edge's column is one of the 128. -/
theorem Csr.col (e : Fin 3072) (he : e.val < rpA A b 128) : (K (ix2 b e)).toNat < 128 := by
  have hi := h.inside e (by rw [h.live, decide_eq_true he]; rfl)
  have h1 : (0#32).toInt ≤ (K (ix2 b e)).toInt := le_of_sle hi.1
  have h2 : (K (ix2 b e)).toInt < (128#32).toInt := lt_of_slt hi.2
  have h3 : (0#32).toInt = 0 := by decide
  have h4 : (128#32).toInt = 128 := by decide
  have := nat_of_nonneg (x := K (ix2 b e)) (by omega)
  omega

/-- Two edges of a row have different columns. -/
theorem Csr.apart (e e' : Fin 3072) (r : ℕ) (hr : r < 128) (h1 : rpA A b r ≤ e.val) (h2 : e.val < rpA A b (r + 1))
    (h3 : rpA A b r ≤ e'.val) (h4 : e'.val < rpA A b (r + 1)) (hk : K (ix2 b e) = K (ix2 b e')) : e = e' := by
  by_contra hne
  have hm := h.le (r := r + 1) (s := 128) (by omega) (by omega)
  exact h.distinct e e' hne (by rw [h.live, decide_eq_true (by omega)]; rfl) (by rw [h.live, decide_eq_true (by omega)]; rfl)
    ((h.cnt_row e r hr h1 h2).trans (h.cnt_row e' r hr h3 h4).symm) hk

/-- A row has at most 128 edges. -/
theorem Csr.short (r : ℕ) (hr : r < 128) : min (rpA A b (r + 1)) 3072 ≤ rpA A b r + 128 := by
  by_contra hn
  have hm := h.le (r := r + 1) (s := 128) (by omega) (by omega)
  have hlt : ∀ k : Fin 129, rpA A b r + k.val < 3072 := fun k => by have := k.isLt; omega
  have hlt' : ∀ k : Fin 129, rpA A b r + k.val < rpA A b (r + 1) := fun k => by have := k.isLt; omega
  have hinj : Function.Injective fun k : Fin 129 =>
      (⟨(K (ix2 b ⟨rpA A b r + k.val, hlt k⟩)).toNat, h.col ⟨_, hlt k⟩ (lt_of_lt_of_le (hlt' k) hm)⟩ : Fin 128) := by
    intro k l hkl
    have hw : K (ix2 b ⟨rpA A b r + k.val, hlt k⟩) = K (ix2 b ⟨rpA A b r + l.val, hlt l⟩) :=
      BitVec.eq_of_toNat_eq (congrArg (fun x : Fin 128 => x.val) hkl)
    have := h.apart ⟨_, hlt k⟩ ⟨_, hlt l⟩ r hr (by simp) (hlt' k) (by simp) (hlt' l) hw
    exact Fin.ext (by have := congrArg Fin.val this; simpa using this)
  have := Fintype.card_le_of_injective _ hinj
  simp at this

end

end Cert.Pre_csr

end
-- ==== Proof.Val.Equal.lean ====
/-
  The two programs agree: what the kernel leaves in each result, entry by entry, is what the reference leaves there, for
  row pointers and columns that form a compressed sparse row structure.
-/
module

public import proofs.«01_k».proof.Proof.Val.Run
public import proofs.«01_k».proof.Proof.Val.Row
public import proofs.«01_k».proof.Proof.Val.Csr
public import proofs.«01_k».proof.Proof.Val.RefRead

@[expose] public section

set_option maxRecDepth 65536

noncomputable section

namespace Cert.Equal

open Idealize.ShloMosaic Idealize.ShloMosaic.TcCoe Idealize.SL.Sem
open Cert.Pre_csr (Csr cnt)
open Cert.ReferenceIdeal.Val (gi rowW live own)

/-! ## Words -/

theorem clip_ofNat : ∀ n : Fin 129, IntOp.minsi 127#32 (IntOp.maxsi 0#32 (BitVec.ofNat 32 n.val)) = BitVec.ofNat 32 (min 127 n.val) := by
  decide +kernel

theorem gi_ofNat : ∀ k : Fin 128, gi (BitVec.ofNat 32 k.val) = k := by decide +kernel

theorem ofNat_inj : ∀ {j k : Fin 128}, BitVec.ofNat 32 j.val = BitVec.ofNat 32 k.val → j = k := fun {j k} h => by
  rw [← gi_ofNat j, ← gi_ofNat k, h]

/-- A small word is its number's. -/
theorem word_eq {w : BitVec 32} (h : w.toNat < 128) : w = BitVec.ofNat 32 (⟨w.toNat, h⟩ : Fin 128).val := by
  apply BitVec.eq_of_toNat_eq
  rw [BitVec.toNat_ofNat]
  exact (Nat.mod_eq_of_lt w.isLt).symm

theorem gi_small {w : BitVec 32} (h : w.toNat < 128) : gi w = ⟨w.toNat, h⟩ := by
  have := gi_ofNat ⟨w.toNat, h⟩
  rwa [← word_eq h] at this

section
variable {A : Pre_csr.S2x129.Idx → BitVec 32} {K : Pre_csr.S2x3072.Idx → BitVec 32} {b : Fin 2}

theorem rowW_eq (e : Fin 3072) : rowW A b e = BitVec.ofNat 32 (min 127 (cnt A b e)) := by
  have h : cnt A b e < 129 := by
    have := Finset.card_filter_le (Finset.univ : Finset (Fin 128))
      (fun r : Fin 128 => IntOp.cmpi .sle (A (ix2 b ⟨1 + r.val, by omega⟩)) (BitVec.ofNat 32 e.val) = 1#1)
    rw [Finset.card_univ, Fintype.card_fin] at this
    exact Nat.lt_succ_of_le this
  unfold rowW
  rw [ReferenceIdeal.Val.count_eq]
  exact clip_ofNat ⟨cnt A b e, h⟩

theorem own_iff (r : Fin 128) (e : Fin 3072) : own A b r e = 1#1 ↔ rowW A b e = BitVec.ofNat 32 r.val := by
  unfold own
  rw [WordCmp.cmpi_eq_eq]
  by_cases h : rowW A b e = BitVec.ofNat 32 r.val
  · simp [h]
  · simp [h]

theorem gi_own {r : Fin 128} {e : Fin 3072} (h : own A b r e = 1#1) : gi (rowW A b e) = r := by
  rw [(own_iff r e).1 h, gi_ofNat]

/-- Edge `e` lies in row `r`. -/
def InR (A : Pre_csr.S2x129.Idx → BitVec 32) (b : Fin 2) (r : Fin 128) (e : Fin 3072) : Prop :=
  Pre_csr.rpA A b r.val ≤ e.val ∧ e.val < Pre_csr.rpA A b (r.val + 1)

section
variable (hC : Csr A K b)
include hC

theorem row_word {r : Fin 128} {e : Fin 3072} (h : InR A b r e) : rowW A b e = BitVec.ofNat 32 r.val := by
  have := r.isLt
  rw [rowW_eq, hC.cnt_row e r.val r.isLt h.1 h.2, Nat.min_eq_right (by omega)]

theorem own_of_in {r : Fin 128} {e : Fin 3072} (h : InR A b r e) : own A b r e = 1#1 := (own_iff r e).2 (row_word hC h)

theorem lt_of_in {r : Fin 128} {e : Fin 3072} (h : InR A b r e) : e.val < Pre_csr.rpA A b 128 := by
  have := r.isLt
  exact h.2.trans_le (hC.le (by omega) le_rfl)

theorem live_of_lt {e : Fin 3072} (h : e.val < Pre_csr.rpA A b 128) : live A b e = 1#1 := by
  refine (hC.live e).trans ?_
  rw [decide_eq_true h]
  rfl

theorem live_of_le {e : Fin 3072} (h : ¬e.val < Pre_csr.rpA A b 128) : live A b e = 0#1 := by
  refine (hC.live e).trans ?_
  rw [decide_eq_false h]
  rfl

theorem past_of_own {r : Fin 128} {e : Fin 3072} (hn : ¬InR A b r e) (ho : own A b r e = 1#1) : live A b e = 0#1 := by
  refine live_of_le hC fun hl => ?_
  obtain ⟨s, hs⟩ := hC.row e.val hl
  have hs' : InR A b s e := hs
  have := ofNat_inj ((row_word hC hs').symm.trans ((own_iff r e).1 ho))
  subst this
  exact hn hs'

theorem col_inj {e e' : Fin 3072} (h : e.val < Pre_csr.rpA A b 128) (h' : e'.val < Pre_csr.rpA A b 128)
    (hg : gi (K (ix2 b e)) = gi (K (ix2 b e'))) : K (ix2 b e) = K (ix2 b e') := by
  rw [gi_small (hC.col e h), gi_small (hC.col e' h')] at hg
  exact BitVec.eq_of_toNat_eq (Fin.mk.inj hg)

theorem col_word {e : Fin 3072} (h : e.val < Pre_csr.rpA A b 128) : K (ix2 b e) = BitVec.ofNat 32 (gi (K (ix2 b e))).val := by
  rw [gi_small (hC.col e h)]
  exact word_eq (hC.col e h)

end
end

/-! ## The rows the kernel reads -/

section
open Cert.KernelIdeal Cert.KernelIdeal.Val
variable (m : (ℓ : Loc KernelIdeal.nD KernelIdeal.τ KernelIdeal.sig) → Buf (Elt Ideal) ℓ) (c : Dev KernelIdeal.nD)

theorem rowsOk {b : Fin 2} (hC : Csr (rpA m c) (colA m c) b) :
    RowsOk (rpM (rpA m c) b) (colM (colA m c) b) ∧ rpM (rpA m c) b 0 = 0 ∧ rpM (rpA m c) b 128 < 2 ^ 31 := by
  refine ⟨⟨fun r hr => hC.mono r hr, fun r hr => hC.short r hr, fun e he hl => ?_⟩, hC.zero, (hC.toInt 128 (by omega)).2⟩
  have := hC.col ⟨e, he⟩ hl
  unfold colM
  rw [dif_pos he]
  exact this

theorem colM_eq (b : Fin 2) (e : Fin 3072) : colM (colA m c) b e.val = colA m c (ix2 b e) := by
  unfold colM
  rw [dif_pos e.isLt]

theorem inRow_iff {b : Fin 2} (hC : Csr (rpA m c) (colA m c) b) (r : Fin 128) (e : Fin 3072) :
    InRow (rpW (rpA m c) b r.val) (rpW (rpA m c) b (r.val + 1)) e.val ↔ InR (rpA m c) b r e := by
  have hr := r.isLt
  have h1 := (hC.toInt r.val (by omega)).1
  have h2 := (hC.toInt (r.val + 1) (by omega)).1
  unfold InRow rpW InR
  rw [dif_pos (by omega), dif_pos (by omega), h1, h2]
  omega

/-- An edge of the row unmasks its column. -/
theorem bias_edge {b : Fin 2} (hC : Csr (rpA m c) (colA m c) b) {r : Fin 128} {e : Fin 3072} (h : InR (rpA m c) b r e) :
    biasM m c b (gi (colA m c (ix2 b e))) r = 0 := by
  unfold biasM biasE
  exact if_pos ⟨e, (colM_eq m c b e).trans (col_word hC (lt_of_in hC h)), (inRow_iff m c hC r e).2 h⟩

theorem bias_none {b : Fin 2} (hC : Csr (rpA m c) (colA m c) b) {r k : Fin 128}
    (h : ∀ e, InR (rpA m c) b r e → gi (colA m c (ix2 b e)) ≠ k) : biasM m c b k r = ⊥ := by
  unfold biasM biasE
  refine if_neg ?_
  rintro ⟨e, h1, h2⟩
  refine h e ((inRow_iff m c hC r e).1 h2) ?_
  rw [← colM_eq, h1, gi_ofNat]

/-! ## The reference's formulas at the memory's arguments -/

abbrev X0 : KernelIdeal.S2x128x32x160.Idx → EReal := m ((c.tc : Thread KernelIdeal.nD KernelIdeal.τ).loc KernelIdeal.main_arg0)
abbrev X1 : KernelIdeal.S2x128x32x160.Idx → EReal := m ((c.tc : Thread KernelIdeal.nD KernelIdeal.τ).loc KernelIdeal.main_arg1)
abbrev X2 : KernelIdeal.S2x128x32x160.Idx → EReal := m ((c.tc : Thread KernelIdeal.nD KernelIdeal.τ).loc KernelIdeal.main_arg2)
abbrev X3 : KernelIdeal.S2x32.Idx → EReal := m ((c.tc : Thread KernelIdeal.nD KernelIdeal.τ).loc KernelIdeal.main_arg3)
abbrev X4 : KernelIdeal.S2x32.Idx → EReal := m ((c.tc : Thread KernelIdeal.nD KernelIdeal.τ).loc KernelIdeal.main_arg4)
abbrev X5 : KernelIdeal.S2x32.Idx → EReal := m ((c.tc : Thread KernelIdeal.nD KernelIdeal.τ).loc KernelIdeal.main_arg5)

theorem S_eq {b : Fin 2} (hC : Csr (rpA m c) (colA m c) b) {r : Fin 128} {e : Fin 3072} (h : InR (rpA m c) b r e) (i : Fin 32) :
    ReferenceIdeal.Val.S (X3 m c) (X4 m c) (rpA m c) (colA m c) (X0 m c) (X1 m c) b e i = score (inM m c b) b i r (gi (colA m c (ix2 b e))) := by
  unfold ReferenceIdeal.Val.S
  rw [gi_own (own_of_in hC h)]
  rfl

theorem rowOf {b : Fin 2} (hC : Csr (rpA m c) (colA m c) b) (r : Fin 128) (i : Fin 32) :
    RowOf (zcol (inM m c b) (biasM m c b) b i r) (fun e => gi (colA m c (ix2 b e))) (InR (rpA m c) b r) (own (rpA m c) b r)
      (fun e => ReferenceIdeal.Val.SM (X3 m c) (X4 m c) (rpA m c) (colA m c) (X0 m c) (X1 m c) b e i) where
  edge e h := by
    refine ⟨own_of_in hC h, ?_⟩
    show ReferenceIdeal.Val.SM _ _ _ _ _ _ b e i = _
    unfold ReferenceIdeal.Val.SM zcol
    rw [live_of_lt hC (lt_of_in hC h), bias_edge m c hC h, add_zero, ← S_eq m c hC h]
    rfl
  past e hn ho := by
    show ReferenceIdeal.Val.SM _ _ _ _ _ _ b e i = _
    unfold ReferenceIdeal.Val.SM
    rw [past_of_own hC hn ho]
    rfl
  apart e e' h h' hg :=
    hC.apart e e' r.val r.isLt h.1 h.2 h'.1 h'.2 (col_inj hC (lt_of_in hC h) (lt_of_in hC h') hg)
  none k h := by
    unfold zcol
    rw [bias_none m c hC h, EReal.add_bot]

theorem M_eq {b : Fin 2} (hC : Csr (rpA m c) (colA m c) b) (r : Fin 128) (i : Fin 32) :
    ReferenceIdeal.Val.M (X3 m c) (X4 m c) (rpA m c) (colA m c) (X0 m c) (X1 m c) b r i = cmax (zcol (inM m c b) (biasM m c b) b i r) :=
  (rowOf m c hC r i).max_eq

theorem P_eq {b : Fin 2} (hC : Csr (rpA m c) (colA m c) b) (r : Fin 128) (i : Fin 32) (e : Fin 3072) (h : own (rpA m c) b r e = 1#1) :
    ReferenceIdeal.Val.P (X3 m c) (X4 m c) (rpA m c) (colA m c) (X0 m c) (X1 m c) b e i
      = Ideal.exp (ReferenceIdeal.Val.SM (X3 m c) (X4 m c) (rpA m c) (colA m c) (X0 m c) (X1 m c) b e i - cmax (zcol (inM m c b) (biasM m c b) b i r)) := by
  unfold ReferenceIdeal.Val.P
  rw [gi_own h, M_eq m c hC]

theorem L_eq {b : Fin 2} (hC : Csr (rpA m c) (colA m c) b) (r : Fin 128) (i : Fin 32) :
    ReferenceIdeal.Val.L (X3 m c) (X4 m c) (rpA m c) (colA m c) (X0 m c) (X1 m c) b r i = csum (zcol (inM m c b) (biasM m c b) b i r) :=
  (rowOf m c hC r i).csum_eq _ (P_eq m c hC r i)

theorem O_eq {b : Fin 2} (hC : Csr (rpA m c) (colA m c) b) (r : Fin 128) (i : Fin 32) (d : Fin 160) :
    ReferenceIdeal.Val.O (X3 m c) (X4 m c) (X5 m c) (rpA m c) (colA m c) (X0 m c) (X1 m c) (X2 m c) b r i d = out (inM m c b) (biasM m c b) b i d r := by
  refine (rowOf m c hC r i).out_eq _ _ (P_eq m c hC r i) (fun e h => ?_)
    (fun e => (X2 m c) (ix4 b (gi (colA m c (ix2 b e))) i d)) (fun k => (X2 m c) (ix4 b k i d)) (fun _ _ => rfl) _
  unfold ReferenceIdeal.Val.W
  rw [gi_own h, L_eq m c hC]

/-- The third result. -/
theorem lse_eq (hC : ∀ b, Csr (rpA m c) (colA m c) b) :
    ReferenceIdeal.Read.val_main_v61 (F := Ideal) (X3 m c) (X4 m c) (rpA m c) (colA m c) (X0 m c) (X1 m c) = lseM m c := by
  funext y
  rw [ValueIdx.eq_ix3 y]
  refine (ReferenceIdeal.Val.v61_at _ _ _ _ _ _ (y 0) (y 1) (y 2)).trans ?_
  exact congrArg₂ (· + ·) (M_eq m c (hC (y 0)) (y 1) (y 2)) (congrArg Ideal.log (L_eq m c (hC (y 0)) (y 1) (y 2)))

/-- The first result. -/
theorem out_eq (hC : ∀ b, Csr (rpA m c) (colA m c) b) :
    ReferenceIdeal.Read.val_main_v92 (F := Ideal) (X3 m c) (X4 m c) (X5 m c) (rpA m c) (colA m c) (X0 m c) (X1 m c) (X2 m c) = outM m c := by
  funext y
  rw [ValueIdx.eq_ix3 y]
  refine (ReferenceIdeal.Val.v92_at _ _ _ _ _ _ _ _ (y 0) (y 1) (y 2)).trans ?_
  exact O_eq m c (hC (y 0)) (y 1) _ _

/-- The second result. -/
theorem score_eq (hC : ∀ b, Csr (rpA m c) (colA m c) b) :
    ReferenceIdeal.Read.val_main_v34 (F := Ideal) (X3 m c) (X4 m c) (rpA m c) (colA m c) (X0 m c) (X1 m c) = scoreM m c := by
  funext y
  rw [ValueIdx.eq_ix3 y]
  refine (ReferenceIdeal.Val.v34_at _ _ _ _ _ _ (y 0) (y 1) (y 2)).trans ?_
  have hb := hC (y 0)
  show _ = gE _ _ _ (y 0) (ix3 0 (y 2) (y 1))
  unfold gE
  by_cases hl : (y 1).val < Pre_csr.rpA (rpA m c) (y 0) 128
  · have hx : ∃ r : Fin 128, rpM (rpA m c) (y 0) r.val ≤ (y 1).val ∧ (y 1).val < rpM (rpA m c) (y 0) (r.val + 1) := hb.row _ hl
    rw [live_of_lt hb hl]
    refine Eq.trans ?_ (dif_pos hx).symm
    refine (S_eq m c hb (e := y 1) hx.choose_spec (y 2)).trans ?_
    refine congrArg (score (inM m c (y 0)) (y 0) (y 2) hx.choose) ?_
    have hk := hb.col (y 1) hl
    rw [gi_small hk]
    refine Fin.ext ?_
    show _ = (colM (colA m c) (y 0) (y 1).val).toNat % 128
    rw [colM_eq m c (y 0) (y 1)]
    exact (Nat.mod_eq_of_lt hk).symm
  · rw [live_of_le hb hl]
    refine Eq.trans ?_ (dif_neg ?_).symm
    · rfl
    · rintro ⟨r, h1, h2⟩
      exact hl (lt_of_in hb (r := r) (e := y 1) ⟨h1, h2⟩)

end

end Cert.Equal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Gen.ReferenceIdeal.Run
public import proofs.«01_k».proof.Proof.Hand.FrameKernel
public import proofs.«01_k».proof.Proof.Hand.FrameKernelIdeal
public import proofs.«01_k».proof.Proof.Val.RefRun
public import proofs.«01_k».proof.Proof.Val.Equal
public import Idealize.ShloMosaic.Adequacy
public import Idealize.ShloMosaic.Init

@[expose] public section

noncomputable section

namespace Cert.Proof

open Idealize.ShloMosaic Idealize.SL.Sem

/-- From memories agreeing on the arguments, with rows and columns in compressed sparse row form, the kernel and the
    reference end with the same three results. -/
theorem algebraic : algebraic_KernelIdeal_ReferenceIdeal_pre_csr (hKernelIdeal := Cert.KernelIdeal.Gen.facts)
    (hReferenceIdeal := Cert.ReferenceIdeal.Gen.facts) (hPre_csr := Cert.Pre_csr.facts) := by
  intro m g m' g' hP hm
  letI := Cert.Pre_csr.facts
  have hC : ∀ c b, Cert.Pre_csr.Csr (Cert.KernelIdeal.Val.rpA m c) (Cert.KernelIdeal.Val.colA m c) b := fun c b =>
    Cert.Pre_csr.csr_of _ _ _ _ _ _ _ _ (hP c) b
  refine ⟨Cert.KernelIdeal.Val.outM m, Cert.KernelIdeal.Val.scoreM m, Cert.KernelIdeal.Val.lseM m,
    Cert.KernelIdeal.Val.run m g fun c b => Cert.Equal.rowsOk m c (hC c b), ?_⟩
  refine (θ_run _ _ _).mono (fun r h c => ?_) (Cert.ReferenceIdeal.Val.run m' g')
  obtain ⟨h1, h2, h3, h4⟩ := h c
  obtain ⟨e0, e1, e2, e3, e4, e5, e6, e7⟩ := hm c
  refine ⟨h1.trans ?_, h2.trans ?_, h3.trans ?_, h4⟩
  · rw [e0, e1, e2, e3, e4, e5, e6, e7]
    exact Cert.Equal.out_eq m c (hC c)
  · rw [e0, e1, e3, e4, e6, e7]
    exact Cert.Equal.score_eq m c (hC c)
  · rw [e0, e1, e3, e4, e6, e7]
    exact Cert.Equal.lse_eq m c (hC c)

theorem claim : Cert.Claim := ⟨Cert.Kernel.Gen.facts, Cert.KernelIdeal.Gen.facts, Cert.ReferenceIdeal.Gen.facts, Cert.Pre_csr.facts,
  fun m g _ => Cert.Kernel.Hand.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  IdealRules.bf16_pack.statement _,
  algebraic⟩

end Cert.Proof

end
